-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Routing (m : (ℓ : Loc Cert.Routing.nD Cert.Routing.τ Cert.Routing.sig) → Buf (Elt Bits) ℓ) : Prop :=
  True

def Pre_RoutingIdeal (m : (ℓ : Loc Cert.RoutingIdeal.nD Cert.RoutingIdeal.τ Cert.RoutingIdeal.sig) → Buf (Elt Ideal) ℓ) : Prop :=
  True

def Pre_RoutingIdeal_weights_finite [hPre_weights_finite : Cert.Pre_weights_finite.Facts] (m : (ℓ : Loc Cert.RoutingIdeal.nD Cert.RoutingIdeal.τ Cert.RoutingIdeal.sig) → Buf (Elt Ideal) ℓ) : Prop :=
  ∀ c : Dev Cert.RoutingIdeal.nD,
    (Cert.Pre_weights_finite.fn (F := Ideal) (m ((c.tc : Thread Cert.RoutingIdeal.nD Cert.RoutingIdeal.τ).loc Cert.RoutingIdeal.main_arg0)) (m ((c.tc : Thread Cert.RoutingIdeal.nD Cert.RoutingIdeal.τ).loc Cert.RoutingIdeal.main_arg1)) (m ((c.tc : Thread Cert.RoutingIdeal.nD Cert.RoutingIdeal.τ).loc Cert.RoutingIdeal.main_arg2)) (m ((c.tc : Thread Cert.RoutingIdeal.nD Cert.RoutingIdeal.τ).loc Cert.RoutingIdeal.main_arg3)) (m ((c.tc : Thread Cert.RoutingIdeal.nD Cert.RoutingIdeal.τ).loc Cert.RoutingIdeal.main_arg4)) (m ((c.tc : Thread Cert.RoutingIdeal.nD Cert.RoutingIdeal.τ).loc Cert.RoutingIdeal.main_arg5)) (m ((c.tc : Thread Cert.RoutingIdeal.nD Cert.RoutingIdeal.τ).loc Cert.RoutingIdeal.main_arg6))) = (fun _ => 1#1)

def Pre_RoutingReferenceIdeal (m : (ℓ : Loc Cert.RoutingReferenceIdeal.nD Cert.RoutingReferenceIdeal.τ Cert.RoutingReferenceIdeal.sig) → Buf (Elt Ideal) ℓ) : Prop :=
  True

def Pre_RoutingReferenceIdeal_weights_finite [hPre_weights_finite : Cert.Pre_weights_finite.Facts] (m : (ℓ : Loc Cert.RoutingReferenceIdeal.nD Cert.RoutingReferenceIdeal.τ Cert.RoutingReferenceIdeal.sig) → Buf (Elt Ideal) ℓ) : Prop :=
  ∀ c : Dev Cert.RoutingReferenceIdeal.nD,
    (Cert.Pre_weights_finite.fn (F := Ideal) (m ((c.tc : Thread Cert.RoutingReferenceIdeal.nD Cert.RoutingReferenceIdeal.τ).loc Cert.RoutingReferenceIdeal.main_arg0)) (m ((c.tc : Thread Cert.RoutingReferenceIdeal.nD Cert.RoutingReferenceIdeal.τ).loc Cert.RoutingReferenceIdeal.main_arg1)) (m ((c.tc : Thread Cert.RoutingReferenceIdeal.nD Cert.RoutingReferenceIdeal.τ).loc Cert.RoutingReferenceIdeal.main_arg2)) (m ((c.tc : Thread Cert.RoutingReferenceIdeal.nD Cert.RoutingReferenceIdeal.τ).loc Cert.RoutingReferenceIdeal.main_arg3)) (m ((c.tc : Thread Cert.RoutingReferenceIdeal.nD Cert.RoutingReferenceIdeal.τ).loc Cert.RoutingReferenceIdeal.main_arg4)) (m ((c.tc : Thread Cert.RoutingReferenceIdeal.nD Cert.RoutingReferenceIdeal.τ).loc Cert.RoutingReferenceIdeal.main_arg5)) (m ((c.tc : Thread Cert.RoutingReferenceIdeal.nD Cert.RoutingReferenceIdeal.τ).loc Cert.RoutingReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Routing [hRouting : Cert.Routing.Facts] : Prop :=
  ∀ (m : (ℓ : Loc Cert.Routing.nD Cert.Routing.τ Cert.Routing.sig) → Buf (Elt Bits) ℓ) (g : Dev Cert.Routing.nD → PrngReg), Pre_Routing m →
    θ_run (Cert.Routing.defs (F := Bits)) (onTc (τ := Cert.Routing.τ) (Cert.Routing.main (F := Bits))) ⟨m, fun _ => 0, g⟩ (fun r => (∀ c : Dev Cert.Routing.nD,
      r.2.mem ((c.tc : Thread Cert.Routing.nD Cert.Routing.τ).loc Cert.Routing.main_arg0) = m ((c.tc : Thread Cert.Routing.nD Cert.Routing.τ).loc Cert.Routing.main_arg0)
      ∧ r.2.mem ((c.tc : Thread Cert.Routing.nD Cert.Routing.τ).loc Cert.Routing.main_arg1) = m ((c.tc : Thread Cert.Routing.nD Cert.Routing.τ).loc Cert.Routing.main_arg1)
      ∧ r.2.mem ((c.tc : Thread Cert.Routing.nD Cert.Routing.τ).loc Cert.Routing.main_arg2) = m ((c.tc : Thread Cert.Routing.nD Cert.Routing.τ).loc Cert.Routing.main_arg2)
      ∧ r.2.mem ((c.tc : Thread Cert.Routing.nD Cert.Routing.τ).loc Cert.Routing.main_arg3) = m ((c.tc : Thread Cert.Routing.nD Cert.Routing.τ).loc Cert.Routing.main_arg3)
      ∧ r.2.mem ((c.tc : Thread Cert.Routing.nD Cert.Routing.τ).loc Cert.Routing.main_arg4) = m ((c.tc : Thread Cert.Routing.nD Cert.Routing.τ).loc Cert.Routing.main_arg4)
      ∧ r.2.mem ((c.tc : Thread Cert.Routing.nD Cert.Routing.τ).loc Cert.Routing.main_arg5) = m ((c.tc : Thread Cert.Routing.nD Cert.Routing.τ).loc Cert.Routing.main_arg5)
      ∧ r.2.mem ((c.tc : Thread Cert.Routing.nD Cert.Routing.τ).loc Cert.Routing.main_arg6) = m ((c.tc : Thread Cert.Routing.nD Cert.Routing.τ).loc Cert.Routing.main_arg6))
      ∧ r.2.sem = fun _ => 0)

def quiescent_RoutingIdeal [hRoutingIdeal : Cert.RoutingIdeal.Facts] : Prop :=
  ∀ (m : (ℓ : Loc Cert.RoutingIdeal.nD Cert.RoutingIdeal.τ Cert.RoutingIdeal.sig) → Buf (Elt Ideal) ℓ) (g : Dev Cert.RoutingIdeal.nD → PrngReg), Pre_RoutingIdeal m →
    θ_run (Cert.RoutingIdeal.defs (F := Ideal)) (onTc (τ := Cert.RoutingIdeal.τ) (Cert.RoutingIdeal.main (F := Ideal))) ⟨m, fun _ => 0, g⟩ (fun r => (∀ c : Dev Cert.RoutingIdeal.nD,
      r.2.mem ((c.tc : Thread Cert.RoutingIdeal.nD Cert.RoutingIdeal.τ).loc Cert.RoutingIdeal.main_arg0) = m ((c.tc : Thread Cert.RoutingIdeal.nD Cert.RoutingIdeal.τ).loc Cert.RoutingIdeal.main_arg0)
      ∧ r.2.mem ((c.tc : Thread Cert.RoutingIdeal.nD Cert.RoutingIdeal.τ).loc Cert.RoutingIdeal.main_arg1) = m ((c.tc : Thread Cert.RoutingIdeal.nD Cert.RoutingIdeal.τ).loc Cert.RoutingIdeal.main_arg1)
      ∧ r.2.mem ((c.tc : Thread Cert.RoutingIdeal.nD Cert.RoutingIdeal.τ).loc Cert.RoutingIdeal.main_arg2) = m ((c.tc : Thread Cert.RoutingIdeal.nD Cert.RoutingIdeal.τ).loc Cert.RoutingIdeal.main_arg2)
      ∧ r.2.mem ((c.tc : Thread Cert.RoutingIdeal.nD Cert.RoutingIdeal.τ).loc Cert.RoutingIdeal.main_arg3) = m ((c.tc : Thread Cert.RoutingIdeal.nD Cert.RoutingIdeal.τ).loc Cert.RoutingIdeal.main_arg3)
      ∧ r.2.mem ((c.tc : Thread Cert.RoutingIdeal.nD Cert.RoutingIdeal.τ).loc Cert.RoutingIdeal.main_arg4) = m ((c.tc : Thread Cert.RoutingIdeal.nD Cert.RoutingIdeal.τ).loc Cert.RoutingIdeal.main_arg4)
      ∧ r.2.mem ((c.tc : Thread Cert.RoutingIdeal.nD Cert.RoutingIdeal.τ).loc Cert.RoutingIdeal.main_arg5) = m ((c.tc : Thread Cert.RoutingIdeal.nD Cert.RoutingIdeal.τ).loc Cert.RoutingIdeal.main_arg5)
      ∧ r.2.mem ((c.tc : Thread Cert.RoutingIdeal.nD Cert.RoutingIdeal.τ).loc Cert.RoutingIdeal.main_arg6) = m ((c.tc : Thread Cert.RoutingIdeal.nD Cert.RoutingIdeal.τ).loc Cert.RoutingIdeal.main_arg6))
      ∧ r.2.sem = fun _ => 0)

def quiescent_RoutingIdeal_pre_weights_finite [hRoutingIdeal : Cert.RoutingIdeal.Facts] [hPre_weights_finite : Cert.Pre_weights_finite.Facts] : Prop :=
  ∀ (m : (ℓ : Loc Cert.RoutingIdeal.nD Cert.RoutingIdeal.τ Cert.RoutingIdeal.sig) → Buf (Elt Ideal) ℓ) (g : Dev Cert.RoutingIdeal.nD → PrngReg), Pre_RoutingIdeal_weights_finite m →
    θ_run (Cert.RoutingIdeal.defs (F := Ideal)) (onTc (τ := Cert.RoutingIdeal.τ) (Cert.RoutingIdeal.main (F := Ideal))) ⟨m, fun _ => 0, g⟩ (fun r => (∀ c : Dev Cert.RoutingIdeal.nD,
      r.2.mem ((c.tc : Thread Cert.RoutingIdeal.nD Cert.RoutingIdeal.τ).loc Cert.RoutingIdeal.main_arg0) = m ((c.tc : Thread Cert.RoutingIdeal.nD Cert.RoutingIdeal.τ).loc Cert.RoutingIdeal.main_arg0)
      ∧ r.2.mem ((c.tc : Thread Cert.RoutingIdeal.nD Cert.RoutingIdeal.τ).loc Cert.RoutingIdeal.main_arg1) = m ((c.tc : Thread Cert.RoutingIdeal.nD Cert.RoutingIdeal.τ).loc Cert.RoutingIdeal.main_arg1)
      ∧ r.2.mem ((c.tc : Thread Cert.RoutingIdeal.nD Cert.RoutingIdeal.τ).loc Cert.RoutingIdeal.main_arg2) = m ((c.tc : Thread Cert.RoutingIdeal.nD Cert.RoutingIdeal.τ).loc Cert.RoutingIdeal.main_arg2)
      ∧ r.2.mem ((c.tc : Thread Cert.RoutingIdeal.nD Cert.RoutingIdeal.τ).loc Cert.RoutingIdeal.main_arg3) = m ((c.tc : Thread Cert.RoutingIdeal.nD Cert.RoutingIdeal.τ).loc Cert.RoutingIdeal.main_arg3)
      ∧ r.2.mem ((c.tc : Thread Cert.RoutingIdeal.nD Cert.RoutingIdeal.τ).loc Cert.RoutingIdeal.main_arg4) = m ((c.tc : Thread Cert.RoutingIdeal.nD Cert.RoutingIdeal.τ).loc Cert.RoutingIdeal.main_arg4)
      ∧ r.2.mem ((c.tc : Thread Cert.RoutingIdeal.nD Cert.RoutingIdeal.τ).loc Cert.RoutingIdeal.main_arg5) = m ((c.tc : Thread Cert.RoutingIdeal.nD Cert.RoutingIdeal.τ).loc Cert.RoutingIdeal.main_arg5)
      ∧ r.2.mem ((c.tc : Thread Cert.RoutingIdeal.nD Cert.RoutingIdeal.τ).loc Cert.RoutingIdeal.main_arg6) = m ((c.tc : Thread Cert.RoutingIdeal.nD Cert.RoutingIdeal.τ).loc Cert.RoutingIdeal.main_arg6))
      ∧ r.2.sem = fun _ => 0)

def quiescent_RoutingReferenceIdeal [hRoutingReferenceIdeal : Cert.RoutingReferenceIdeal.Facts] : Prop :=
  ∀ (m : (ℓ : Loc Cert.RoutingReferenceIdeal.nD Cert.RoutingReferenceIdeal.τ Cert.RoutingReferenceIdeal.sig) → Buf (Elt Ideal) ℓ) (g : Dev Cert.RoutingReferenceIdeal.nD → PrngReg), Pre_RoutingReferenceIdeal m →
    θ_run (Cert.RoutingReferenceIdeal.defs (F := Ideal)) (onTc (τ := Cert.RoutingReferenceIdeal.τ) (Cert.RoutingReferenceIdeal.main (F := Ideal))) ⟨m, fun _ => 0, g⟩ (fun r => (∀ c : Dev Cert.RoutingReferenceIdeal.nD,
      r.2.mem ((c.tc : Thread Cert.RoutingReferenceIdeal.nD Cert.RoutingReferenceIdeal.τ).loc Cert.RoutingReferenceIdeal.main_arg0) = m ((c.tc : Thread Cert.RoutingReferenceIdeal.nD Cert.RoutingReferenceIdeal.τ).loc Cert.RoutingReferenceIdeal.main_arg0)
      ∧ r.2.mem ((c.tc : Thread Cert.RoutingReferenceIdeal.nD Cert.RoutingReferenceIdeal.τ).loc Cert.RoutingReferenceIdeal.main_arg1) = m ((c.tc : Thread Cert.RoutingReferenceIdeal.nD Cert.RoutingReferenceIdeal.τ).loc Cert.RoutingReferenceIdeal.main_arg1)
      ∧ r.2.mem ((c.tc : Thread Cert.RoutingReferenceIdeal.nD Cert.RoutingReferenceIdeal.τ).loc Cert.RoutingReferenceIdeal.main_arg2) = m ((c.tc : Thread Cert.RoutingReferenceIdeal.nD Cert.RoutingReferenceIdeal.τ).loc Cert.RoutingReferenceIdeal.main_arg2)
      ∧ r.2.mem ((c.tc : Thread Cert.RoutingReferenceIdeal.nD Cert.RoutingReferenceIdeal.τ).loc Cert.RoutingReferenceIdeal.main_arg3) = m ((c.tc : Thread Cert.RoutingReferenceIdeal.nD Cert.RoutingReferenceIdeal.τ).loc Cert.RoutingReferenceIdeal.main_arg3)
      ∧ r.2.mem ((c.tc : Thread Cert.RoutingReferenceIdeal.nD Cert.RoutingReferenceIdeal.τ).loc Cert.RoutingReferenceIdeal.main_arg4) = m ((c.tc : Thread Cert.RoutingReferenceIdeal.nD Cert.RoutingReferenceIdeal.τ).loc Cert.RoutingReferenceIdeal.main_arg4)
      ∧ r.2.mem ((c.tc : Thread Cert.RoutingReferenceIdeal.nD Cert.RoutingReferenceIdeal.τ).loc Cert.RoutingReferenceIdeal.main_arg5) = m ((c.tc : Thread Cert.RoutingReferenceIdeal.nD Cert.RoutingReferenceIdeal.τ).loc Cert.RoutingReferenceIdeal.main_arg5)
      ∧ r.2.mem ((c.tc : Thread Cert.RoutingReferenceIdeal.nD Cert.RoutingReferenceIdeal.τ).loc Cert.RoutingReferenceIdeal.main_arg6) = m ((c.tc : Thread Cert.RoutingReferenceIdeal.nD Cert.RoutingReferenceIdeal.τ).loc Cert.RoutingReferenceIdeal.main_arg6))
      ∧ r.2.sem = fun _ => 0)

def quiescent_RoutingReferenceIdeal_pre_weights_finite [hRoutingReferenceIdeal : Cert.RoutingReferenceIdeal.Facts] [hPre_weights_finite : Cert.Pre_weights_finite.Facts] : Prop :=
  ∀ (m : (ℓ : Loc Cert.RoutingReferenceIdeal.nD Cert.RoutingReferenceIdeal.τ Cert.RoutingReferenceIdeal.sig) → Buf (Elt Ideal) ℓ) (g : Dev Cert.RoutingReferenceIdeal.nD → PrngReg), Pre_RoutingReferenceIdeal_weights_finite m →
    θ_run (Cert.RoutingReferenceIdeal.defs (F := Ideal)) (onTc (τ := Cert.RoutingReferenceIdeal.τ) (Cert.RoutingReferenceIdeal.main (F := Ideal))) ⟨m, fun _ => 0, g⟩ (fun r => (∀ c : Dev Cert.RoutingReferenceIdeal.nD,
      r.2.mem ((c.tc : Thread Cert.RoutingReferenceIdeal.nD Cert.RoutingReferenceIdeal.τ).loc Cert.RoutingReferenceIdeal.main_arg0) = m ((c.tc : Thread Cert.RoutingReferenceIdeal.nD Cert.RoutingReferenceIdeal.τ).loc Cert.RoutingReferenceIdeal.main_arg0)
      ∧ r.2.mem ((c.tc : Thread Cert.RoutingReferenceIdeal.nD Cert.RoutingReferenceIdeal.τ).loc Cert.RoutingReferenceIdeal.main_arg1) = m ((c.tc : Thread Cert.RoutingReferenceIdeal.nD Cert.RoutingReferenceIdeal.τ).loc Cert.RoutingReferenceIdeal.main_arg1)
      ∧ r.2.mem ((c.tc : Thread Cert.RoutingReferenceIdeal.nD Cert.RoutingReferenceIdeal.τ).loc Cert.RoutingReferenceIdeal.main_arg2) = m ((c.tc : Thread Cert.RoutingReferenceIdeal.nD Cert.RoutingReferenceIdeal.τ).loc Cert.RoutingReferenceIdeal.main_arg2)
      ∧ r.2.mem ((c.tc : Thread Cert.RoutingReferenceIdeal.nD Cert.RoutingReferenceIdeal.τ).loc Cert.RoutingReferenceIdeal.main_arg3) = m ((c.tc : Thread Cert.RoutingReferenceIdeal.nD Cert.RoutingReferenceIdeal.τ).loc Cert.RoutingReferenceIdeal.main_arg3)
      ∧ r.2.mem ((c.tc : Thread Cert.RoutingReferenceIdeal.nD Cert.RoutingReferenceIdeal.τ).loc Cert.RoutingReferenceIdeal.main_arg4) = m ((c.tc : Thread Cert.RoutingReferenceIdeal.nD Cert.RoutingReferenceIdeal.τ).loc Cert.RoutingReferenceIdeal.main_arg4)
      ∧ r.2.mem ((c.tc : Thread Cert.RoutingReferenceIdeal.nD Cert.RoutingReferenceIdeal.τ).loc Cert.RoutingReferenceIdeal.main_arg5) = m ((c.tc : Thread Cert.RoutingReferenceIdeal.nD Cert.RoutingReferenceIdeal.τ).loc Cert.RoutingReferenceIdeal.main_arg5)
      ∧ r.2.mem ((c.tc : Thread Cert.RoutingReferenceIdeal.nD Cert.RoutingReferenceIdeal.τ).loc Cert.RoutingReferenceIdeal.main_arg6) = m ((c.tc : Thread Cert.RoutingReferenceIdeal.nD Cert.RoutingReferenceIdeal.τ).loc Cert.RoutingReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Routing_RoutingIdeal : Prop :=
  IdealRules.named_const.Statement Cert.RoutingIdeal.κ "inv_n" .f32 0x37A72F05#32 ((1 / 50176 : ℝ) : EReal)

def algebraic_RoutingIdeal_RoutingReferenceIdeal_pre_weights_finite [hRoutingIdeal : Cert.RoutingIdeal.Facts] [hRoutingReferenceIdeal : Cert.RoutingReferenceIdeal.Facts] [hPre_weights_finite : Cert.Pre_weights_finite.Facts] : Prop :=
  ∀ (m : (ℓ : Loc Cert.RoutingIdeal.nD Cert.RoutingIdeal.τ Cert.RoutingIdeal.sig) → Buf (Elt Ideal) ℓ) (g : Dev Cert.RoutingIdeal.nD → PrngReg)
    (m' : (ℓ : Loc Cert.RoutingReferenceIdeal.nD Cert.RoutingReferenceIdeal.τ Cert.RoutingReferenceIdeal.sig) → Buf (Elt Ideal) ℓ) (g' : Dev Cert.RoutingReferenceIdeal.nD → PrngReg), Pre_RoutingIdeal_weights_finite m →
    (∀ c : Dev Cert.RoutingIdeal.nD,
      m' ((c.tc : Thread Cert.RoutingReferenceIdeal.nD Cert.RoutingReferenceIdeal.τ).loc Cert.RoutingReferenceIdeal.main_arg0) = m ((c.tc : Thread Cert.RoutingIdeal.nD Cert.RoutingIdeal.τ).loc Cert.RoutingIdeal.main_arg0)
      ∧ m' ((c.tc : Thread Cert.RoutingReferenceIdeal.nD Cert.RoutingReferenceIdeal.τ).loc Cert.RoutingReferenceIdeal.main_arg1) = m ((c.tc : Thread Cert.RoutingIdeal.nD Cert.RoutingIdeal.τ).loc Cert.RoutingIdeal.main_arg1)
      ∧ m' ((c.tc : Thread Cert.RoutingReferenceIdeal.nD Cert.RoutingReferenceIdeal.τ).loc Cert.RoutingReferenceIdeal.main_arg2) = m ((c.tc : Thread Cert.RoutingIdeal.nD Cert.RoutingIdeal.τ).loc Cert.RoutingIdeal.main_arg2)
      ∧ m' ((c.tc : Thread Cert.RoutingReferenceIdeal.nD Cert.RoutingReferenceIdeal.τ).loc Cert.RoutingReferenceIdeal.main_arg3) = m ((c.tc : Thread Cert.RoutingIdeal.nD Cert.RoutingIdeal.τ).loc Cert.RoutingIdeal.main_arg3)
      ∧ m' ((c.tc : Thread Cert.RoutingReferenceIdeal.nD Cert.RoutingReferenceIdeal.τ).loc Cert.RoutingReferenceIdeal.main_arg4) = m ((c.tc : Thread Cert.RoutingIdeal.nD Cert.RoutingIdeal.τ).loc Cert.RoutingIdeal.main_arg4)
      ∧ m' ((c.tc : Thread Cert.RoutingReferenceIdeal.nD Cert.RoutingReferenceIdeal.τ).loc Cert.RoutingReferenceIdeal.main_arg5) = m ((c.tc : Thread Cert.RoutingIdeal.nD Cert.RoutingIdeal.τ).loc Cert.RoutingIdeal.main_arg5)
      ∧ m' ((c.tc : Thread Cert.RoutingReferenceIdeal.nD Cert.RoutingReferenceIdeal.τ).loc Cert.RoutingReferenceIdeal.main_arg6) = m ((c.tc : Thread Cert.RoutingIdeal.nD Cert.RoutingIdeal.τ).loc Cert.RoutingIdeal.main_arg6)) →
    ∃ (v0 : (c : Dev Cert.RoutingIdeal.nD) → Buf (Elt Ideal) ((c.tc : Thread Cert.RoutingIdeal.nD Cert.RoutingIdeal.τ).loc Cert.RoutingIdeal.main_v14_0)) (v1 : (c : Dev Cert.RoutingIdeal.nD) → Buf (Elt Ideal) ((c.tc : Thread Cert.RoutingIdeal.nD Cert.RoutingIdeal.τ).loc Cert.RoutingIdeal.main_v14_1)),
      θ_run (Cert.RoutingIdeal.defs (F := Ideal)) (onTc (τ := Cert.RoutingIdeal.τ) (Cert.RoutingIdeal.main (F := Ideal))) ⟨m, fun _ => 0, g⟩ (fun r => ∀ c : Dev Cert.RoutingIdeal.nD,
          r.2.mem ((c.tc : Thread Cert.RoutingIdeal.nD Cert.RoutingIdeal.τ).loc Cert.RoutingIdeal.main_v14_0) = v0 c
          ∧ r.2.mem ((c.tc : Thread Cert.RoutingIdeal.nD Cert.RoutingIdeal.τ).loc Cert.RoutingIdeal.main_v14_1) = v1 c
          ∧ r.2.mem ((c.tc : Thread Cert.RoutingIdeal.nD Cert.RoutingIdeal.τ).loc Cert.RoutingIdeal.main_arg0) = m ((c.tc : Thread Cert.RoutingIdeal.nD Cert.RoutingIdeal.τ).loc Cert.RoutingIdeal.main_arg0)
          ∧ r.2.mem ((c.tc : Thread Cert.RoutingIdeal.nD Cert.RoutingIdeal.τ).loc Cert.RoutingIdeal.main_arg1) = m ((c.tc : Thread Cert.RoutingIdeal.nD Cert.RoutingIdeal.τ).loc Cert.RoutingIdeal.main_arg1)
          ∧ r.2.mem ((c.tc : Thread Cert.RoutingIdeal.nD Cert.RoutingIdeal.τ).loc Cert.RoutingIdeal.main_arg2) = m ((c.tc : Thread Cert.RoutingIdeal.nD Cert.RoutingIdeal.τ).loc Cert.RoutingIdeal.main_arg2)
          ∧ r.2.mem ((c.tc : Thread Cert.RoutingIdeal.nD Cert.RoutingIdeal.τ).loc Cert.RoutingIdeal.main_arg3) = m ((c.tc : Thread Cert.RoutingIdeal.nD Cert.RoutingIdeal.τ).loc Cert.RoutingIdeal.main_arg3)
          ∧ r.2.mem ((c.tc : Thread Cert.RoutingIdeal.nD Cert.RoutingIdeal.τ).loc Cert.RoutingIdeal.main_arg4) = m ((c.tc : Thread Cert.RoutingIdeal.nD Cert.RoutingIdeal.τ).loc Cert.RoutingIdeal.main_arg4)
          ∧ r.2.mem ((c.tc : Thread Cert.RoutingIdeal.nD Cert.RoutingIdeal.τ).loc Cert.RoutingIdeal.main_arg5) = m ((c.tc : Thread Cert.RoutingIdeal.nD Cert.RoutingIdeal.τ).loc Cert.RoutingIdeal.main_arg5)
          ∧ r.2.mem ((c.tc : Thread Cert.RoutingIdeal.nD Cert.RoutingIdeal.τ).loc Cert.RoutingIdeal.main_arg6) = m ((c.tc : Thread Cert.RoutingIdeal.nD Cert.RoutingIdeal.τ).loc Cert.RoutingIdeal.main_arg6))
      ∧ θ_run (Cert.RoutingReferenceIdeal.defs (F := Ideal)) (onTc (τ := Cert.RoutingReferenceIdeal.τ) (Cert.RoutingReferenceIdeal.main (F := Ideal))) ⟨m', fun _ => 0, g'⟩ (fun r => ∀ c : Dev Cert.RoutingReferenceIdeal.nD,
          r.2.mem ((c.tc : Thread Cert.RoutingReferenceIdeal.nD Cert.RoutingReferenceIdeal.τ).loc Cert.RoutingReferenceIdeal.main_indices) = v0 c
          ∧ r.2.mem ((c.tc : Thread Cert.RoutingReferenceIdeal.nD Cert.RoutingReferenceIdeal.τ).loc Cert.RoutingReferenceIdeal.main_v50) = v1 c
          ∧ r.2.mem ((c.tc : Thread Cert.RoutingReferenceIdeal.nD Cert.RoutingReferenceIdeal.τ).loc Cert.RoutingReferenceIdeal.main_arg0) = m' ((c.tc : Thread Cert.RoutingReferenceIdeal.nD Cert.RoutingReferenceIdeal.τ).loc Cert.RoutingReferenceIdeal.main_arg0)
          ∧ r.2.mem ((c.tc : Thread Cert.RoutingReferenceIdeal.nD Cert.RoutingReferenceIdeal.τ).loc Cert.RoutingReferenceIdeal.main_arg1) = m' ((c.tc : Thread Cert.RoutingReferenceIdeal.nD Cert.RoutingReferenceIdeal.τ).loc Cert.RoutingReferenceIdeal.main_arg1)
          ∧ r.2.mem ((c.tc : Thread Cert.RoutingReferenceIdeal.nD Cert.RoutingReferenceIdeal.τ).loc Cert.RoutingReferenceIdeal.main_arg2) = m' ((c.tc : Thread Cert.RoutingReferenceIdeal.nD Cert.RoutingReferenceIdeal.τ).loc Cert.RoutingReferenceIdeal.main_arg2)
          ∧ r.2.mem ((c.tc : Thread Cert.RoutingReferenceIdeal.nD Cert.RoutingReferenceIdeal.τ).loc Cert.RoutingReferenceIdeal.main_arg3) = m' ((c.tc : Thread Cert.RoutingReferenceIdeal.nD Cert.RoutingReferenceIdeal.τ).loc Cert.RoutingReferenceIdeal.main_arg3)
          ∧ r.2.mem ((c.tc : Thread Cert.RoutingReferenceIdeal.nD Cert.RoutingReferenceIdeal.τ).loc Cert.RoutingReferenceIdeal.main_arg4) = m' ((c.tc : Thread Cert.RoutingReferenceIdeal.nD Cert.RoutingReferenceIdeal.τ).loc Cert.RoutingReferenceIdeal.main_arg4)
          ∧ r.2.mem ((c.tc : Thread Cert.RoutingReferenceIdeal.nD Cert.RoutingReferenceIdeal.τ).loc Cert.RoutingReferenceIdeal.main_arg5) = m' ((c.tc : Thread Cert.RoutingReferenceIdeal.nD Cert.RoutingReferenceIdeal.τ).loc Cert.RoutingReferenceIdeal.main_arg5)
          ∧ r.2.mem ((c.tc : Thread Cert.RoutingReferenceIdeal.nD Cert.RoutingReferenceIdeal.τ).loc Cert.RoutingReferenceIdeal.main_arg6) = m' ((c.tc : Thread Cert.RoutingReferenceIdeal.nD Cert.RoutingReferenceIdeal.τ).loc Cert.RoutingReferenceIdeal.main_arg6))

def Claim : Prop :=
  ∃ (hKernel : Cert.Kernel.Facts) (hKernelIdeal : Cert.KernelIdeal.Facts) (hReferenceIdeal : Cert.ReferenceIdeal.Facts) (hRouting : Cert.Routing.Facts) (hRoutingIdeal : Cert.RoutingIdeal.Facts) (hRoutingReferenceIdeal : Cert.RoutingReferenceIdeal.Facts) (hPre_in_range : Cert.Pre_in_range.Facts) (hPre_finite : Cert.Pre_finite.Facts) (hPre_weights_finite : Cert.Pre_weights_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Routing (hRouting := hRouting)
    ∧ quiescent_RoutingIdeal (hRoutingIdeal := hRoutingIdeal)
    ∧ quiescent_RoutingIdeal_pre_weights_finite (hRoutingIdeal := hRoutingIdeal) (hPre_weights_finite := hPre_weights_finite)
    ∧ quiescent_RoutingReferenceIdeal (hRoutingReferenceIdeal := hRoutingReferenceIdeal)
    ∧ quiescent_RoutingReferenceIdeal_pre_weights_finite (hRoutingReferenceIdeal := hRoutingReferenceIdeal) (hPre_weights_finite := hPre_weights_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Routing_RoutingIdeal
    ∧ algebraic_RoutingIdeal_RoutingReferenceIdeal_pre_weights_finite (hRoutingIdeal := hRoutingIdeal) (hRoutingReferenceIdeal := hRoutingReferenceIdeal) (hPre_weights_finite := hPre_weights_finite)
-- ==== Pre_finite.lean ====
abbrev S2x96x224x224 : Shape := ⟨4, ![2, 96, 224, 224]⟩
abbrev S2x2 : Shape := ⟨2, ![2, 2]⟩
abbrev S8x48x96x3x3 : Shape := ⟨5, ![8, 48, 96, 3, 3]⟩
abbrev S8x48 : Shape := ⟨2, ![8, 48]⟩
abbrev S8x48x1x3x3 : Shape := ⟨5, ![8, 48, 1, 3, 3]⟩
abbrev S_ : Shape := ⟨0, ![]⟩

class Facts : Prop where
  bcast_S_S2x2 : S_.BroadcastsInDim S2x2 (![] : Fin 0 → Fin S2x2.rank)
  reducesTo_S2x2_S_d0_1 : S2x2.ReducesTo [0, 1] S_
  h_S_ : 0 < S_.numel
  bcast_S_S2x96x224x224 : S_.BroadcastsInDim S2x96x224x224 (![] : Fin 0 → Fin S2x96x224x224.rank)
  reducesTo_S2x96x224x224_S_d0_1_2_3 : S2x96x224x224.ReducesTo [0, 1, 2, 3] S_
  bcast_S_S8x48x96x3x3 : S_.BroadcastsInDim S8x48x96x3x3 (![] : Fin 0 → Fin S8x48x96x3x3.rank)
  reducesTo_S8x48x96x3x3_S_d0_1_2_3_4 : S8x48x96x3x3.ReducesTo [0, 1, 2, 3, 4] S_
  bcast_S_S8x48 : S_.BroadcastsInDim S8x48 (![] : Fin 0 → Fin S8x48.rank)
  reducesTo_S8x48_S_d0_1 : S8x48.ReducesTo [0, 1] S_
  bcast_S_S8x48x1x3x3 : S_.BroadcastsInDim S8x48x1x3x3 (![] : Fin 0 → Fin S8x48x1x3x3.rank)
  reducesTo_S8x48x1x3x3_S_d0_1_2_3_4 : S8x48x1x3x3.ReducesTo [0, 1, 2, 3, 4] S_

variable [Facts]

def fn_part2 {F : FTy → Type} [FloatOps F] (main_v30 : IVec S_ 1) (main_v33 : IVec S8x48 1) : IVec S_ 1 :=
  let main_c_12 : IVec S_ 1 := constantI S_ 1 1#1
  let main_v34 : IVec S_ 1 := (fun x v => Host.reduce IntOp.andi x v reducesTo_S8x48_S_d0_1 h_S_) main_v33 main_c_12
  let main_v35 : IVec S_ 1 := andi main_v30 main_v34
  main_v35

def fn_part1 {F : FTy → Type} [FloatOps F] (main_arg5 : FVec F S8x48 .f32) (main_arg6 : FVec F S8x48x1x3x3 .f32) (main_arg7 : FVec F S8x48 .f32) (main_v15 : IVec S_ 1) (main_v16 : FVec F S8x48 .f32) : IVec S_ 1 :=
  let main_cst_5 : FVec F S_ .f32 := constant S_ .f32 0x7F800000#32
  let main_v17 : FVec F S8x48 .f32 := broadcastInDim S8x48 ![] bcast_S_S8x48 main_cst_5
  let main_v18 : IVec S8x48 1 := cmpf .olt main_v16 main_v17
  let main_c_6 : IVec S_ 1 := constantI S_ 1 1#1
  let main_v19 : IVec S_ 1 := (fun x v => Host.reduce IntOp.andi x v reducesTo_S8x48_S_d0_1 h_S_) main_v18 main_c_6
  let main_v20 : IVec S_ 1 := andi main_v15 main_v19
  let main_v21 : FVec F S8x48 .f32 := Host.absf main_arg5
  let main_cst_7 : FVec F S_ .f32 := constant S_ .f32 0x7F800000#32
  let main_v22 : FVec F S8x48 .f32 := broadcastInDim S8x48 ![] bcast_S_S8x48 main_cst_7
  let main_v23 : IVec S8x48 1 := cmpf .olt main_v21 main_v22
  let main_c_8 : IVec S_ 1 := constantI S_ 1 1#1
  let main_v24 : IVec S_ 1 := (fun x v => Host.reduce IntOp.andi x v reducesTo_S8x48_S_d0_1 h_S_) main_v23 main_c_8
  let main_v25 : IVec S_ 1 := andi main_v20 main_v24
  let main_v26 : FVec F S8x48x1x3x3 .f32 := Host.absf main_arg6
  let main_cst_9 : FVec F S_ .f32 := constant S_ .f32 0x7F800000#32
  let main_v27 : FVec F S8x48x1x3x3 .f32 := broadcastInDim S8x48x1x3x3 ![] bcast_S_S8x48x1x3x3 main_cst_9
  let main_v28 : IVec S8x48x1x3x3 1 := cmpf .olt main_v26 main_v27
  let main_c_10 : IVec S_ 1 := constantI S_ 1 1#1
  let main_v29 : IVec S_ 1 := (fun x v => Host.reduce IntOp.andi x v reducesTo_S8x48x1x3x3_S_d0_1_2_3_4 h_S_) main_v28 main_c_10
  let main_v30 : IVec S_ 1 := andi main_v25 main_v29
  let main_v31 : FVec F S8x48 .f32 := Host.absf main_arg7
  let main_cst_11 : FVec F S_ .f32 := constant S_ .f32 0x7F800000#32
  let main_v32 : FVec F S8x48 .f32 := broadcastInDim S8x48 ![] bcast_S_S8x48 main_cst_11
  let main_v33 : IVec S8x48 1 := cmpf .olt main_v31 main_v32
  fn_part2 (F := F) main_v30 main_v33

def fn {F : FTy → Type} [FloatOps F] (main_arg0 : FVec F S2x96x224x224 .f32) (main_arg1 : IVec S2x2 32) (main_arg2 : FVec F S2x2 .f32) (main_arg3 : FVec F S8x48x96x3x3 .f32) (main_arg4 : FVec F S8x48 .f32) (main_arg5 : FVec F S8x48 .f32) (main_arg6 : FVec F S8x48x1x3x3 .f32) (main_arg7 : FVec F S8x48 .f32) (main_arg8 : FVec F S8x48 .f32) : IVec S_ 1 :=
  let main_c : IVec S_ 32 := constantI S_ 32 0#32
  let main_v0 : IVec S2x2 32 := broadcastInDim S2x2 ![] bcast_S_S2x2 main_c
  let main_v1 : IVec S2x2 1 := cmpi .sge main_arg1 main_v0
  let main_c_0 : IVec S_ 32 := constantI S_ 32 8#32
  let main_v2 : IVec S2x2 32 := broadcastInDim S2x2 ![] bcast_S_S2x2 main_c_0
  let main_v3 : IVec S2x2 1 := cmpi .slt main_arg1 main_v2
  let main_v4 : IVec S2x2 1 := andi main_v1 main_v3
  let main_c_1 : IVec S_ 1 := constantI S_ 1 1#1
  let main_v5 : IVec S_ 1 := (fun x v => Host.reduce IntOp.andi x v reducesTo_S2x2_S_d0_1 h_S_) main_v4 main_c_1
  let main_v6 : FVec F S2x96x224x224 .f32 := Host.absf main_arg0
  let main_cst : FVec F S_ .f32 := constant S_ .f32 0x7F800000#32
  let main_v7 : FVec F S2x96x224x224 .f32 := broadcastInDim S2x96x224x224 ![] bcast_S_S2x96x224x224 main_cst
  let main_v8 : IVec S2x96x224x224 1 := cmpf .olt main_v6 main_v7
  let main_c_2 : IVec S_ 1 := constantI S_ 1 1#1
  let main_v9 : IVec S_ 1 := (fun x v => Host.reduce IntOp.andi x v reducesTo_S2x96x224x224_S_d0_1_2_3 h_S_) main_v8 main_c_2
  let main_v10 : IVec S_ 1 := andi main_v5 main_v9
  let main_v11 : FVec F S8x48x96x3x3 .f32 := Host.absf main_arg3
  let main_cst_3 : FVec F S_ .f32 := constant S_ .f32 0x7F800000#32
  let main_v12 : FVec F S8x48x96x3x3 .f32 := broadcastInDim S8x48x96x3x3 ![] bcast_S_S8x48x96x3x3 main_cst_3
  let main_v13 : IVec S8x48x96x3x3 1 := cmpf .olt main_v11 main_v12
  let main_c_4 : IVec S_ 1 := constantI S_ 1 1#1
  let main_v14 : IVec S_ 1 := (fun x v => Host.reduce IntOp.andi x v reducesTo_S8x48x96x3x3_S_d0_1_2_3_4 h_S_) main_v13 main_c_4
  let main_v15 : IVec S_ 1 := andi main_v10 main_v14
  let main_v16 : FVec F S8x48 .f32 := Host.absf main_arg4
  fn_part1 (F := F) main_arg5 main_arg6 main_arg7 main_v15 main_v16
-- ==== Pre_in_range.lean ====
abbrev S2x96x224x224 : Shape := ⟨4, ![2, 96, 224, 224]⟩
abbrev S2x2 : Shape := ⟨2, ![2, 2]⟩
abbrev S8x48x96x3x3 : Shape := ⟨5, ![8, 48, 96, 3, 3]⟩
abbrev S8x48 : Shape := ⟨2, ![8, 48]⟩
abbrev S8x48x1x3x3 : Shape := ⟨5, ![8, 48, 1, 3, 3]⟩
abbrev S_ : Shape := ⟨0, ![]⟩

class Facts : Prop where
  bcast_S_S2x2 : S_.BroadcastsInDim S2x2 (![] : Fin 0 → Fin S2x2.rank)
  reducesTo_S2x2_S_d0_1 : S2x2.ReducesTo [0, 1] S_
  h_S_ : 0 < S_.numel

variable [Facts]

def fn {F : FTy → Type} [FloatOps F] (main_arg0 : FVec F S2x96x224x224 .f32) (main_arg1 : IVec S2x2 32) (main_arg2 : FVec F S2x2 .f32) (main_arg3 : FVec F S8x48x96x3x3 .f32) (main_arg4 : FVec F S8x48 .f32) (main_arg5 : FVec F S8x48 .f32) (main_arg6 : FVec F S8x48x1x3x3 .f32) (main_arg7 : FVec F S8x48 .f32) (main_arg8 : FVec F S8x48 .f32) : IVec S_ 1 :=
  let main_c : IVec S_ 32 := constantI S_ 32 0#32
  let main_v0 : IVec S2x2 32 := broadcastInDim S2x2 ![] bcast_S_S2x2 main_c
  let main_v1 : IVec S2x2 1 := cmpi .sge main_arg1 main_v0
  let main_c_0 : IVec S_ 32 := constantI S_ 32 8#32
  let main_v2 : IVec S2x2 32 := broadcastInDim S2x2 ![] bcast_S_S2x2 main_c_0
  let main_v3 : IVec S2x2 1 := cmpi .slt main_arg1 main_v2
  let main_v4 : IVec S2x2 1 := andi main_v1 main_v3
  let main_c_1 : IVec S_ 1 := constantI S_ 1 1#1
  let main_v5 : IVec S_ 1 := (fun x v => Host.reduce IntOp.andi x v reducesTo_S2x2_S_d0_1 h_S_) main_v4 main_c_1
  main_v5
-- ==== Pre_weights_finite.lean ====
abbrev S2x96x224x224 : Shape := ⟨4, ![2, 96, 224, 224]⟩
abbrev S12x96 : Shape := ⟨2, ![12, 96]⟩
abbrev S12 : Shape := ⟨1, ![12]⟩
abbrev S8x12 : Shape := ⟨2, ![8, 12]⟩
abbrev S8 : Shape := ⟨1, ![8]⟩
abbrev S_ : Shape := ⟨0, ![]⟩

class Facts : Prop where
  bcast_S_S2x96x224x224 : S_.BroadcastsInDim S2x96x224x224 (![] : Fin 0 → Fin S2x96x224x224.rank)
  reducesTo_S2x96x224x224_S_d0_1_2_3 : S2x96x224x224.ReducesTo [0, 1, 2, 3] S_
  h_S_ : 0 < S_.numel
  bcast_S_S12x96 : S_.BroadcastsInDim S12x96 (![] : Fin 0 → Fin S12x96.rank)
  reducesTo_S12x96_S_d0_1 : S12x96.ReducesTo [0, 1] S_
  bcast_S_S12 : S_.BroadcastsInDim S12 (![] : Fin 0 → Fin S12.rank)
  reducesTo_S12_S_d0 : S12.ReducesTo [0] S_
  bcast_S_S8x12 : S_.BroadcastsInDim S8x12 (![] : Fin 0 → Fin S8x12.rank)
  reducesTo_S8x12_S_d0_1 : S8x12.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8x12 .f32) (main_arg5 : FVec F S8 .f32) (main_arg6 : FVec F S8 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S8x12 .f32 := Host.absf main_arg4
  let main_cst_6 : FVec F S_ .f32 := constant S_ .f32 0x7F800000#32
  let main_v20 : FVec F S8x12 .f32 := broadcastInDim S8x12 ![] bcast_S_S8x12 main_cst_6
  let main_v21 : IVec S8x12 1 := cmpf .olt main_v19 main_v20
  let main_c_7 : IVec S_ 1 := constantI S_ 1 1#1
  let main_v22 : IVec S_ 1 := (fun x v => Host.reduce IntOp.andi x v reducesTo_S8x12_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S2x96x224x224 .f32) (main_arg1 : FVec F S12x96 .f32) (main_arg2 : FVec F S12 .f32) (main_arg3 : FVec F S12 .f32) (main_arg4 : FVec F S8x12 .f32) (main_arg5 : FVec F S8 .f32) (main_arg6 : FVec F S8 .f32) : IVec S_ 1 :=
  let main_v0 : FVec F S2x96x224x224 .f32 := Host.absf main_arg0
  let main_cst : FVec F S_ .f32 := constant S_ .f32 0x7F800000#32
  let main_v1 : FVec F S2x96x224x224 .f32 := broadcastInDim S2x96x224x224 ![] bcast_S_S2x96x224x224 main_cst
  let main_v2 : IVec S2x96x224x224 1 := cmpf .olt main_v0 main_v1
  let main_c : IVec S_ 1 := constantI S_ 1 1#1
  let main_v3 : IVec S_ 1 := (fun x v => Host.reduce IntOp.andi x v reducesTo_S2x96x224x224_S_d0_1_2_3 h_S_) main_v2 main_c
  let main_v4 : FVec F S12x96 .f32 := Host.absf main_arg1
  let main_cst_0 : FVec F S_ .f32 := constant S_ .f32 0x7F800000#32
  let main_v5 : FVec F S12x96 .f32 := broadcastInDim S12x96 ![] bcast_S_S12x96 main_cst_0
  let main_v6 : IVec S12x96 1 := cmpf .olt main_v4 main_v5
  let main_c_1 : IVec S_ 1 := constantI S_ 1 1#1
  let main_v7 : IVec S_ 1 := (fun x v => Host.reduce IntOp.andi x v reducesTo_S12x96_S_d0_1 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_arg5 main_arg6 main_v13 main_v16
-- ==== Kernel.lean ====
abbrev S2x96x224x224 : Shape := ⟨4, ![2, 96, 224, 224]⟩
abbrev S2x2 : Shape := ⟨2, ![2, 2]⟩
abbrev S8x48x96x3x3 : Shape := ⟨5, ![8, 48, 96, 3, 3]⟩
abbrev S8x48 : Shape := ⟨2, ![8, 48]⟩
abbrev S8x48x1x3x3 : Shape := ⟨5, ![8, 48, 1, 3, 3]⟩
abbrev S_ : Shape := ⟨0, ![]⟩
abbrev S8x48x1x1x1 : Shape := ⟨5, ![8, 48, 1, 1, 1]⟩
abbrev S8x3x3x48x96 : Shape := ⟨5, ![8, 3, 3, 48, 96]⟩
abbrev S8x9x48x96 : Shape := ⟨4, ![8, 9, 48, 96]⟩
abbrev S8x48x3x3 : Shape := ⟨4, ![8, 48, 3, 3]⟩
abbrev S8x48x1x1 : Shape := ⟨4, ![8, 48, 1, 1]⟩
abbrev S8x48x9 : Shape := ⟨3, ![8, 48, 9]⟩
abbrev S8x48x1 : Shape := ⟨3, ![8, 48, 1]⟩
abbrev S1x96x56x224 : Shape := ⟨4, ![1, 96, 56, 224]⟩
abbrev S1x96x8x224 : Shape := ⟨4, ![1, 96, 8, 224]⟩
abbrev S96x15360 : Shape := ⟨2, ![96, 15360]⟩
abbrev S96x14848 : Shape := ⟨2, ![96, 14848]⟩
abbrev S96x14336 : Shape := ⟨2, ![96, 14336]⟩
abbrev S1x14848 : Shape := ⟨2, ![1, 14848]⟩
abbrev S3x288x96 : Shape := ⟨3, ![3, 288, 96]⟩
abbrev S96x9 : Shape := ⟨2, ![96, 9]⟩
abbrev S96x1 : Shape := ⟨2, ![96, 1]⟩
abbrev S1x1 : Shape := ⟨2, ![1, 1]⟩
abbrev S1x1x48x96 : Shape := ⟨4, ![1, 1, 48, 96]⟩
abbrev S48x96 : Shape := ⟨2, ![48, 96]⟩
abbrev S96x96 : Shape := ⟨2, ![96, 96]⟩
abbrev S288x96 : Shape := ⟨2, ![288, 96]⟩
abbrev S1x288x96 : Shape := ⟨3, ![1, 288, 96]⟩
abbrev S1x48x9 : Shape := ⟨3, ![1, 48, 9]⟩
abbrev S48x9 : Shape := ⟨2, ![48, 9]⟩
abbrev S1x48x1 : Shape := ⟨3, ![1, 48, 1]⟩
abbrev S48x1 : Shape := ⟨2, ![48, 1]⟩
abbrev S1x96x1x224 : Shape := ⟨4, ![1, 96, 1, 224]⟩
abbrev S96x224 : Shape := ⟨2, ![96, 224]⟩
abbrev S288x14848 : Shape := ⟨2, ![288, 14848]⟩
abbrev S96x14847 : Shape := ⟨2, ![96, 14847]⟩
abbrev S96x256 : Shape := ⟨2, ![96, 256]⟩
abbrev S96 : Shape := ⟨1, ![96]⟩
abbrev S96x14335 : Shape := ⟨2, ![96, 14335]⟩
abbrev S48x14336 : Shape := ⟨2, ![48, 14336]⟩

abbrev nBuf : Space → Nat
  | .hbm => 32
  | .vmem => 20
  | .smem => 2
  | _ => 0

abbrev bufTy : (tb : Table) → Fin (tcTables nBuf tb) → BufTy
  | .hbm, ⟨0, _⟩ => ⟨S2x96x224x224, .f32⟩
  | .hbm, ⟨1, _⟩ => ⟨S2x2, .i32⟩
  | .hbm, ⟨2, _⟩ => ⟨S2x2, .f32⟩
  | .hbm, ⟨3, _⟩ => ⟨S8x48x96x3x3, .f32⟩
  | .hbm, ⟨4, _⟩ => ⟨S8x48, .f32⟩
  | .hbm, ⟨5, _⟩ => ⟨S8x48, .f32⟩
  | .hbm, ⟨6, _⟩ => ⟨S8x48x1x3x3, .f32⟩
  | .hbm, ⟨7, _⟩ => ⟨S8x48, .f32⟩
  | .hbm, ⟨8, _⟩ => ⟨S8x48, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x48, .f32⟩
  | .hbm, ⟨15, _⟩ => ⟨S8x48, .f32⟩
  | .hbm, ⟨16, _⟩ => ⟨S8x48x1x1x1, .f32⟩
  | .hbm, ⟨17, _⟩ => ⟨S8x48x96x3x3, .f32⟩
  | .hbm, ⟨18, _⟩ => ⟨S8x48x96x3x3, .f32⟩
  | .hbm, ⟨19, _⟩ => ⟨S8x3x3x48x96, .f32⟩
  | .hbm, ⟨20, _⟩ => ⟨S8x9x48x96, .f32⟩
  | .hbm, ⟨21, _⟩ => ⟨S_, .f32⟩
  | .hbm, ⟨22, _⟩ => ⟨S8x48, .f32⟩
  | .hbm, ⟨23, _⟩ => ⟨S8x48, .f32⟩
  | .hbm, ⟨24, _⟩ => ⟨S8x48x3x3, .f32⟩
  | .hbm, ⟨25, _⟩ => ⟨S8x48x1x1, .f32⟩
  | .hbm, ⟨26, _⟩ => ⟨S8x48x3x3, .f32⟩
  | .hbm, ⟨27, _⟩ => ⟨S8x48x3x3, .f32⟩
  | .hbm, ⟨28, _⟩ => ⟨S8x48x9, .f32⟩
  | .hbm, ⟨29, _⟩ => ⟨S8x48x1, .f32⟩
  | .hbm, ⟨30, _⟩ => ⟨S8x48x1, .f32⟩
  | .hbm, ⟨31, _⟩ => ⟨S2x96x224x224, .f32⟩
  | .local _ .vmem, ⟨0, _⟩ => ⟨S1x96x56x224, .f32⟩
  | .local _ .vmem, ⟨1, _⟩ => ⟨S1x96x56x224, .f32⟩
  | .local _ .vmem, ⟨2, _⟩ => ⟨S1x96x8x224, .f32⟩
  | .local _ .vmem, ⟨3, _⟩ => ⟨S1x96x8x224, .f32⟩
  | .local _ .vmem, ⟨4, _⟩ => ⟨S1x96x8x224, .f32⟩
  | .local _ .vmem, ⟨5, _⟩ => ⟨S1x96x8x224, .f32⟩
  | .local _ .vmem, ⟨6, _⟩ => ⟨S8x9x48x96, .f32⟩
  | .local _ .vmem, ⟨7, _⟩ => ⟨S8x48x1, .f32⟩
  | .local _ .vmem, ⟨8, _⟩ => ⟨S8x48x9, .f32⟩
  | .local _ .vmem, ⟨9, _⟩ => ⟨S8x48x1, .f32⟩
  | .local _ .vmem, ⟨10, _⟩ => ⟨S1x96x56x224, .f32⟩
  | .local _ .vmem, ⟨11, _⟩ => ⟨S1x96x56x224, .f32⟩
  | .local _ .vmem, ⟨12, _⟩ => ⟨S96x15360, .f32⟩
  | .local _ .vmem, ⟨13, _⟩ => ⟨S96x14848, .f32⟩
  | .local _ .vmem, ⟨14, _⟩ => ⟨S96x14336, .f32⟩
  | .local _ .vmem, ⟨15, _⟩ => ⟨S1x14848, .f32⟩
  | .local _ .vmem, ⟨16, _⟩ => ⟨S3x288x96, .f32⟩
  | .local _ .vmem, ⟨17, _⟩ => ⟨S96x9, .f32⟩
  | .local _ .vmem, ⟨18, _⟩ => ⟨S96x1, .f32⟩
  | .local _ .vmem, ⟨19, _⟩ => ⟨S96x1, .f32⟩
  | .local _ .smem, ⟨0, _⟩ => ⟨S2x2, .i32⟩
  | .local _ .smem, ⟨1, _⟩ => ⟨S2x2, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 4], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v2 : Index := Scalar.indexCast arg0
  let c1 : Index := 1#32
  ![v2.toNat, 1]
def k0_cond2 (i : grid0.Coords) : BitVec 1 :=
  let arg1 : BitVec 32 := BitVec.ofNat 32 (i 1).val
  let c0_i32_2 : BitVec 32 := 0#32
  let v9 : BitVec 1 := Scalar.cmpi .eq arg1 c0_i32_2
  let v10 : BitVec 32 := Scalar.extui v9
  let c0_i32_3 : BitVec 32 := 0#32
  let v11 : BitVec 1 := Scalar.cmpi .ne v10 c0_i32_3
  v11

def k0_off3 (i : grid0.Coords) : Fin 2 → Nat :=
  let arg0 : BitVec 32 := BitVec.ofNat 32 (i 0).val
  let v674 : Index := Scalar.indexCast arg0
  let c0_633 : Index := 0#32
  ![v674.toNat, 0]
def k0_off4 (i : grid0.Coords) : Fin 2 → Nat :=
  let arg0 : BitVec 32 := BitVec.ofNat 32 (i 0).val
  let v676 : Index := Scalar.indexCast arg0
  let c1_634 : Index := 1#32
  ![v676.toNat, 1]
def k0_off5 (v675 : BitVec 32) : Fin 4 → Nat :=
  let v678 : Index := Scalar.indexCast v675
  let c0_635 : Index := 0#32
  let c0_636 : Index := 0#32
  let c0_637 : Index := 0#32
  ![v678.toNat, 0, 0, 0]

def k0_off6 (v677 : BitVec 32) : Fin 4 → Nat :=
  let v681 : Index := Scalar.indexCast v677
  let c0_638 : Index := 0#32
  let c0_639 : Index := 0#32
  let c0_640 : Index := 0#32
  ![v681.toNat, 0, 0, 0]

def k0_off7 (v675 : BitVec 32) : Fin 4 → Nat :=
  let v685 : Index := Scalar.indexCast v675
  let c1_641 : Index := 1#32
  let c0_642 : Index := 0#32
  let c0_643 : Index := 0#32
  ![v685.toNat, 1, 0, 0]
def k0_off8 (v677 : BitVec 32) : Fin 4 → Nat :=
  let v688 : Index := Scalar.indexCast v677
  let c1_644 : Index := 1#32
  let c0_645 : Index := 0#32
  let c0_646 : Index := 0#32
  ![v688.toNat, 1, 0, 0]
def k0_off9 (v675 : BitVec 32) : Fin 4 → Nat :=
  let v692 : Index := Scalar.indexCast v675
  let c2_647 : Index := 2#32
  let c0_648 : Index := 0#32
  let c0_649 : Index := 0#32
  ![v692.toNat, 2, 0, 0]
def k0_off10 (v677 : BitVec 32) : Fin 4 → Nat :=
  let v695 : Index := Scalar.indexCast v677
  let c2_650 : Index := 2#32
  let c0_651 : Index := 0#32
  let c0_652 : Index := 0#32
  ![v695.toNat, 2, 0, 0]
def k0_off11 (v675 : BitVec 32) : Fin 4 → Nat :=
  let v703 : Index := Scalar.indexCast v675
  let c3_656 : Index := 3#32
  let c0_657 : Index := 0#32
  let c0_658 : Index := 0#32
  ![v703.toNat, 3, 0, 0]
def k0_off12 (v677 : BitVec 32) : Fin 4 → Nat :=
  let v706 : Index := Scalar.indexCast v677
  let c3_659 : Index := 3#32
  let c0_660 : Index := 0#32
  let c0_661 : Index := 0#32
  ![v706.toNat, 3, 0, 0]
def k0_off13 (v675 : BitVec 32) : Fin 4 → Nat :=
  let v710 : Index := Scalar.indexCast v675
  let c4_662 : Index := 4#32
  let c0_663 : Index := 0#32
  let c0_664 : Index := 0#32
  ![v710.toNat, 4, 0, 0]
def k0_off14 (v677 : BitVec 32) : Fin 4 → Nat :=
  let v713 : Index := Scalar.indexCast v677
  let c4_665 : Index := 4#32
  let c0_666 : Index := 0#32
  let c0_667 : Index := 0#32
  ![v713.toNat, 4, 0, 0]
def k0_off15 (v675 : BitVec 32) : Fin 4 → Nat :=
  let v717 : Index := Scalar.indexCast v675
  let c5_668 : Index := 5#32
  let c0_669 : Index := 0#32
  let c0_670 : Index := 0#32
  ![v717.toNat, 5, 0, 0]
def k0_off16 (v677 : BitVec 32) : Fin 4 → Nat :=
  let v720 : Index := Scalar.indexCast v677
  let c5_671 : Index := 5#32
  let c0_672 : Index := 0#32
  let c0_673 : Index := 0#32
  ![v720.toNat, 5, 0, 0]
def k0_off17 (v675 : BitVec 32) : Fin 4 → Nat :=
  let v728 : Index := Scalar.indexCast v675
  let c6_677 : Index := 6#32
  let c0_678 : Index := 0#32
  let c0_679 : Index := 0#32
  ![v728.toNat, 6, 0, 0]
def k0_off18 (v677 : BitVec 32) : Fin 4 → Nat :=
  let v731 : Index := Scalar.indexCast v677
  let c6_680 : Index := 6#32
  let c0_681 : Index := 0#32
  let c0_682 : Index := 0#32
  ![v731.toNat, 6, 0, 0]
def k0_off19 (v675 : BitVec 32) : Fin 4 → Nat :=
  let v735 : Index := Scalar.indexCast v675
  let c7_683 : Index := 7#32
  let c0_684 : Index := 0#32
  let c0_685 : Index := 0#32
  ![v735.toNat, 7, 0, 0]
def k0_off20 (v677 : BitVec 32) : Fin 4 → Nat :=
  let v738 : Index := Scalar.indexCast v677
  let c7_686 : Index := 7#32
  let c0_687 : Index := 0#32
  let c0_688 : Index := 0#32
  ![v738.toNat, 7, 0, 0]
def k0_off21 (v675 : BitVec 32) : Fin 4 → Nat :=
  let v742 : Index := Scalar.indexCast v675
  let c8_689 : Index := 8#32
  let c0_690 : Index := 0#32
  let c0_691 : Index := 0#32
  ![v742.toNat, 8, 0, 0]
def k0_off22 (v677 : BitVec 32) : Fin 4 → Nat :=
  let v745 : Index := Scalar.indexCast v677
  let c8_692 : Index := 8#32
  let c0_693 : Index := 0#32
  let c0_694 : Index := 0#32
  ![v745.toNat, 8, 0, 0]
def k0_off23 (v675 : BitVec 32) : Fin 3 → Nat :=
  let v753 : Index := Scalar.indexCast v675
  let c0_698 : Index := 0#32
  let c0_699 : Index := 0#32
  ![v753.toNat, 0, 0]
def k0_off24 (v677 : BitVec 32) : Fin 3 → Nat :=
  let v756 : Index := Scalar.indexCast v677
  let c0_700 : Index := 0#32
  let c0_701 : Index := 0#32
  ![v756.toNat, 0, 0]
def k0_off25 (v675 : BitVec 32) : Fin 3 → Nat :=
  let v763 : Index := Scalar.indexCast v675
  let c0_704 : Index := 0#32
  let c0_705 : Index := 0#32
  ![v763.toNat, 0, 0]

def k0_chk1 (i : grid0.Coords) (v675 : BitVec 32) : Prop :=
  (∀ (k0_h2 : k0_cond2 i = 1#1), ∀ a, (k0_off5 v675) a + S1x1x48x96.size a ≤ S8x9x48x96.size a) ∧
  (∀ (k0_h2 : k0_cond2 i = 1#1), ∀ a, (k0_off7 v675) a + S1x1x48x96.size a ≤ S8x9x48x96.size a) ∧
  (∀ (k0_h2 : k0_cond2 i = 1#1), ∀ a, (k0_off9 v675) a + S1x1x48x96.size a ≤ S8x9x48x96.size a) ∧
  (∀ (k0_h2 : k0_cond2 i = 1#1), ∀ a, (k0_off11 v675) a + S1x1x48x96.size a ≤ S8x9x48x96.size a) ∧
  (∀ (k0_h2 : k0_cond2 i = 1#1), ∀ a, (k0_off13 v675) a + S1x1x48x96.size a ≤ S8x9x48x96.size a) ∧
  (∀ (k0_h2 : k0_cond2 i = 1#1), ∀ a, (k0_off15 v675) a + S1x1x48x96.size a ≤ S8x9x48x96.size a) ∧
  (∀ (k0_h2 : k0_cond2 i = 1#1), ∀ a, (k0_off17 v675) a + S1x1x48x96.size a ≤ S8x9x48x96.size a) ∧
  (∀ (k0_h2 : k0_cond2 i = 1#1), ∀ a, (k0_off19 v675) a + S1x1x48x96.size a ≤ S8x9x48x96.size a) ∧
  (∀ (k0_h2 : k0_cond2 i = 1#1), ∀ a, (k0_off21 v675) a + S1x1x48x96.size a ≤ S8x9x48x96.size a) ∧
  (∀ (k0_h2 : k0_cond2 i = 1#1), ∀ a, (k0_off23 v675) a + S1x48x9.size a ≤ S8x48x9.size a) ∧
  (∀ (k0_h2 : k0_cond2 i = 1#1), ∀ a, (k0_off25 v675) a + S1x48x1.size a ≤ S8x48x1.size a)
theorem k0_off5_inb : ∀ (i : grid0.Coords) (v675 : BitVec 32) (k0_hw1 : k0_chk1 i v675), ∀ (k0_h2 : k0_cond2 i = 1#1), ∀ a, (k0_off5 v675) a + S1x1x48x96.size a ≤ S8x9x48x96.size a := fun i v675 k0_hw1 k0_h2 => k0_hw1.1 k0_h2
theorem k0_off7_inb : ∀ (i : grid0.Coords) (v675 : BitVec 32) (k0_hw1 : k0_chk1 i v675), ∀ (k0_h2 : k0_cond2 i = 1#1), ∀ a, (k0_off7 v675) a + S1x1x48x96.size a ≤ S8x9x48x96.size a := fun i v675 k0_hw1 k0_h2 => k0_hw1.2.1 k0_h2
theorem k0_off9_inb : ∀ (i : grid0.Coords) (v675 : BitVec 32) (k0_hw1 : k0_chk1 i v675), ∀ (k0_h2 : k0_cond2 i = 1#1), ∀ a, (k0_off9 v675) a + S1x1x48x96.size a ≤ S8x9x48x96.size a := fun i v675 k0_hw1 k0_h2 => k0_hw1.2.2.1 k0_h2
theorem k0_off11_inb : ∀ (i : grid0.Coords) (v675 : BitVec 32) (k0_hw1 : k0_chk1 i v675), ∀ (k0_h2 : k0_cond2 i = 1#1), ∀ a, (k0_off11 v675) a + S1x1x48x96.size a ≤ S8x9x48x96.size a := fun i v675 k0_hw1 k0_h2 => k0_hw1.2.2.2.1 k0_h2
theorem k0_off13_inb : ∀ (i : grid0.Coords) (v675 : BitVec 32) (k0_hw1 : k0_chk1 i v675), ∀ (k0_h2 : k0_cond2 i = 1#1), ∀ a, (k0_off13 v675) a + S1x1x48x96.size a ≤ S8x9x48x96.size a := fun i v675 k0_hw1 k0_h2 => k0_hw1.2.2.2.2.1 k0_h2
theorem k0_off15_inb : ∀ (i : grid0.Coords) (v675 : BitVec 32) (k0_hw1 : k0_chk1 i v675), ∀ (k0_h2 : k0_cond2 i = 1#1), ∀ a, (k0_off15 v675) a + S1x1x48x96.size a ≤ S8x9x48x96.size a := fun i v675 k0_hw1 k0_h2 => k0_hw1.2.2.2.2.2.1 k0_h2
theorem k0_off17_inb : ∀ (i : grid0.Coords) (v675 : BitVec 32) (k0_hw1 : k0_chk1 i v675), ∀ (k0_h2 : k0_cond2 i = 1#1), ∀ a, (k0_off17 v675) a + S1x1x48x96.size a ≤ S8x9x48x96.size a := fun i v675 k0_hw1 k0_h2 => k0_hw1.2.2.2.2.2.2.1 k0_h2
theorem k0_off19_inb : ∀ (i : grid0.Coords) (v675 : BitVec 32) (k0_hw1 : k0_chk1 i v675), ∀ (k0_h2 : k0_cond2 i = 1#1), ∀ a, (k0_off19 v675) a + S1x1x48x96.size a ≤ S8x9x48x96.size a := fun i v675 k0_hw1 k0_h2 => k0_hw1.2.2.2.2.2.2.2.1 k0_h2
theorem k0_off21_inb : ∀ (i : grid0.Coords) (v675 : BitVec 32) (k0_hw1 : k0_chk1 i v675), ∀ (k0_h2 : k0_cond2 i = 1#1), ∀ a, (k0_off21 v675) a + S1x1x48x96.size a ≤ S8x9x48x96.size a := fun i v675 k0_hw1 k0_h2 => k0_hw1.2.2.2.2.2.2.2.2.1 k0_h2
theorem k0_off23_inb : ∀ (i : grid0.Coords) (v675 : BitVec 32) (k0_hw1 : k0_chk1 i v675), ∀ (k0_h2 : k0_cond2 i = 1#1), ∀ a, (k0_off23 v675) a + S1x48x9.size a ≤ S8x48x9.size a := fun i v675 k0_hw1 k0_h2 => k0_hw1.2.2.2.2.2.2.2.2.2.1 k0_h2
theorem k0_off25_inb : ∀ (i : grid0.Coords) (v675 : BitVec 32) (k0_hw1 : k0_chk1 i v675), ∀ (k0_h2 : k0_cond2 i = 1#1), ∀ a, (k0_off25 v675) a + S1x48x1.size a ≤ S8x48x1.size a := fun i v675 k0_hw1 k0_h2 => k0_hw1.2.2.2.2.2.2.2.2.2.2 k0_h2

def k0_off26 (v677 : BitVec 32) : Fin 3 → Nat :=
  let v766 : Index := Scalar.indexCast v677
  let c0_706 : Index := 0#32
  let c0_707 : Index := 0#32
  ![v766.toNat, 0, 0]

def k0_chk2 (i : grid0.Coords) (v677 : BitVec 32) : Prop :=
  (∀ (k0_h2 : k0_cond2 i = 1#1), ∀ a, (k0_off6 v677) a + S1x1x48x96.size a ≤ S8x9x48x96.size a) ∧
  (∀ (k0_h2 : k0_cond2 i = 1#1), ∀ a, (k0_off8 v677) a + S1x1x48x96.size a ≤ S8x9x48x96.size a) ∧
  (∀ (k0_h2 : k0_cond2 i = 1#1), ∀ a, (k0_off10 v677) a + S1x1x48x96.size a ≤ S8x9x48x96.size a) ∧
  (∀ (k0_h2 : k0_cond2 i = 1#1), ∀ a, (k0_off12 v677) a + S1x1x48x96.size a ≤ S8x9x48x96.size a) ∧
  (∀ (k0_h2 : k0_cond2 i = 1#1), ∀ a, (k0_off14 v677) a + S1x1x48x96.size a ≤ S8x9x48x96.size a) ∧
  (∀ (k0_h2 : k0_cond2 i = 1#1), ∀ a, (k0_off16 v677) a + S1x1x48x96.size a ≤ S8x9x48x96.size a) ∧
  (∀ (k0_h2 : k0_cond2 i = 1#1), ∀ a, (k0_off18 v677) a + S1x1x48x96.size a ≤ S8x9x48x96.size a) ∧
  (∀ (k0_h2 : k0_cond2 i = 1#1), ∀ a, (k0_off20 v677) a + S1x1x48x96.size a ≤ S8x9x48x96.size a) ∧
  (∀ (k0_h2 : k0_cond2 i = 1#1), ∀ a, (k0_off22 v677) a + S1x1x48x96.size a ≤ S8x9x48x96.size a) ∧
  (∀ (k0_h2 : k0_cond2 i = 1#1), ∀ a, (k0_off24 v677) a + S1x48x9.size a ≤ S8x48x9.size a) ∧
  (∀ (k0_h2 : k0_cond2 i = 1#1), ∀ a, (k0_off26 v677) a + S1x48x1.size a ≤ S8x48x1.size a)
theorem k0_off6_inb : ∀ (i : grid0.Coords) (v677 : BitVec 32) (k0_hw2 : k0_chk2 i v677), ∀ (k0_h2 : k0_cond2 i = 1#1), ∀ a, (k0_off6 v677) a + S1x1x48x96.size a ≤ S8x9x48x96.size a := fun i v677 k0_hw2 k0_h2 => k0_hw2.1 k0_h2
theorem k0_off8_inb : ∀ (i : grid0.Coords) (v677 : BitVec 32) (k0_hw2 : k0_chk2 i v677), ∀ (k0_h2 : k0_cond2 i = 1#1), ∀ a, (k0_off8 v677) a + S1x1x48x96.size a ≤ S8x9x48x96.size a := fun i v677 k0_hw2 k0_h2 => k0_hw2.2.1 k0_h2
theorem k0_off10_inb : ∀ (i : grid0.Coords) (v677 : BitVec 32) (k0_hw2 : k0_chk2 i v677), ∀ (k0_h2 : k0_cond2 i = 1#1), ∀ a, (k0_off10 v677) a + S1x1x48x96.size a ≤ S8x9x48x96.size a := fun i v677 k0_hw2 k0_h2 => k0_hw2.2.2.1 k0_h2
theorem k0_off12_inb : ∀ (i : grid0.Coords) (v677 : BitVec 32) (k0_hw2 : k0_chk2 i v677), ∀ (k0_h2 : k0_cond2 i = 1#1), ∀ a, (k0_off12 v677) a + S1x1x48x96.size a ≤ S8x9x48x96.size a := fun i v677 k0_hw2 k0_h2 => k0_hw2.2.2.2.1 k0_h2
theorem k0_off14_inb : ∀ (i : grid0.Coords) (v677 : BitVec 32) (k0_hw2 : k0_chk2 i v677), ∀ (k0_h2 : k0_cond2 i = 1#1), ∀ a, (k0_off14 v677) a + S1x1x48x96.size a ≤ S8x9x48x96.size a := fun i v677 k0_hw2 k0_h2 => k0_hw2.2.2.2.2.1 k0_h2
theorem k0_off16_inb : ∀ (i : grid0.Coords) (v677 : BitVec 32) (k0_hw2 : k0_chk2 i v677), ∀ (k0_h2 : k0_cond2 i = 1#1), ∀ a, (k0_off16 v677) a + S1x1x48x96.size a ≤ S8x9x48x96.size a := fun i v677 k0_hw2 k0_h2 => k0_hw2.2.2.2.2.2.1 k0_h2
theorem k0_off18_inb : ∀ (i : grid0.Coords) (v677 : BitVec 32) (k0_hw2 : k0_chk2 i v677), ∀ (k0_h2 : k0_cond2 i = 1#1), ∀ a, (k0_off18 v677) a + S1x1x48x96.size a ≤ S8x9x48x96.size a := fun i v677 k0_hw2 k0_h2 => k0_hw2.2.2.2.2.2.2.1 k0_h2
theorem k0_off20_inb : ∀ (i : grid0.Coords) (v677 : BitVec 32) (k0_hw2 : k0_chk2 i v677), ∀ (k0_h2 : k0_cond2 i = 1#1), ∀ a, (k0_off20 v677) a + S1x1x48x96.size a ≤ S8x9x48x96.size a := fun i v677 k0_hw2 k0_h2 => k0_hw2.2.2.2.2.2.2.2.1 k0_h2
theorem k0_off22_inb : ∀ (i : grid0.Coords) (v677 : BitVec 32) (k0_hw2 : k0_chk2 i v677), ∀ (k0_h2 : k0_cond2 i = 1#1), ∀ a, (k0_off22 v677) a + S1x1x48x96.size a ≤ S8x9x48x96.size a := fun i v677 k0_hw2 k0_h2 => k0_hw2.2.2.2.2.2.2.2.2.1 k0_h2
theorem k0_off24_inb : ∀ (i : grid0.Coords) (v677 : BitVec 32) (k0_hw2 : k0_chk2 i v677), ∀ (k0_h2 : k0_cond2 i = 1#1), ∀ a, (k0_off24 v677) a + S1x48x9.size a ≤ S8x48x9.size a := fun i v677 k0_hw2 k0_h2 => k0_hw2.2.2.2.2.2.2.2.2.2.1 k0_h2
theorem k0_off26_inb : ∀ (i : grid0.Coords) (v677 : BitVec 32) (k0_hw2 : k0_chk2 i v677), ∀ (k0_h2 : k0_cond2 i = 1#1), ∀ a, (k0_off26 v677) a + S1x48x1.size a ≤ S8x48x1.size a := fun i v677 k0_hw2 k0_h2 => k0_hw2.2.2.2.2.2.2.2.2.2.2 k0_h2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.muli c7_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_4 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.muli c7_i32 arg1
  let c7_i32_0 : BitVec 32 := 7#32
  let v1 : BitVec 32 := Scalar.addi v0 c7_i32_0
  let c27_i32 : BitVec 32 := 27#32
  let v2 : BitVec 32 := Scalar.minsi v1 c27_i32
  let c0_i32 : BitVec 32 := 0#32
  let c0_i32_1 : BitVec 32 := 0#32
  let c0_i32_2 : BitVec 32 := 0#32
  ![arg0.toNat, c0_i32.toNat, v2.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S2x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x96x56x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x8x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x8x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x9x48x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x48x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x48x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x48x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x96x56x224 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2x96x224x224 : Shape := ⟨4, ![2, 96, 224, 224]⟩
abbrev S2x2 : Shape := ⟨2, ![2, 2]⟩
abbrev S8x48x96x3x3 : Shape := ⟨5, ![8, 48, 96, 3, 3]⟩
abbrev S8x48 : Shape := ⟨2, ![8, 48]⟩
abbrev S8x48x1x3x3 : Shape := ⟨5, ![8, 48, 1, 3, 3]⟩
abbrev S_ : Shape := ⟨0, ![]⟩
abbrev S2x96x226x226 : Shape := ⟨4, ![2, 96, 226, 226]⟩
abbrev S8x48x96x1x1 : Shape := ⟨5, ![8, 48, 96, 1, 1]⟩
abbrev S8x48x96 : Shape := ⟨3, ![8, 48, 96]⟩
abbrev S2x224x224x8x48 : Shape := ⟨5, ![2, 224, 224, 8, 48]⟩
abbrev S2x8x48x224x224 : Shape := ⟨5, ![2, 8, 48, 224, 224]⟩
abbrev S1x8x48x1x1 : Shape := ⟨5, ![1, 8, 48, 1, 1]⟩
abbrev S2x8x48x226x226 : Shape := ⟨5, ![2, 8, 48, 226, 226]⟩
abbrev S8x48x1x1x1 : Shape := ⟨5, ![8, 48, 1, 1, 1]⟩
abbrev S2x8x96x224x224 : Shape := ⟨5, ![2, 8, 96, 224, 224]⟩
abbrev S2x2x1x1x1 : Shape := ⟨5, ![2, 2, 1, 1, 1]⟩
abbrev S2x2x1 : Shape := ⟨3, ![2, 2, 1]⟩
abbrev S2x2x96x224x224 : Shape := ⟨5, ![2, 2, 96, 224, 224]⟩

abbrev nBuf : Space → Nat
  | .hbm => 192
  | .vmem => 0
  | .smem => 0
  | _ => 0

abbrev hbmTy0_0 (i : Nat) : BufTy := match i % 128 with
  | 0 => ⟨S2x96x224x224, .f32⟩
  | 1 => ⟨S2x2, .i32⟩
  | 2 => ⟨S2x2, .f32⟩
  | 3 => ⟨S8x48x96x3x3, .f32⟩
  | 4 => ⟨S8x48, .f32⟩
  | 5 => ⟨S8x48, .f32⟩
  | 6 => ⟨S8x48x1x3x3, .f32⟩
  | 7 => ⟨S8x48, .f32⟩
  | 8 => ⟨S8x48, .f32⟩
  | 9 => ⟨S_, .i32⟩
  | 10 => ⟨S_, .f32⟩
  | 11 => ⟨S2x96x226x226, .f32⟩
  | 12 => ⟨S8x48x96x1x1, .f32⟩
  | 13 => ⟨S8x48x96, .f32⟩
  | 14 => ⟨S2x96x224x224, .f32⟩
  | 15 => ⟨S2x224x224x8x48, .f32⟩
  | 16 => ⟨S2x8x48x224x224, .f32⟩
  | 17 => ⟨S_, .f32⟩
  | 18 => ⟨S2x8x48x224x224, .f32⟩
  | 19 => ⟨S2x8x48x224x224, .f32⟩
  | 20 => ⟨S8x48x96x1x1, .f32⟩
  | 21 => ⟨S8x48x96, .f32⟩
  | 22 => ⟨S2x96x224x224, .f32⟩
  | 23 => ⟨S2x224x224x8x48, .f32⟩
  | 24 => ⟨S2x8x48x224x224, .f32⟩
  | 25 => ⟨S2x8x48x224x224, .f32⟩
  | 26 => ⟨S8x48x96x1x1, .f32⟩
  | 27 => ⟨S8x48x96, .f32⟩
  | 28 => ⟨S2x96x224x224, .f32⟩
  | 29 => ⟨S2x224x224x8x48, .f32⟩
  | 30 => ⟨S2x8x48x224x224, .f32⟩
  | 31 => ⟨S2x8x48x224x224, .f32⟩
  | 32 => ⟨S8x48x96x1x1, .f32⟩
  | 33 => ⟨S8x48x96, .f32⟩
  | 34 => ⟨S2x96x224x224, .f32⟩
  | 35 => ⟨S2x224x224x8x48, .f32⟩
  | 36 => ⟨S2x8x48x224x224, .f32⟩
  | 37 => ⟨S2x8x48x224x224, .f32⟩
  | 38 => ⟨S8x48x96x1x1, .f32⟩
  | 39 => ⟨S8x48x96, .f32⟩
  | 40 => ⟨S2x96x224x224, .f32⟩
  | 41 => ⟨S2x224x224x8x48, .f32⟩
  | 42 => ⟨S2x8x48x224x224, .f32⟩
  | 43 => ⟨S2x8x48x224x224, .f32⟩
  | 44 => ⟨S8x48x96x1x1, .f32⟩
  | 45 => ⟨S8x48x96, .f32⟩
  | 46 => ⟨S2x96x224x224, .f32⟩
  | 47 => ⟨S2x224x224x8x48, .f32⟩
  | 48 => ⟨S2x8x48x224x224, .f32⟩
  | 49 => ⟨S2x8x48x224x224, .f32⟩
  | 50 => ⟨S8x48x96x1x1, .f32⟩
  | 51 => ⟨S8x48x96, .f32⟩
  | 52 => ⟨S2x96x224x224, .f32⟩
  | 53 => ⟨S2x224x224x8x48, .f32⟩
  | 54 => ⟨S2x8x48x224x224, .f32⟩
  | 55 => ⟨S2x8x48x224x224, .f32⟩
  | 56 => ⟨S8x48x96x1x1, .f32⟩
  | 57 => ⟨S8x48x96, .f32⟩
  | 58 => ⟨S2x96x224x224, .f32⟩
  | 59 => ⟨S2x224x224x8x48, .f32⟩
  | 60 => ⟨S2x8x48x224x224, .f32⟩
  | 61 => ⟨S2x8x48x224x224, .f32⟩
  | 62 => ⟨S8x48x96x1x1, .f32⟩
  | 63 => ⟨S8x48x96, .f32⟩
  | 64 => ⟨S2x96x224x224, .f32⟩
  | 65 => ⟨S2x224x224x8x48, .f32⟩
  | 66 => ⟨S2x8x48x224x224, .f32⟩
  | 67 => ⟨S2x8x48x224x224, .f32⟩
  | 68 => ⟨S_, .f32⟩
  | 69 => ⟨S_, .f32⟩
  | 70 => ⟨S_, .f32⟩
  | 71 => ⟨S8x48, .f32⟩
  | 72 => ⟨S8x48, .f32⟩
  | 73 => ⟨S1x8x48x1x1, .f32⟩
  | 74 => ⟨S2x8x48x224x224, .f32⟩
  | 75 => ⟨S2x8x48x224x224, .f32⟩
  | 76 => ⟨S1x8x48x1x1, .f32⟩
  | 77 => ⟨S2x8x48x224x224, .f32⟩
  | 78 => ⟨S2x8x48x224x224, .f32⟩
  | 79 => ⟨S2x8x48x224x224, .f32⟩
  | 80 => ⟨S2x8x48x224x224, .f32⟩
  | 81 => ⟨S_, .f32⟩
  | 82 => ⟨S2x8x48x224x224, .f32⟩
  | 83 => ⟨S2x8x48x224x224, .f32⟩
  | 84 => ⟨S_, .f32⟩
  | 85 => ⟨S2x8x48x224x224, .f32⟩
  | 86 => ⟨S2x8x48x224x224, .f32⟩
  | 87 => ⟨S2x8x48x224x224, .f32⟩
  | 88 => ⟨S_, .i32⟩
  | 89 => ⟨S_, .f32⟩
  | 90 => ⟨S2x8x48x226x226, .f32⟩
  | 91 => ⟨S8x48x1x1x1, .f32⟩
  | 92 => ⟨S8x48, .f32⟩
  | 93 => ⟨S1x8x48x1x1, .f32⟩
  | 94 => ⟨S2x8x48x224x224, .f32⟩
  | 95 => ⟨S2x8x48x224x224, .f32⟩
  | 96 => ⟨S2x8x48x224x224, .f32⟩
  | 97 => ⟨S_, .f32⟩
  | 98 => ⟨S2x8x48x224x224, .f32⟩
  | 99 => ⟨S2x8x48x224x224, .f32⟩
  | 100 => ⟨S8x48x1x1x1, .f32⟩
  | 101 => ⟨S8x48, .f32⟩
  | 102 => ⟨S1x8x48x1x1, .f32⟩
  | 103 => ⟨S2x8x48x224x224, .f32⟩
  | 104 => ⟨S2x8x48x224x224, .f32⟩
  | 105 => ⟨S2x8x48x224x224, .f32⟩
  | 106 => ⟨S2x8x48x224x224, .f32⟩
  | 107 => ⟨S8x48x1x1x1, .f32⟩
  | 108 => ⟨S8x48, .f32⟩
  | 109 => ⟨S1x8x48x1x1, .f32⟩
  | 110 => ⟨S2x8x48x224x224, .f32⟩
  | 111 => ⟨S2x8x48x224x224, .f32⟩
  | 112 => ⟨S2x8x48x224x224, .f32⟩
  | 113 => ⟨S2x8x48x224x224, .f32⟩
  | 114 => ⟨S8x48x1x1x1, .f32⟩
  | 115 => ⟨S8x48, .f32⟩
  | 116 => ⟨S1x8x48x1x1, .f32⟩
  | 117 => ⟨S2x8x48x224x224, .f32⟩
  | 118 => ⟨S2x8x48x224x224, .f32⟩
  | 119 => ⟨S2x8x48x224x224, .f32⟩
  | 120 => ⟨S2x8x48x224x224, .f32⟩
  | 121 => ⟨S8x48x1x1x1, .f32⟩
  | 122 => ⟨S8x48, .f32⟩
  | 123 => ⟨S1x8x48x1x1, .f32⟩
  | 124 => ⟨S2x8x48x224x224, .f32⟩
  | 125 => ⟨S2x8x48x224x224, .f32⟩
  | 126 => ⟨S2x8x48x224x224, .f32⟩
  | 127 => ⟨S2x8x48x224x224, .f32⟩
  | _ => ⟨S2x96x224x224, .f32⟩

abbrev hbmTy0_1 (i : Nat) : BufTy := match i % 128 with
  | 0 => ⟨S8x48x1x1x1, .f32⟩
  | 1 => ⟨S8x48, .f32⟩
  | 2 => ⟨S1x8x48x1x1, .f32⟩
  | 3 => ⟨S2x8x48x224x224, .f32⟩
  | 4 => ⟨S2x8x48x224x224, .f32⟩
  | 5 => ⟨S2x8x48x224x224, .f32⟩
  | 6 => ⟨S2x8x48x224x224, .f32⟩
  | 7 => ⟨S8x48x1x1x1, .f32⟩
  | 8 => ⟨S8x48, .f32⟩
  | 9 => ⟨S1x8x48x1x1, .f32⟩
  | 10 => ⟨S2x8x48x224x224, .f32⟩
  | 11 => ⟨S2x8x48x224x224, .f32⟩
  | 12 => ⟨S2x8x48x224x224, .f32⟩
  | 13 => ⟨S2x8x48x224x224, .f32⟩
  | 14 => ⟨S8x48x1x1x1, .f32⟩
  | 15 => ⟨S8x48, .f32⟩
  | 16 => ⟨S1x8x48x1x1, .f32⟩
  | 17 => ⟨S2x8x48x224x224, .f32⟩
  | 18 => ⟨S2x8x48x224x224, .f32⟩
  | 19 => ⟨S2x8x48x224x224, .f32⟩
  | 20 => ⟨S2x8x48x224x224, .f32⟩
  | 21 => ⟨S8x48x1x1x1, .f32⟩
  | 22 => ⟨S8x48, .f32⟩
  | 23 => ⟨S1x8x48x1x1, .f32⟩
  | 24 => ⟨S2x8x48x224x224, .f32⟩
  | 25 => ⟨S2x8x48x224x224, .f32⟩
  | 26 => ⟨S2x8x48x224x224, .f32⟩
  | 27 => ⟨S2x8x48x224x224, .f32⟩
  | 28 => ⟨S_, .f32⟩
  | 29 => ⟨S_, .f32⟩
  | 30 => ⟨S_, .f32⟩
  | 31 => ⟨S8x48, .f32⟩
  | 32 => ⟨S8x48, .f32⟩
  | 33 => ⟨S1x8x48x1x1, .f32⟩
  | 34 => ⟨S2x8x48x224x224, .f32⟩
  | 35 => ⟨S2x8x48x224x224, .f32⟩
  | 36 => ⟨S1x8x48x1x1, .f32⟩
  | 37 => ⟨S2x8x48x224x224, .f32⟩
  | 38 => ⟨S2x8x48x224x224, .f32⟩
  | 39 => ⟨S2x8x48x224x224, .f32⟩
  | 40 => ⟨S2x8x48x224x224, .f32⟩
  | 41 => ⟨S_, .f32⟩
  | 42 => ⟨S2x8x48x224x224, .f32⟩
  | 43 => ⟨S2x8x48x224x224, .f32⟩
  | 44 => ⟨S_, .f32⟩
  | 45 => ⟨S2x8x48x224x224, .f32⟩
  | 46 => ⟨S2x8x48x224x224, .f32⟩
  | 47 => ⟨S2x8x48x224x224, .f32⟩
  | 48 => ⟨S2x8x96x224x224, .f32⟩
  | 49 => ⟨S2x2x1x1x1, .i32⟩
  | 50 => ⟨S_, .i32⟩
  | 51 => ⟨S2x2x1x1x1, .i32⟩
  | 52 => ⟨S2x2x1x1x1, .i1⟩
  | 53 => ⟨S_, .i32⟩
  | 54 => ⟨S2x2x1x1x1, .i32⟩
  | 55 => ⟨S2x2x1x1x1, .i32⟩
  | 56 => ⟨S2x2x1x1x1, .i32⟩
  | 57 => ⟨S2x2x1, .i32⟩
  | 58 => ⟨S2x2x96x224x224, .f32⟩
  | 59 => ⟨S2x2x1x1x1, .f32⟩
  | 60 => ⟨S2x2x96x224x224, .f32⟩
  | 61 => ⟨S2x2x96x224x224, .f32⟩
  | 62 => ⟨S_, .f32⟩
  | 63 => ⟨S2x96x224x224, .f32⟩
  | _ => ⟨S2x96x224x224, .f32⟩

abbrev hbmTy (i : Nat) : BufTy := match i / 128 with
  | 0 => hbmTy0_0 i
  | 1 => hbmTy0_1 i
  | _ => ⟨S2x96x224x224, .f32⟩

abbrev bufTy : (tb : Table) → Fin (tcTables nBuf tb) → BufTy
  | .hbm, ⟨i, _⟩ => hbmTy i
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_0 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_1 : Ref sig .tc := ⟨.hbm, 81, rfl⟩
abbrev main_v68 : Ref sig .tc := ⟨.hbm, 82, rfl⟩
abbrev main_v69 : Ref sig .tc := ⟨.hbm, 83, rfl⟩
abbrev main_cst_2 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_c_3 : Ref sig .tc := ⟨.hbm, 88, rfl⟩
abbrev main_call1_v0 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_4 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_cst_5 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_cst_6 : Ref sig .tc := ⟨.hbm, 169, rfl⟩
abbrev main_v150 : Ref sig .tc := ⟨.hbm, 170, rfl⟩
abbrev main_v151 : Ref sig .tc := ⟨.hbm, 171, rfl⟩
abbrev main_cst_7 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_call2_c : Ref sig .tc := ⟨.hbm, 178, rfl⟩
abbrev main_call2_v0 : Ref sig .tc := ⟨.hbm, 179, rfl⟩
abbrev main_call2_v1 : Ref sig .tc := ⟨.hbm, 180, rfl⟩
abbrev main_call2_c_0 : Ref sig .tc := ⟨.hbm, 181, rfl⟩
abbrev main_call2_v2 : Ref sig .tc := ⟨.hbm, 182, rfl⟩
abbrev main_call2_v3 : Ref sig .tc := ⟨.hbm, 183, rfl⟩
abbrev main_call2_v4 : Ref sig .tc := ⟨.hbm, 184, rfl⟩
abbrev main_call2_v5 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_cst_8 : Ref sig .tc := ⟨.hbm, 190, rfl⟩
abbrev main_v161 : Ref sig .tc := ⟨.hbm, 191, rfl⟩

abbrev nD : Nat := 1
abbrev τ : Topo := Topo.v7x

variable {F : FTy → Type} [FloatOps F]
-- ==== Routing.lean ====
abbrev S2x96x224x224 : Shape := ⟨4, ![2, 96, 224, 224]⟩
abbrev S12x96 : Shape := ⟨2, ![12, 96]⟩
abbrev S12 : Shape := ⟨1, ![12]⟩
abbrev S8x12 : Shape := ⟨2, ![8, 12]⟩
abbrev S8 : Shape := ⟨1, ![8]⟩
abbrev S_ : Shape := ⟨0, ![]⟩
abbrev S96x12 : Shape := ⟨2, ![96, 12]⟩
abbrev S1x12 : Shape := ⟨2, ![1, 12]⟩
abbrev S12x8 : Shape := ⟨2, ![12, 8]⟩
abbrev S1x8 : Shape := ⟨2, ![1, 8]⟩
abbrev S2x2 : Shape := ⟨2, ![2, 2]⟩
abbrev S2x96x32x224 : Shape := ⟨4, ![2, 96, 32, 224]⟩
abbrev S2x96 : Shape := ⟨2, ![2, 96]⟩
abbrev S2x12 : Shape := ⟨2, ![2, 12]⟩
abbrev S2x8 : Shape := ⟨2, ![2, 8]⟩
abbrev S2 : Shape := ⟨1, ![2]⟩
abbrev S2x1 : Shape := ⟨2, ![2, 1]⟩

abbrev nBuf : Space → Nat
  | .hbm => 25
  | .vmem => 11
  | .smem => 0
  | _ => 0

abbrev bufTy : (tb : Table) → Fin (tcTables nBuf tb) → BufTy
  | .hbm, ⟨0, _⟩ => ⟨S2x96x224x224, .f32⟩
  | .hbm, ⟨1, _⟩ => ⟨S12x96, .f32⟩
  | .hbm, ⟨2, _⟩ => ⟨S12, .f32⟩
  | .hbm, ⟨3, _⟩ => ⟨S12, .f32⟩
  | .hbm, ⟨4, _⟩ => ⟨S8x12, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S96x12, .f32⟩
  | .hbm, ⟨12, _⟩ => ⟨S_, .f32⟩
  | .hbm, ⟨13, _⟩ => ⟨S12, .f32⟩
  | .hbm, ⟨14, _⟩ => ⟨S12, .f32⟩
  | .hbm, ⟨15, _⟩ => ⟨S1x12, .f32⟩
  | .hbm, ⟨16, _⟩ => ⟨S1x12, .f32⟩
  | .hbm, ⟨17, _⟩ => ⟨S12x8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S1x8, .f32⟩
  | .hbm, ⟨22, _⟩ => ⟨S1x8, .f32⟩
  | .hbm, ⟨23, _⟩ => ⟨S2x2, .i32⟩
  | .hbm, ⟨24, _⟩ => ⟨S2x2, .f32⟩
  | .local _ .vmem, ⟨0, _⟩ => ⟨S2x96x32x224, .f32⟩
  | .local _ .vmem, ⟨1, _⟩ => ⟨S2x96x32x224, .f32⟩
  | .local _ .vmem, ⟨2, _⟩ => ⟨S96x12, .f32⟩
  | .local _ .vmem, ⟨3, _⟩ => ⟨S1x12, .f32⟩
  | .local _ .vmem, ⟨4, _⟩ => ⟨S1x12, .f32⟩
  | .local _ .vmem, ⟨5, _⟩ => ⟨S12x8, .f32⟩
  | .local _ .vmem, ⟨6, _⟩ => ⟨S1x8, .f32⟩
  | .local _ .vmem, ⟨7, _⟩ => ⟨S1x8, .f32⟩
  | .local _ .vmem, ⟨8, _⟩ => ⟨S2x2, .i32⟩
  | .local _ .vmem, ⟨9, _⟩ => ⟨S2x2, .f32⟩
  | .local _ .vmem, ⟨10, _⟩ => ⟨S2x96, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![7], ![false]⟩

def k0_cond3 (i : grid0.Coords) : BitVec 1 :=
  let arg0 : BitVec 32 := BitVec.ofNat 32 (i 0).val
  let c6_i32 : BitVec 32 := 6#32
  let v8 : BitVec 1 := Scalar.cmpi .eq arg0 c6_i32
  let v9 : BitVec 32 := Scalar.extui v8
  let c0_i32_6 : BitVec 32 := 0#32
  let v10 : BitVec 1 := Scalar.cmpi .ne v9 c0_i32_6
  v10

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x96x32x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RoutingIdeal.lean ====
variable {F : FTy → Type} [FloatOps F] [Named F]
def κ : String → Option EReal := fun
  | "inv_n" => some ((1 / 50176 : ℝ) : EReal)
  | _ => none
-- ==== RoutingReferenceIdeal.lean ====
abbrev S2x96x224x224 : Shape := ⟨4, ![2, 96, 224, 224]⟩
abbrev S12x96 : Shape := ⟨2, ![12, 96]⟩
abbrev S12 : Shape := ⟨1, ![12]⟩
abbrev S8x12 : Shape := ⟨2, ![8, 12]⟩
abbrev S8 : Shape := ⟨1, ![8]⟩
abbrev S_ : Shape := ⟨0, ![]⟩
abbrev S2x96 : Shape := ⟨2, ![2, 96]⟩
abbrev S96x12 : Shape := ⟨2, ![96, 12]⟩
abbrev S2x12 : Shape := ⟨2, ![2, 12]⟩
abbrev S1x12 : Shape := ⟨2, ![1, 12]⟩
abbrev S12x8 : Shape := ⟨2, ![12, 8]⟩
abbrev S2x8 : Shape := ⟨2, ![2, 8]⟩
abbrev S1x8 : Shape := ⟨2, ![1, 8]⟩
abbrev S2 : Shape := ⟨1, ![2]⟩
abbrev S2x1 : Shape := ⟨2, ![2, 1]⟩
abbrev S2x2 : Shape := ⟨2, ![2, 2]⟩

abbrev nBuf : Space → Nat
  | .hbm => 71
  | .vmem => 0
  | .smem => 0
  | _ => 0

abbrev bufTy : (tb : Table) → Fin (tcTables nBuf tb) → BufTy
  | .hbm, ⟨0, _⟩ => ⟨S2x96x224x224, .f32⟩
  | .hbm, ⟨1, _⟩ => ⟨S12x96, .f32⟩
  | .hbm, ⟨2, _⟩ => ⟨S12, .f32⟩
  | .hbm, ⟨3, _⟩ => ⟨S12, .f32⟩
  | .hbm, ⟨4, _⟩ => ⟨S8x12, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S2x96, .f32⟩
  | .hbm, ⟨9, _⟩ => ⟨S_, .f32⟩
  | .hbm, ⟨10, _⟩ => ⟨S2x96, .f32⟩
  | .hbm, ⟨11, _⟩ => ⟨S2x96, .f32⟩
  | .hbm, ⟨12, _⟩ => ⟨S96x12, .f32⟩
  | .hbm, ⟨13, _⟩ => ⟨S2x12, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S12, .f32⟩
  | .hbm, ⟨18, _⟩ => ⟨S12, .f32⟩
  | .hbm, ⟨19, _⟩ => ⟨S1x12, .f32⟩
  | .hbm, ⟨20, _⟩ => ⟨S2x12, .f32⟩
  | .hbm, ⟨21, _⟩ => ⟨S2x12, .f32⟩
  | .hbm, ⟨22, _⟩ => ⟨S1x12, .f32⟩
  | .hbm, ⟨23, _⟩ => ⟨S2x12, .f32⟩
  | .hbm, ⟨24, _⟩ => ⟨S2x12, .f32⟩
  | .hbm, ⟨25, _⟩ => ⟨S2x12, .f32⟩
  | .hbm, ⟨26, _⟩ => ⟨S2x12, .f32⟩
  | .hbm, ⟨27, _⟩ => ⟨S_, .f32⟩
  | .hbm, ⟨28, _⟩ => ⟨S2x12, .f32⟩
  | .hbm, ⟨29, _⟩ => ⟨S2x12, .f32⟩
  | .hbm, ⟨30, _⟩ => ⟨S_, .f32⟩
  | .hbm, ⟨31, _⟩ => ⟨S2x12, .f32⟩
  | .hbm, ⟨32, _⟩ => ⟨S2x12, .f32⟩
  | .hbm, ⟨33, _⟩ => ⟨S2x12, .f32⟩
  | .hbm, ⟨34, _⟩ => ⟨S12x8, .f32⟩
  | .hbm, ⟨35, _⟩ => ⟨S2x8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S1x8, .f32⟩
  | .hbm, ⟨42, _⟩ => ⟨S2x8, .f32⟩
  | .hbm, ⟨43, _⟩ => ⟨S2x8, .f32⟩
  | .hbm, ⟨44, _⟩ => ⟨S1x8, .f32⟩
  | .hbm, ⟨45, _⟩ => ⟨S2x8, .f32⟩
  | .hbm, ⟨46, _⟩ => ⟨S2x8, .f32⟩
  | .hbm, ⟨47, _⟩ => ⟨S_, .f32⟩
  | .hbm, ⟨48, _⟩ => ⟨S2, .f32⟩
  | .hbm, ⟨49, _⟩ => ⟨S_, .f32⟩
  | .hbm, ⟨50, _⟩ => ⟨S2, .f32⟩
  | .hbm, ⟨51, _⟩ => ⟨S2, .f32⟩
  | .hbm, ⟨52, _⟩ => ⟨S2x1, .f32⟩
  | .hbm, ⟨53, _⟩ => ⟨S2x8, .f32⟩
  | .hbm, ⟨54, _⟩ => ⟨S2x8, .f32⟩
  | .hbm, ⟨55, _⟩ => ⟨S2x8, .f32⟩
  | .hbm, ⟨56, _⟩ => ⟨S_, .f32⟩
  | .hbm, ⟨57, _⟩ => ⟨S2, .f32⟩
  | .hbm, ⟨58, _⟩ => ⟨S2x1, .f32⟩
  | .hbm, ⟨59, _⟩ => ⟨S2x8, .f32⟩
  | .hbm, ⟨60, _⟩ => ⟨S2x8, .f32⟩
  | .hbm, ⟨61, _⟩ => ⟨S2x2, .f32⟩
  | .hbm, ⟨62, _⟩ => ⟨S2x2, .i32⟩
  | .hbm, ⟨63, _⟩ => ⟨S_, .f32⟩
  | .hbm, ⟨64, _⟩ => ⟨S2, .f32⟩
  | .hbm, ⟨65, _⟩ => ⟨S2x1, .f32⟩
  | .hbm, ⟨66, _⟩ => ⟨S_, .f32⟩
  | .hbm, ⟨67, _⟩ => ⟨S2x1, .f32⟩
  | .hbm, ⟨68, _⟩ => ⟨S2x1, .f32⟩
  | .hbm, ⟨69, _⟩ => ⟨S2x2, .f32⟩
  | .hbm, ⟨70, _⟩ => ⟨S2x2, .f32⟩
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_values : Ref sig .tc := ⟨.hbm, 61, rfl⟩
abbrev main_indices : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Proof.Conv.Defs.lean ====
module

public import proofs.«01_k».proof.Proof.Gen.KernelIdeal.Frame
public import proofs.«01_k».proof.Proof.Gen.KernelIdeal.Skeleton
public import Idealize.ShloMosaic.Lib.MemrefSat
public import Idealize.ShloMosaic.Lib.VecWindow
public import Idealize.ShloMosaic.Lib.WholeRead
public import Idealize.ShloMosaic.Lib.ValueIdxCore
public import Idealize.ShloMosaic.Lib.ValueLayout

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

open Idealize.ShloMosaic.ValueIdx

/-! ## Vectors read at natural coordinates -/

/-- The zero of the kernel's constants. -/
def z0 : F .f32 := Scalar.ofBits .f32 0x00000000#32

/-- A rank-2 vector at natural coordinates, zero outside it. -/
def g2 {n0 n1 : ℕ} (x : Vec F ⟨2, ![n0, n1]⟩ .f32) (a b : ℕ) : F .f32 :=
  if h : a < n0 ∧ b < n1 then x (ix2 ⟨a, h.1⟩ ⟨b, h.2⟩) else z0

/-- A rank-3 vector at natural coordinates, zero outside it. -/
def g3 {n0 n1 n2 : ℕ} (x : Vec F ⟨3, ![n0, n1, n2]⟩ .f32) (a b c : ℕ) : F .f32 :=
  if h : a < n0 ∧ b < n1 ∧ c < n2 then x (ix3 ⟨a, h.1⟩ ⟨b, h.2.1⟩ ⟨c, h.2.2⟩) else z0

/-- A rank-4 vector at natural coordinates, zero outside it. -/
def g4 {n0 n1 n2 n3 : ℕ} (x : Vec F ⟨4, ![n0, n1, n2, n3]⟩ .f32) (a b c d : ℕ) : F .f32 :=
  if h : a < n0 ∧ b < n1 ∧ c < n2 ∧ d < n3 then x (ix4 ⟨a, h.1⟩ ⟨b, h.2.1⟩ ⟨c, h.2.2.1⟩ ⟨d, h.2.2.2⟩) else z0

/-- Inside the vector the reading is the element. -/
theorem g2_ix {n0 n1 : ℕ} (x : Vec F ⟨2, ![n0, n1]⟩ .f32) (a : Fin n0) (b : Fin n1) : g2 x a.val b.val = x (ix2 a b) := by
  unfold g2; rw [dif_pos ⟨a.isLt, b.isLt⟩]
/-- Inside the vector the reading is the element. -/
theorem g3_ix {n0 n1 n2 : ℕ} (x : Vec F ⟨3, ![n0, n1, n2]⟩ .f32) (a : Fin n0) (b : Fin n1) (c : Fin n2) :
    g3 x a.val b.val c.val = x (ix3 a b c) := by
  unfold g3; rw [dif_pos ⟨a.isLt, b.isLt, c.isLt⟩]
/-- Inside the vector the reading is the element. -/
theorem g4_ix {n0 n1 n2 n3 : ℕ} (x : Vec F ⟨4, ![n0, n1, n2, n3]⟩ .f32) (a : Fin n0) (b : Fin n1) (c : Fin n2) (d : Fin n3) :
    g4 x a.val b.val c.val d.val = x (ix4 a b c d) := by
  unfold g4; rw [dif_pos ⟨a.isLt, b.isLt, c.isLt, d.isLt⟩]
/-- At an index whose coordinates are known, the element is the reading there. -/
theorem at2 {n0 n1 : ℕ} (x : Vec F ⟨2, ![n0, n1]⟩ .f32) (y : (⟨2, ![n0, n1]⟩ : Shape).Idx) {a b : ℕ}
    (ha : (y 0).val = a) (hb : (y 1).val = b) : x y = g2 x a b := by
  subst ha hb; rw [eq_ix2 y]; exact (g2_ix x (y 0) (y 1)).symm
/-- At an index whose coordinates are known, the element is the reading there. -/
theorem at3 {n0 n1 n2 : ℕ} (x : Vec F ⟨3, ![n0, n1, n2]⟩ .f32) (y : (⟨3, ![n0, n1, n2]⟩ : Shape).Idx) {a b c : ℕ}
    (ha : (y 0).val = a) (hb : (y 1).val = b) (hc : (y 2).val = c) : x y = g3 x a b c := by
  subst ha hb hc; rw [eq_ix3 y]; exact (g3_ix x (y 0) (y 1) (y 2)).symm
/-- At an index whose coordinates are known, the element is the reading there. -/
theorem at4 {n0 n1 n2 n3 : ℕ} (x : Vec F ⟨4, ![n0, n1, n2, n3]⟩ .f32) (y : (⟨4, ![n0, n1, n2, n3]⟩ : Shape).Idx) {a b c d : ℕ}
    (ha : (y 0).val = a) (hb : (y 1).val = b) (hc : (y 2).val = c) (hd : (y 3).val = d) : x y = g4 x a b c d := by
  subst ha hb hc hd; rw [eq_ix4 y]; exact (g4_ix x (y 0) (y 1) (y 2) (y 3)).symm

/-! ## What the scratch buffers hold -/

/-- The element of the padded stripe at channel `ch` and flat position `q`: 60 rows of 256, the image's 56 rows from row 2 on,
    two rows of the neighbours (or zeros at the image's edges) above and below, zeros in the last 32 positions of a row. -/
def XSn (t : ℕ) (x4 : Vec F S1x96x56x224 .f32) (x5 x6 : Vec F S1x96x8x224 .f32) (ch q : ℕ) : F .f32 :=
  if 224 ≤ q % 256 then z0
  else if q / 256 < 2 then (if t = 0 then z0 else g4 x5 0 ch (6 + q / 256) (q % 256))
  else if q / 256 < 58 then g4 x4 0 ch (q / 256 - 2) (q % 256)
  else (if t = 3 then z0 else g4 x6 0 ch (q / 256 - 58) (q % 256))

/-- The padded stripe. -/
def XS (t : ℕ) (x4 : Vec F S1x96x56x224 .f32) (x5 x6 : Vec F S1x96x8x224 .f32) : Vec F S96x15360 .f32 :=
  fun y => XSn t x4 x5 x6 (y 0).val (y 1).val

/-- The last 32 positions of every row hold zero. -/
def PadZ (X : Vec F S96x15360 .f32) : Prop := ∀ y : S96x15360.Idx, 224 ≤ (y 1).val % 256 → X y = z0

/-- The first `n` rows of the block are in place, and the padding is zero. -/
def Rows (n : ℕ) (x4 : Vec F S1x96x56x224 .f32) (X : Vec F S96x15360 .f32) : Prop :=
  ∀ y : S96x15360.Idx, (224 ≤ (y 1).val % 256 → X y = z0) ∧
    ((y 1).val % 256 < 224 → 2 ≤ (y 1).val / 256 → (y 1).val / 256 < n + 2 → X y = g4 x4 0 (y 0).val ((y 1).val / 256 - 2) ((y 1).val % 256))

/-- The selected 3x3 weights: row `dx * 96 + k * 48 + o` of tap row `dy` is output channel `o` of the `k`-th chosen expert. -/
def W9S (e0 e1 : ℕ) (x7 : Vec F S8x9x48x96 .f32) : Vec F S3x288x96 .f32 :=
  fun y => g4 x7 (if (y 1).val % 96 < 48 then e0 else e1) (3 * (y 0).val + (y 1).val / 96) ((y 1).val % 48) (y 2).val

/-- The selected depthwise weights. -/
def WDS (e0 e1 : ℕ) (x9 : Vec F S8x48x9 .f32) : Vec F S96x9 .f32 :=
  fun y => g3 x9 (if (y 0).val < 48 then e0 else e1) ((y 0).val % 48) (y 1).val

/-- A selected bias column. -/
def SHS (e0 e1 : ℕ) (x8 : Vec F S8x48x1 .f32) : Vec F S96x1 .f32 :=
  fun y => g3 x8 (if (y 0).val < 48 then e0 else e1) ((y 0).val % 48) (y 1).val

/-- The first stage's output with the rows outside the image cleared. -/
def X1 (t : ℕ) (a : Vec F S96x14848 .f32) : Vec F S96x14848 .f32 :=
  fun y => if t = 0 ∧ (y 1).val < 256 then z0 else if t = 3 ∧ 14592 ≤ (y 1).val then z0 else a y

/-- The two halves of the weighted sum, one above the other. -/
def TB (a b : Vec F S48x14336 .f32) : Vec F S96x14336 .f32 :=
  fun y => if (y 0).val < 48 then g2 a (y 0).val (y 1).val else g2 b ((y 0).val - 48) (y 1).val

/-- The output block: row `r` is the flat stripe's positions `256 r` to `256 r + 223`. -/
def OUTB (X : Vec F S96x14336 .f32) : Vec F S1x96x56x224 .f32 :=
  fun y => g2 X (y 1).val (256 * (y 2).val + (y 3).val)

end Cert.KernelIdeal

end
-- ==== Proof.Conv.Rows.lean ====
module

public import proofs.«01_k».proof.Proof.Gen.KernelIdeal.Frame
public import proofs.«01_k».proof.Proof.Conv.Defs

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

open Idealize.ShloMosaic.ValueIdx

/-- One row of the block as the kernel loads and casts it. -/
def rowLoad (arg4 : Memref sig .tc .vmem S1x96x56x224 .f32) (harg4 : arg4.IsWhole) (x4 : Vec F S1x96x56x224 .f32) (off : Fin 4 → ℕ)
    (inb : ∀ a, off a + S1x96x1x224.size a ≤ S1x96x56x224.size a) : FVec F S96x224 .f32 :=
  shapeCast S96x224 (shapeCast S96x224 (arg4.view.readAt (Elt F) (Rect.unit (s := S1x96x56x224) off S1x96x1x224.size inb).toLoadRect (harg4.unread x4))
    shapeCasts_S1x96x1x224_S96x224) shapeCasts_S96x224_S96x224

/-- A `1 x 96 x 1 x 224` block cast to `96 x 224` keeps its elements. -/
theorem castRow_apply (v : Vec F S1x96x1x224 .f32) (ch : Fin 96) (c : Fin 224) :
    shapeCast S96x224 (shapeCast S96x224 v shapeCasts_S1x96x1x224_S96x224) shapeCasts_S96x224_S96x224 (ix2 ch c) = v (ix4 0 ch 0 c) := by
  rw [shapeCast_apply _ _ (ix2 ch c) (ix2 ch c) rfl]
  exact shapeCast_apply _ _ _ _ (by
    rw [Shape.rowMajor_val_four, Shape.rowMajor_val_two]
    show ((0 * 96 + ch.val) * 1 + 0) * 224 + c.val = ch.val * 224 + c.val
    omega)

/-- The loaded row at a channel and a column. -/
theorem rowLoad_apply (arg4 : Memref sig .tc .vmem S1x96x56x224 .f32) (harg4 : arg4.IsWhole) (x4 : Vec F S1x96x56x224 .f32) (n : ℕ)
    (inb : ∀ a, ![0, 0, n, 0] a + S1x96x1x224.size a ≤ S1x96x56x224.size a) (ch : Fin 96) (c : Fin 224) :
    rowLoad arg4 harg4 x4 ![0, 0, n, 0] inb (ix2 ch c) = g4 x4 0 ch.val n c.val := by
  unfold rowLoad
  rw [castRow_apply, Memref.IsWhole.readAt_unread]
  refine at4 _ _ ?_ ?_ ?_ ?_
  · rfl
  · show 0 + 1 * ch.val = ch.val; omega
  · show n + 1 * 0 = n; omega
  · show 0 + 1 * c.val = c.val; omega

/-- One more row stored. -/
theorem rows_step {sp : Space} (v : View sig .tc sp S96x15360 .f32) (f : v.ty.Contents (Elt F)) (L : List (View.Piece (Elt F) S96x15360 .f32)) (x4 : Vec F S1x96x56x224 .f32) (n : ℕ)
    (off : Fin 2 → ℕ) (inb : ∀ a, off a + S96x224.size a ≤ S96x15360.size a) (hoff : off = ![0, (n + 2) * 256])
    (w : FVec F S96x224 .f32) (hw : ∀ ch c, w (ix2 ch c) = g4 x4 0 ch.val n c.val)
    (h : Rows n x4 (v.read (Elt F) (v.writes (Elt F) f L))) :
    Rows (n + 1) x4 (v.read (Elt F) (v.writes (Elt F) f (⟨Rect.unit (s := S96x15360) off S96x224.size inb, w⟩ :: L))) := by
  intro y
  have hn : (n + 2) * 256 + 224 ≤ 15360 := by subst hoff; exact inb 1
  by_cases hin : (n + 2) * 256 ≤ (y 1).val ∧ (y 1).val < (n + 2) * 256 + 224
  · have hlt : (y 1).val - (n + 2) * 256 < 224 := by omega
    rw [View.read_writes_cons_unit_of_mem v f inb w L y (ix2 (y 0) ⟨(y 1).val - (n + 2) * 256, hlt⟩) hoff (fun a => by
      match a with
      | ⟨0, _⟩ => exact (Nat.zero_add _).symm
      | ⟨1, _⟩ => show (y 1).val = (n + 2) * 256 + ((y 1).val - (n + 2) * 256); omega)]
    have hd : (y 1).val / 256 = n + 2 := by omega
    have hm : (y 1).val % 256 = (y 1).val - (n + 2) * 256 := by omega
    refine ⟨fun hp => by omega, fun _ _ _ => ?_⟩
    rw [hd, hm]; exact hw (y 0) ⟨(y 1).val - (n + 2) * 256, hlt⟩
  · rw [View.read_writes_cons_unit_of_not_mem v f inb w L y hoff 1 (by
      show (y 1).val < (n + 2) * 256 ∨ (n + 2) * 256 + 224 ≤ (y 1).val; omega)]
    refine ⟨(h y).1, fun h1 h2 h3 => (h y).2 h1 h2 ?_⟩
    omega

set_option maxHeartbeats 8000000 in
/-- Copying rows 3 to 52 of the block. -/
theorem rows_spec (c : Dev nD) (i : grid0.Coords) (arg2 : Memref sig .tc .smem S2x2 .i32) (harg2 : arg2.IsWhole) (arg3 : Memref sig .tc .smem S2x2 .f32) (harg3 : arg3.IsWhole) (arg4 : Memref sig .tc .vmem S1x96x56x224 .f32) (harg4 : arg4.IsWhole) (arg5 : Memref sig .tc .vmem S1x96x8x224 .f32) (harg5 : arg5.IsWhole) (arg6 : Memref sig .tc .vmem S1x96x8x224 .f32) (harg6 : arg6.IsWhole) (arg7 : Memref sig .tc .vmem S8x9x48x96 .f32) (harg7 : arg7.IsWhole) (arg8 : Memref sig .tc .vmem S8x48x1 .f32) (harg8 : arg8.IsWhole) (arg9 : Memref sig .tc .vmem S8x48x9 .f32) (harg9 : arg9.IsWhole) (arg10 : Memref sig .tc .vmem S8x48x1 .f32) (harg10 : arg10.IsWhole) (arg11 : Memref sig .tc .vmem S1x96x56x224 .f32) (harg11 : arg11.IsWhole) (arg12 : Memref sig .tc .vmem S96x15360 .f32) (harg12 : arg12.IsWhole) (arg13 : Memref sig .tc .vmem S96x14848 .f32) (harg13 : arg13.IsWhole) (arg14 : Memref sig .tc .vmem S96x14336 .f32) (harg14 : arg14.IsWhole) (arg15 : Memref sig .tc .vmem S1x14848 .f32) (harg15 : arg15.IsWhole) (arg16 : Memref sig .tc .vmem S3x288x96 .f32) (harg16 : arg16.IsWhole) (arg17 : Memref sig .tc .vmem S96x9 .f32) (harg17 : arg17.IsWhole) (arg18 : Memref sig .tc .vmem S96x1 .f32) (harg18 : arg18.IsWhole) (arg19 : Memref sig .tc .vmem S96x1 .f32) (harg19 : arg19.IsWhole) (x4 : Vec F S1x96x56x224 .f32) (X : Vec F S96x15360 .f32) (hX : Rows 3 x4 X)
    (E : Set ℕ) {R : Type} (k : Prog (TpuEff nD τ sig (Elt F) Λ₀ .tc) R) (K : R → sProp 𝕄) :
    iprop(owns (c : Thread nD τ) arg4 fullShare x4 ∗ owns (c : Thread nD τ) arg12 fullShare X
      ∗ (iprop(owns (c : Thread nD τ) arg4 fullShare x4 ∗ ownsSat (c : Thread nD τ) arg12 fullShare (Rows 53 x4)) -∗ wp frame (wpE (defs₀ (F := F)) Variants.none c none) E k K))
    ⊢ wp frame (wpE (defs₀ (F := F)) Variants.none c none) E (do
        k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        k) K := by
  simp only [k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton]
  unfold owns ownsSat
  iintro ⟨⟨%f4, %hf4, H4⟩, ⟨%f12, %hf12, H12⟩, Hk⟩
  obtain rfl := harg4.eq_unread hf4; obtain rfl := harg12.eq_unread hf12
  sl_exec
  iapply Hk
  isplitl [H4]
  · iexists _; isplitr; · ipureintro; exact harg4.read_unread _
    iexact H4
  iexists _; isplitr; swap; · iexact H12
  ipureintro
  iterate 50 refine rows_step _ _ _ _ _ _ _ rfl _ (rowLoad_apply arg4 harg4 x4 _ _) ?_
  rw [View.writes_nil, harg12.read_unread]
  exact hX

end Cert.KernelIdeal

end
-- ==== Proof.Conv.Edge.lean ====
module

public import proofs.«01_k».proof.Proof.Gen.KernelIdeal.Frame
public import proofs.«01_k».proof.Proof.Conv.Rows

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

open Idealize.ShloMosaic.ValueIdx

/-- The rows in `S` agree with `G`, and the padding is zero. -/
def RowsBy (G : ℕ → ℕ → F .f32) (S : ℕ → Prop) (X : Vec F S96x15360 .f32) : Prop :=
  ∀ y : S96x15360.Idx, (224 ≤ (y 1).val % 256 → X y = z0) ∧ ((y 1).val % 256 < 224 → S ((y 1).val / 256) → X y = G (y 0).val (y 1).val)

/-- One more row stored, whichever it is. -/
theorem rowsBy_step {sp : Space} (v : View sig .tc sp S96x15360 .f32) (f : v.ty.Contents (Elt F)) (L : List (View.Piece (Elt F) S96x15360 .f32))
    (G : ℕ → ℕ → F .f32) (S : ℕ → Prop) (k : ℕ)
    (off : Fin 2 → ℕ) (inb : ∀ a, off a + S96x224.size a ≤ S96x15360.size a) (hoff : off = ![0, k * 256])
    (w : FVec F S96x224 .f32) (hw : ∀ ch c, w (ix2 ch c) = G ch.val (k * 256 + c.val))
    (h : RowsBy G S (v.read (Elt F) (v.writes (Elt F) f L))) :
    RowsBy G (fun r => r = k ∨ S r) (v.read (Elt F) (v.writes (Elt F) f (⟨Rect.unit (s := S96x15360) off S96x224.size inb, w⟩ :: L))) := by
  intro y
  have hn : k * 256 + 224 ≤ 15360 := by subst hoff; exact inb 1
  by_cases hin : k * 256 ≤ (y 1).val ∧ (y 1).val < k * 256 + 224
  · have hlt : (y 1).val - k * 256 < 224 := by omega
    rw [View.read_writes_cons_unit_of_mem v f inb w L y (ix2 (y 0) ⟨(y 1).val - k * 256, hlt⟩) hoff (fun a => by
      match a with
      | ⟨0, _⟩ => exact (Nat.zero_add _).symm
      | ⟨1, _⟩ => show (y 1).val = k * 256 + ((y 1).val - k * 256); omega)]
    refine ⟨fun hp => by omega, fun _ _ => (hw (y 0) ⟨(y 1).val - k * 256, hlt⟩).trans ?_⟩
    exact congrArg (G (y 0).val) (show k * 256 + ((y 1).val - k * 256) = (y 1).val by omega)
  · rw [View.read_writes_cons_unit_of_not_mem v f inb w L y hoff 1 (by
      show (y 1).val < k * 256 ∨ k * 256 + 224 ≤ (y 1).val; omega)]
    refine ⟨(h y).1, fun h1 h2 => (h y).2 h1 ?_⟩
    rcases h2 with h2 | h2
    · omega
    · exact h2

/-- The rows of the block in place are rows of the padded stripe. -/
theorem Rows.by {n t : ℕ} {x4 : Vec F S1x96x56x224 .f32} {X : Vec F S96x15360 .f32} (x5 x6 : Vec F S1x96x8x224 .f32) (hn : n ≤ 56) (h : Rows n x4 X) :
    RowsBy (XSn t x4 x5 x6) (fun r => 2 ≤ r ∧ r < n + 2) X := by
  intro y
  refine ⟨(h y).1, fun h1 h2 => ((h y).2 h1 h2.1 h2.2).trans ?_⟩
  have := h2.1; have := h2.2
  unfold XSn
  rw [if_neg (by omega), if_neg (by omega), if_pos (by omega)]

/-- All rows in place: the buffer holds the padded stripe. -/
theorem RowsBy.eq {t : ℕ} {x4 : Vec F S1x96x56x224 .f32} {x5 x6 : Vec F S1x96x8x224 .f32} {S : ℕ → Prop} {X : Vec F S96x15360 .f32}
    (h : RowsBy (XSn t x4 x5 x6) S X) (hS : ∀ r < 60, S r) : X = XS t x4 x5 x6 := by
  funext y
  have hy : (y 1).val < 15360 := (y 1).isLt
  by_cases hp : (y 1).val % 256 < 224
  · exact (h y).2 hp (hS _ (by omega))
  · refine ((h y).1 (by omega)).trans ?_
    unfold XS XSn; rw [if_pos (by omega)]

/-- A row of a neighbour's block as the kernel loads and casts it. -/
theorem edgeLoad_apply (arg5 : Memref sig .tc .vmem S1x96x8x224 .f32) (harg5 : arg5.IsWhole) (x5 : Vec F S1x96x8x224 .f32) (n : ℕ)
    (inb : ∀ a, ![0, 0, n, 0] a + S1x96x1x224.size a ≤ S1x96x8x224.size a) (ch : Fin 96) (c : Fin 224) :
    shapeCast S96x224 (shapeCast S96x224 (arg5.view.readAt (Elt F) (Rect.unit (s := S1x96x8x224) ![0, 0, n, 0] S1x96x1x224.size inb).toLoadRect (harg5.unread x5))
      shapeCasts_S1x96x1x224_S96x224) shapeCasts_S96x224_S96x224 (ix2 ch c) = g4 x5 0 ch.val n c.val := by
  rw [castRow_apply, Memref.IsWhole.readAt_unread]
  refine at4 _ _ ?_ ?_ ?_ ?_
  · rfl
  · show 0 + 1 * ch.val = ch.val; omega
  · show n + 1 * 0 = n; omega
  · show 0 + 1 * c.val = c.val; omega

section Loads
variable (t : ℕ) (x4 : Vec F S1x96x56x224 .f32) (x5 x6 : Vec F S1x96x8x224 .f32)

/-- The stripe's rows 2 to 57 are the block's. -/
theorem XSn_mid (ch k : ℕ) (hk : k < 56) (c : Fin 224) : XSn t x4 x5 x6 ch ((k + 2) * 256 + c.val) = g4 x4 0 ch k c.val := by
  have := c.isLt
  unfold XSn
  rw [if_neg (by omega), if_neg (by omega), if_pos (by omega), show ((k + 2) * 256 + c.val) / 256 - 2 = k by omega, show ((k + 2) * 256 + c.val) % 256 = c.val by omega]

/-- The stripe's rows 0 and 1 are the upper neighbour's last two, zero at the top of the image. -/
theorem XSn_top (ch k : ℕ) (hk : k < 2) (c : Fin 224) : XSn t x4 x5 x6 ch (k * 256 + c.val) = if t = 0 then z0 else g4 x5 0 ch (6 + k) c.val := by
  have := c.isLt
  unfold XSn
  rw [if_neg (by omega), if_pos (by omega), show (k * 256 + c.val) / 256 = k by omega, show (k * 256 + c.val) % 256 = c.val by omega]

/-- The stripe's rows 58 and 59 are the lower neighbour's first two, zero at the bottom of the image. -/
theorem XSn_bot (ch k : ℕ) (c : Fin 224) : XSn t x4 x5 x6 ch ((k + 58) * 256 + c.val) = if t = 3 then z0 else g4 x6 0 ch k c.val := by
  have := c.isLt
  unfold XSn
  rw [if_neg (by omega), if_neg (by omega), if_neg (by omega), show ((k + 58) * 256 + c.val) / 256 - 58 = k by omega, show ((k + 58) * 256 + c.val) % 256 = c.val by omega]
end Loads

/-- The condition "not the image's first stripe". -/
abbrev cTop (i : grid0.Coords) : Prop := (Scalar.cmpi .ne (Scalar.extui (Scalar.cmpi .sgt (BitVec.ofNat 32 (i 1).val) 0#32)) 0#32) = 1#1
/-- The condition "the image's first stripe". -/
abbrev cFst (i : grid0.Coords) : Prop := (Scalar.cmpi .ne (Scalar.extui (Scalar.cmpi .eq (BitVec.ofNat 32 (i 1).val) 0#32)) 0#32) = 1#1
/-- The condition "not the image's last stripe". -/
abbrev cBot (i : grid0.Coords) : Prop := (Scalar.cmpi .ne (Scalar.extui (Scalar.cmpi .slt (BitVec.ofNat 32 (i 1).val) 3#32)) 0#32) = 1#1
/-- The condition "the image's last stripe". -/
abbrev cLst (i : grid0.Coords) : Prop := (Scalar.cmpi .ne (Scalar.extui (Scalar.cmpi .eq (BitVec.ofNat 32 (i 1).val) 3#32)) 0#32) = 1#1

/-- The words compared as the numbers they stand for. -/
theorem stripe_words : ∀ n : Fin 4,
    ((Scalar.cmpi .ne (Scalar.extui (Scalar.cmpi .sgt (BitVec.ofNat 32 n.val) 0#32)) 0#32) = 1#1 ↔ 0 < n.val)
    ∧ ((Scalar.cmpi .ne (Scalar.extui (Scalar.cmpi .eq (BitVec.ofNat 32 n.val) 0#32)) 0#32) = 1#1 ↔ n.val = 0)
    ∧ ((Scalar.cmpi .ne (Scalar.extui (Scalar.cmpi .slt (BitVec.ofNat 32 n.val) 3#32)) 0#32) = 1#1 ↔ n.val < 3)
    ∧ ((Scalar.cmpi .ne (Scalar.extui (Scalar.cmpi .eq (BitVec.ofNat 32 n.val) 3#32)) 0#32) = 1#1 ↔ n.val = 3) := by
  decide +kernel

theorem cTop_iff (i : grid0.Coords) : cTop i ↔ 0 < (i 1).val := (stripe_words (i 1)).1
theorem cFst_iff (i : grid0.Coords) : cFst i ↔ (i 1).val = 0 := (stripe_words (i 1)).2.1
theorem cBot_iff (i : grid0.Coords) : cBot i ↔ (i 1).val < 3 := (stripe_words (i 1)).2.2.1
theorem cLst_iff (i : grid0.Coords) : cLst i ↔ (i 1).val = 3 := (stripe_words (i 1)).2.2.2

set_option maxHeartbeats 8000000 in
/-- The block's last three rows and the neighbours' rows: the buffer ends at the padded stripe. -/
theorem edge_spec (c : Dev nD) (i : grid0.Coords) (arg2 : Memref sig .tc .smem S2x2 .i32) (harg2 : arg2.IsWhole) (arg3 : Memref sig .tc .smem S2x2 .f32) (harg3 : arg3.IsWhole) (arg4 : Memref sig .tc .vmem S1x96x56x224 .f32) (harg4 : arg4.IsWhole) (arg5 : Memref sig .tc .vmem S1x96x8x224 .f32) (harg5 : arg5.IsWhole) (arg6 : Memref sig .tc .vmem S1x96x8x224 .f32) (harg6 : arg6.IsWhole) (arg7 : Memref sig .tc .vmem S8x9x48x96 .f32) (harg7 : arg7.IsWhole) (arg8 : Memref sig .tc .vmem S8x48x1 .f32) (harg8 : arg8.IsWhole) (arg9 : Memref sig .tc .vmem S8x48x9 .f32) (harg9 : arg9.IsWhole) (arg10 : Memref sig .tc .vmem S8x48x1 .f32) (harg10 : arg10.IsWhole) (arg11 : Memref sig .tc .vmem S1x96x56x224 .f32) (harg11 : arg11.IsWhole) (arg12 : Memref sig .tc .vmem S96x15360 .f32) (harg12 : arg12.IsWhole) (arg13 : Memref sig .tc .vmem S96x14848 .f32) (harg13 : arg13.IsWhole) (arg14 : Memref sig .tc .vmem S96x14336 .f32) (harg14 : arg14.IsWhole) (arg15 : Memref sig .tc .vmem S1x14848 .f32) (harg15 : arg15.IsWhole) (arg16 : Memref sig .tc .vmem S3x288x96 .f32) (harg16 : arg16.IsWhole) (arg17 : Memref sig .tc .vmem S96x9 .f32) (harg17 : arg17.IsWhole) (arg18 : Memref sig .tc .vmem S96x1 .f32) (harg18 : arg18.IsWhole) (arg19 : Memref sig .tc .vmem S96x1 .f32) (harg19 : arg19.IsWhole) (x4 : Vec F S1x96x56x224 .f32) (x5 x6 : Vec F S1x96x8x224 .f32)
    (X : Vec F S96x15360 .f32) (hX : Rows 53 x4 X)
    (E : Set ℕ) {R : Type} (k : Prog (TpuEff nD τ sig (Elt F) Λ₀ .tc) R) (K : R → sProp 𝕄) :
    iprop(owns (c : Thread nD τ) arg4 fullShare x4 ∗ owns (c : Thread nD τ) arg5 fullShare x5 ∗ owns (c : Thread nD τ) arg6 fullShare x6 ∗ owns (c : Thread nD τ) arg12 fullShare X
      ∗ (iprop(owns (c : Thread nD τ) arg4 fullShare x4 ∗ owns (c : Thread nD τ) arg5 fullShare x5 ∗ owns (c : Thread nD τ) arg6 fullShare x6
          ∗ owns (c : Thread nD τ) arg12 fullShare (XS (i 1).val x4 x5 x6)) -∗ wp frame (wpE (defs₀ (F := F)) Variants.none c none) E k K))
    ⊢ wp frame (wpE (defs₀ (F := F)) Variants.none c none) E (do
        k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val)
        k) K := by
  have hi : (i 1).val < 4 := (i 1).isLt
  simp only [k0_part15_eq_skeleton]
  unfold owns
  iintro ⟨⟨%f4, %hf4, H4⟩, ⟨%f5, %hf5, H5⟩, ⟨%f6, %hf6, H6⟩, ⟨%f12, %hf12, H12⟩, Hk⟩
  obtain rfl := harg4.eq_unread hf4; obtain rfl := harg5.eq_unread hf5; obtain rfl := harg6.eq_unread hf6; obtain rfl := harg12.eq_unread hf12
  have base : RowsBy (XSn (i 1).val x4 x5 x6) (fun r => 2 ≤ r ∧ r < 53 + 2) (arg12.view.read (Elt F) (arg12.view.writes (Elt F) (harg12.unread X) [])) := by
    rw [View.writes_nil, harg12.read_unread]; exact hX.by x5 x6 (by omega)
  have row : ∀ (n : ℕ) (hn : n < 56) (inb) ch c, rowLoad arg4 harg4 x4 ![0, 0, n, 0] inb (ix2 ch c) = XSn (i 1).val x4 x5 x6 ch.val ((n + 2) * 256 + c.val) := fun n hn inb ch c =>
    (rowLoad_apply arg4 harg4 x4 n inb ch c).trans (XSn_mid _ _ _ _ _ n hn c).symm
  have topZ : (i 1).val = 0 → ∀ (n : ℕ) (hn : n < 2) (ch : Fin 96) (c : Fin 224), (k0_pay72 (F := F)) (ix2 ch c) = XSn (i 1).val x4 x5 x6 ch.val (n * 256 + c.val) := fun h0 n hn ch c => by
    rw [XSn_top _ _ _ _ _ n hn, if_pos h0]; rfl
  have topL : (i 1).val ≠ 0 → ∀ (n : ℕ) (hn : n < 2) (inb : ∀ a, ![0, 0, 6 + n, 0] a + S1x96x1x224.size a ≤ S1x96x8x224.size a) (ch : Fin 96) (c : Fin 224), _ = XSn (i 1).val x4 x5 x6 ch.val (n * 256 + c.val) := fun h0 n hn inb ch c =>
    (edgeLoad_apply arg5 harg5 x5 (6 + n) inb ch c).trans (by rw [XSn_top _ _ _ _ _ n hn, if_neg h0])
  have botZ : (i 1).val = 3 → ∀ (n : ℕ) (ch : Fin 96) (c : Fin 224), (k0_pay72 (F := F)) (ix2 ch c) = XSn (i 1).val x4 x5 x6 ch.val ((n + 58) * 256 + c.val) := fun h3 n ch c => by
    rw [XSn_bot, if_pos h3]; rfl
  have botL : (i 1).val ≠ 3 → ∀ (n : ℕ) (inb : ∀ a, ![0, 0, n, 0] a + S1x96x1x224.size a ≤ S1x96x8x224.size a) (ch : Fin 96) (c : Fin 224), _ = XSn (i 1).val x4 x5 x6 ch.val ((n + 58) * 256 + c.val) := fun h3 n inb ch c =>
    (edgeLoad_apply arg6 harg6 x6 n inb ch c).trans (by rw [XSn_bot, if_neg h3])
  by_cases h0 : (i 1).val = 0
  · have h9 : (i 1).val ≠ 3 := by omega
    have h3 : ¬cTop i := by rw [cTop_iff]; omega
    have h4 : cFst i := by rw [cFst_iff]; omega
    have h5 : cBot i := by rw [cBot_iff]; omega
    have h6 : ¬cLst i := by rw [cLst_iff]; omega
    sl_exec (disch := first | sl_exact h3 | sl_exact h4 | sl_exact h5 | sl_exact h6)
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; swap; · iexact H12
    ipureintro
    refine RowsBy.eq (rowsBy_step _ _ _ _ _ 59 _ _ rfl _ (botL h9 1 _) (rowsBy_step _ _ _ _ _ 58 _ _ rfl _ (botL h9 0 _) (rowsBy_step _ _ _ _ _ 1 _ _ rfl _ (topZ h0 1 (by omega))
      (rowsBy_step _ _ _ _ _ 0 _ _ rfl _ (topZ h0 0 (by omega)) (rowsBy_step _ _ _ _ _ 57 _ _ rfl _ (row 55 (by omega) _) (rowsBy_step _ _ _ _ _ 56 _ _ rfl _ (row 54 (by omega) _)
      (rowsBy_step _ _ _ _ _ 55 _ _ rfl _ (row 53 (by omega) _) base))))))) ?_
    intro r hr; omega
  · by_cases h9 : (i 1).val = 3
    · have h3 : cTop i := by rw [cTop_iff]; omega
      have h4 : ¬cFst i := by rw [cFst_iff]; omega
      have h5 : ¬cBot i := by rw [cBot_iff]; omega
      have h6 : cLst i := by rw [cLst_iff]; omega
      sl_exec (disch := first | sl_exact h3 | sl_exact h4 | sl_exact h5 | sl_exact h6)
      iapply Hk
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      iexists _; isplitr; swap; · iexact H12
      ipureintro
      refine RowsBy.eq (rowsBy_step _ _ _ _ _ 59 _ _ rfl _ (botZ h9 1) (rowsBy_step _ _ _ _ _ 58 _ _ rfl _ (botZ h9 0) (rowsBy_step _ _ _ _ _ 1 _ _ rfl _ (topL h0 1 (by omega) _)
        (rowsBy_step _ _ _ _ _ 0 _ _ rfl _ (topL h0 0 (by omega) _) (rowsBy_step _ _ _ _ _ 57 _ _ rfl _ (row 55 (by omega) _) (rowsBy_step _ _ _ _ _ 56 _ _ rfl _ (row 54 (by omega) _)
        (rowsBy_step _ _ _ _ _ 55 _ _ rfl _ (row 53 (by omega) _) base))))))) ?_
      intro r hr; omega
    · have h3 : cTop i := by rw [cTop_iff]; omega
      have h4 : ¬cFst i := by rw [cFst_iff]; omega
      have h5 : cBot i := by rw [cBot_iff]; omega
      have h6 : ¬cLst i := by rw [cLst_iff]; omega
      sl_exec (disch := first | sl_exact h3 | sl_exact h4 | sl_exact h5 | sl_exact h6)
      iapply Hk
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      iexists _; isplitr; swap; · iexact H12
      ipureintro
      refine RowsBy.eq (rowsBy_step _ _ _ _ _ 59 _ _ rfl _ (botL h9 1 _) (rowsBy_step _ _ _ _ _ 58 _ _ rfl _ (botL h9 0 _) (rowsBy_step _ _ _ _ _ 1 _ _ rfl _ (topL h0 1 (by omega) _)
        (rowsBy_step _ _ _ _ _ 0 _ _ rfl _ (topL h0 0 (by omega) _) (rowsBy_step _ _ _ _ _ 57 _ _ rfl _ (row 55 (by omega) _) (rowsBy_step _ _ _ _ _ 56 _ _ rfl _ (row 54 (by omega) _)
        (rowsBy_step _ _ _ _ _ 55 _ _ rfl _ (row 53 (by omega) _) base))))))) ?_
      intro r hr; omega

end Cert.KernelIdeal

end
-- ==== Proof.Conv.Select.lean ====
module

public import proofs.«01_k».proof.Proof.Gen.KernelIdeal.Frame
public import proofs.«01_k».proof.Proof.Conv.Defs

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

open Idealize.ShloMosaic.ValueIdx

/-! ## The selected weights, element by element -/

/-- Two blocks of 48 rows stacked. -/
theorem vcat2 {n : ℕ} (x₁ x₂ : Vec F ⟨2, ![48, n]⟩ .f32) (h : Shape.Concatenates [(⟨2, ![48, n]⟩ : Shape), ⟨2, ![48, n]⟩] ⟨2, ![96, n]⟩ 0) (y : (⟨2, ![96, n]⟩ : Shape).Idx) :
    concatenate (⟨2, ![96, n]⟩ : Shape) 0 [⟨⟨2, ![48, n]⟩, x₁⟩, ⟨⟨2, ![48, n]⟩, x₂⟩] h y
      = if (y 0).val < 48 then g2 x₁ (y 0).val (y 1).val else g2 x₂ ((y 0).val - 48) (y 1).val := by
  have hy : (y 0).val < 96 := (y 0).isLt
  by_cases h0 : (y 0).val < 48
  · rw [if_pos h0]
    refine (concatenate_pair_apply_left _ x₁ x₂ h y rfl (ix2 ⟨(y 0).val, h0⟩ (y 1)) (fun b => by
      match b with
      | ⟨0, _⟩ => rfl
      | ⟨1, _⟩ => rfl)).trans (g2_ix x₁ ⟨(y 0).val, h0⟩ (y 1)).symm
  · have hlt : (y 0).val - 48 < 48 := by omega
    rw [if_neg h0]
    refine (concatenate_pair_apply_right _ x₁ x₂ h y rfl rfl (ix2 ⟨(y 0).val - 48, hlt⟩ (y 1)) (fun b hb => by
      match b, hb with
      | ⟨0, _⟩, hb => exact absurd rfl hb
      | ⟨1, _⟩, _ => rfl) (by show (y 0).val - 48 + 48 = (y 0).val; omega)).trans (g2_ix x₂ ⟨(y 0).val - 48, hlt⟩ (y 1)).symm

/-- Three blocks of 96 rows stacked. -/
theorem vcat3 (x : Fin 3 → Vec F S96x96 .f32) (y : S288x96.Idx) :
    concatenate S288x96 0 [⟨S96x96, x 0⟩, ⟨S96x96, x 1⟩, ⟨S96x96, x 2⟩] concatenates_S96x96_S96x96_S96x96_S288x96_d0 y
      = x ⟨(y 0).val / 96, by have : (y 0).val < 288 := (y 0).isLt; omega⟩ (ix2 ⟨(y 0).val % 96, by omega⟩ (y 1)) := by
  have hy : (y 0).val < 288 := (y 0).isLt
  have key : ∀ (k : ℕ) (hk : k < 3), (y 0).val / 96 = k → concatenate S288x96 0 [⟨S96x96, x 0⟩, ⟨S96x96, x 1⟩, ⟨S96x96, x 2⟩] concatenates_S96x96_S96x96_S96x96_S288x96_d0 y
      = x ⟨k, hk⟩ (ix2 ⟨(y 0).val % 96, by omega⟩ (y 1)) := fun k hk hd =>
    concatenate_apply_piece 0 [⟨S96x96, x 0⟩, ⟨S96x96, x 1⟩, ⟨S96x96, x 2⟩] concatenates_S96x96_S96x96_S96x96_S288x96_d0 y k hk S96x96 (x ⟨k, hk⟩) (by
      match k, hk with
      | 0, _ => rfl
      | 1, _ => rfl
      | 2, _ => rfl) rfl (96 * k) (by
      match k, hk with
      | 0, _ => rfl
      | 1, _ => rfl
      | 2, _ => rfl) _ (fun b hb => by
      match b, hb with
      | ⟨0, _⟩, hb => exact absurd rfl hb
      | ⟨1, _⟩, _ => rfl) (by show 96 * k + (y 0).val % 96 = (y 0).val; omega)
  exact key _ _ rfl

/-- A `1 x 1 x 48 x 96` block cast to a matrix. -/
theorem cast7_apply (v : Vec F S1x1x48x96 .f32) (a : Fin 48) (b : Fin 96) :
    shapeCast S48x96 v shapeCasts_S1x1x48x96_S48x96 (ix2 a b) = v (ix4 0 0 a b) :=
  shapeCast_apply _ _ _ _ (by
    rw [Shape.rowMajor_val_four, Shape.rowMajor_val_two]
    show ((0 * 1 + 0) * 48 + a.val) * 96 + b.val = a.val * 96 + b.val
    omega)

/-- A `1 x 48 x n` block cast to a matrix. -/
theorem cast9_apply {n : ℕ} (v : Vec F ⟨3, ![1, 48, n]⟩ .f32) (h : Shape.ShapeCasts ⟨3, ![1, 48, n]⟩ ⟨2, ![48, n]⟩) (a : Fin 48) (b : Fin n) :
    shapeCast (⟨2, ![48, n]⟩ : Shape) v h (ix2 a b) = v (ix3 0 a b) :=
  shapeCast_apply _ _ _ _ (by
    rw [Shape.rowMajor_val_three, Shape.rowMajor_val_two]
    show (0 * 48 + a.val) * n + b.val = a.val * n + b.val
    simp)

/-- The block of one expert and tap. -/
def wblk (x7 : Vec F S8x9x48x96 .f32) (e k : ℕ) : Vec F S1x1x48x96 .f32 := fun y => g4 x7 e k (y 2).val (y 3).val

/-- The matrix of one expert's depthwise weights, or a bias. -/
def vblk {n : ℕ} (x : Vec F ⟨3, ![8, 48, n]⟩ .f32) (e : ℕ) : Vec F ⟨3, ![1, 48, n]⟩ .f32 := fun y => g3 x e (y 1).val (y 2).val

/-- A block of the weights as it is loaded. -/
theorem wblk_load {sp : Space} (v : View sig .tc sp S8x9x48x96 .f32) (f : v.ty.Contents (Elt F)) (e k : ℕ) (off : Fin 4 → ℕ)
    (inb : ∀ a, off a + S1x1x48x96.size a ≤ S8x9x48x96.size a) (hoff : off = ![e, k, 0, 0]) :
    v.readAt (Elt F) (Rect.unit (s := S8x9x48x96) off S1x1x48x96.size inb).toLoadRect f = wblk (v.read (Elt F) f) e k := by
  subst hoff
  funext y
  have h0 : (y 0).val < 1 := (y 0).isLt
  have h1 : (y 1).val < 1 := (y 1).isLt
  refine at4 (v.read (Elt F) f) _ ?_ ?_ ?_ ?_
  · show e + 1 * (y 0).val = e; omega
  · show k + 1 * (y 1).val = k; omega
  · show 0 + 1 * (y 2).val = (y 2).val; omega
  · show 0 + 1 * (y 3).val = (y 3).val; omega

/-- A block of the depthwise weights or of a bias as it is loaded. -/
theorem vblk_load {n : ℕ} {sp : Space} (v : View sig .tc sp ⟨3, ![8, 48, n]⟩ .f32) (f : v.ty.Contents (Elt F)) (e : ℕ) (off : Fin 3 → ℕ)
    (inb : ∀ a, off a + (⟨3, ![1, 48, n]⟩ : Shape).size a ≤ (⟨3, ![8, 48, n]⟩ : Shape).size a) (hoff : off = ![e, 0, 0]) :
    v.readAt (Elt F) (Rect.unit (s := ⟨3, ![8, 48, n]⟩) off (⟨3, ![1, 48, n]⟩ : Shape).size inb).toLoadRect f = vblk (v.read (Elt F) f) e := by
  subst hoff
  funext y
  have h0 : (y 0).val < 1 := (y 0).isLt
  refine at3 (v.read (Elt F) f) _ ?_ ?_ ?_
  · show e + 1 * (y 0).val = e; omega
  · show 0 + 1 * (y 1).val = (y 1).val; omega
  · show 0 + 1 * (y 2).val = (y 2).val; omega

/-- Two experts' matrices stacked. -/
theorem pay5_apply (x7 : Vec F S8x9x48x96 .f32) (e0 e1 k : ℕ) (y : S96x96.Idx) :
    k0_pay5 (wblk x7 e0 k) (wblk x7 e1 k) y = g4 x7 (if (y 0).val < 48 then e0 else e1) k ((y 0).val % 48) (y 1).val := by
  have hy : (y 0).val < 96 := (y 0).isLt
  refine (vcat2 _ _ concatenates_S48x96_S48x96_S96x96_d0 y).trans ?_
  by_cases h0 : (y 0).val < 48
  · rw [if_pos h0, if_pos h0]
    refine (g2_ix _ ⟨(y 0).val, h0⟩ (y 1)).trans ((cast7_apply _ _ _).trans ?_)
    show g4 x7 e0 k (y 0).val (y 1).val = _
    rw [Nat.mod_eq_of_lt h0]
  · have hlt : (y 0).val - 48 < 48 := by omega
    rw [if_neg h0, if_neg h0]
    refine (g2_ix _ ⟨(y 0).val - 48, hlt⟩ (y 1)).trans ((cast7_apply _ _ _).trans ?_)
    show g4 x7 e1 k ((y 0).val - 48) (y 1).val = _
    rw [show (y 0).val % 48 = (y 0).val - 48 by omega]

/-- One tap row of the selected weights. -/
theorem pay3_apply (x7 : Vec F S8x9x48x96 .f32) (e0 e1 k : ℕ) (y : S1x288x96.Idx) :
    k0_pay3 (wblk x7 e0 (3 * k)) (wblk x7 e1 (3 * k)) (wblk x7 e0 (3 * k + 1)) (wblk x7 e1 (3 * k + 1)) (wblk x7 e0 (3 * k + 2)) (wblk x7 e1 (3 * k + 2)) y
      = g4 x7 (if (y 1).val % 96 < 48 then e0 else e1) (3 * k + (y 1).val / 96) ((y 1).val % 48) (y 2).val := by
  have hy : (y 1).val < 288 := (y 1).isLt
  have h0 : (y 0).val < 1 := (y 0).isLt
  have hP : ∀ P : Fin 3 → Vec F S96x96 .f32, shapeCast S1x288x96 (concatenate S288x96 0 [⟨S96x96, P 0⟩, ⟨S96x96, P 1⟩, ⟨S96x96, P 2⟩] concatenates_S96x96_S96x96_S96x96_S288x96_d0) shapeCasts_S288x96_S1x288x96 y
      = P ⟨(y 1).val / 96, by omega⟩ (ix2 ⟨(y 1).val % 96, by omega⟩ (y 2)) := fun P => by
    rw [shapeCast_apply _ _ y (ix2 (⟨(y 1).val, hy⟩ : Fin 288) (⟨(y 2).val, (y 2).isLt⟩ : Fin 96)) (by
      rw [Shape.rowMajor_val_three, Shape.rowMajor_val_two]
      show (y 1).val * 96 + (y 2).val = ((y 0).val * 288 + (y 1).val) * 96 + (y 2).val
      omega)]
    exact vcat3 P (ix2 (⟨(y 1).val, hy⟩ : Fin 288) (⟨(y 2).val, (y 2).isLt⟩ : Fin 96))
  refine (hP (fun j => k0_pay5 (wblk x7 e0 (3 * k + j.val)) (wblk x7 e1 (3 * k + j.val)))).trans ?_
  refine (pay5_apply x7 e0 e1 _ _).trans ?_
  show g4 x7 (if (y 1).val % 96 < 48 then e0 else e1) (3 * k + (y 1).val / 96) ((y 1).val % 96 % 48) (y 2).val = _
  rw [show (y 1).val % 96 % 48 = (y 1).val % 48 by omega]

/-- Two experts' vectors or depthwise weights stacked. -/
theorem stack_apply {n : ℕ} (x : Vec F ⟨3, ![8, 48, n]⟩ .f32) (e0 e1 : ℕ) (hc : Shape.ShapeCasts ⟨3, ![1, 48, n]⟩ ⟨2, ![48, n]⟩)
    (h : Shape.Concatenates [(⟨2, ![48, n]⟩ : Shape), ⟨2, ![48, n]⟩] ⟨2, ![96, n]⟩ 0) (y : (⟨2, ![96, n]⟩ : Shape).Idx) :
    concatenate (⟨2, ![96, n]⟩ : Shape) 0 [⟨⟨2, ![48, n]⟩, shapeCast (⟨2, ![48, n]⟩ : Shape) (vblk x e0) hc⟩, ⟨⟨2, ![48, n]⟩, shapeCast (⟨2, ![48, n]⟩ : Shape) (vblk x e1) hc⟩] h y
      = g3 x (if (y 0).val < 48 then e0 else e1) ((y 0).val % 48) (y 1).val := by
  have hy : (y 0).val < 96 := (y 0).isLt
  refine (vcat2 _ _ h y).trans ?_
  by_cases h0 : (y 0).val < 48
  · rw [if_pos h0, if_pos h0]
    refine (g2_ix _ ⟨(y 0).val, h0⟩ (y 1)).trans ((cast9_apply _ _ _ _).trans ?_)
    show g3 x e0 (y 0).val (y 1).val = _
    rw [Nat.mod_eq_of_lt h0]
  · have hlt : (y 0).val - 48 < 48 := by omega
    rw [if_neg h0, if_neg h0]
    refine (g2_ix _ ⟨(y 0).val - 48, hlt⟩ (y 1)).trans ((cast9_apply _ _ _ _).trans ?_)
    show g3 x e1 ((y 0).val - 48) (y 1).val = _
    rw [show (y 0).val % 48 = (y 0).val - 48 by omega]

/-- The stacked depthwise weights are the selection. -/
theorem pay7_eq (x9 : Vec F S8x48x9 .f32) (e0 e1 : ℕ) : k0_pay7 (vblk x9 e0) (vblk x9 e1) = WDS e0 e1 x9 :=
  funext fun y => (shapeCast_apply _ _ y y rfl).trans (stack_apply x9 e0 e1 _ _ y)

/-- The stacked bias is the selection. -/
theorem pay12_eq (x10 : Vec F S8x48x1 .f32) (e0 e1 : ℕ) : k0_pay12 (vblk x10 e0) (vblk x10 e1) = SHS e0 e1 x10 :=
  funext fun y => (shapeCast_apply _ _ y y rfl).trans (stack_apply x10 e0 e1 _ _ y)

/-- The first `n` tap rows of the selected weights are in place. -/
def TapRows (n e0 e1 : ℕ) (x7 : Vec F S8x9x48x96 .f32) (w : Vec F S3x288x96 .f32) : Prop := ∀ y : S3x288x96.Idx, (y 0).val < n → w y = W9S e0 e1 x7 y

/-- One more tap row stored. -/
theorem tapRows_step {sp : Space} (v : View sig .tc sp S3x288x96 .f32) (f : v.ty.Contents (Elt F)) (L : List (View.Piece (Elt F) S3x288x96 .f32)) (e0 e1 : ℕ)
    (x7 : Vec F S8x9x48x96 .f32) (n : ℕ) (inb : ∀ a, ![n, 0, 0] a + S1x288x96.size a ≤ S3x288x96.size a) (w : FVec F S1x288x96 .f32)
    (hw : w = k0_pay3 (wblk x7 e0 (3 * n)) (wblk x7 e1 (3 * n)) (wblk x7 e0 (3 * n + 1)) (wblk x7 e1 (3 * n + 1)) (wblk x7 e0 (3 * n + 2)) (wblk x7 e1 (3 * n + 2)))
    (h : TapRows n e0 e1 x7 (v.read (Elt F) (v.writes (Elt F) f L))) :
    TapRows (n + 1) e0 e1 x7 (v.read (Elt F) (v.writes (Elt F) f (⟨Rect.unit (s := S3x288x96) ![n, 0, 0] S1x288x96.size inb, w⟩ :: L))) := by
  intro y hy
  by_cases hin : (y 0).val = n
  · rw [View.read_writes_cons_unit_of_mem v f inb w L y (ix3 0 (y 1) (y 2)) rfl (fun a => by
      match a with
      | ⟨0, _⟩ => show (y 0).val = n + 0; omega
      | ⟨1, _⟩ => exact (Nat.zero_add _).symm
      | ⟨2, _⟩ => exact (Nat.zero_add _).symm), hw, pay3_apply]
    unfold W9S; rw [hin]
  · rw [View.read_writes_cons_unit_of_not_mem v f inb w L y rfl 0 (by
      show (y 0).val < n ∨ n + 1 ≤ (y 0).val; omega)]
    exact h y (by omega)

/-- With all three in place the buffer holds the selection. -/
theorem TapRows.eq {e0 e1 : ℕ} {x7 : Vec F S8x9x48x96 .f32} {w : Vec F S3x288x96 .f32} (h : TapRows 3 e0 e1 x7 w) : w = W9S e0 e1 x7 :=
  funext fun y => h y (y 0).isLt

/-- Whether a position is in a row's padding, as the kernel tests it. -/
theorem pad_word : ∀ q < 256, (BitVec.ofBool (BitVec.slt (BitVec.ofNat 32 q) 224#32)) = if q < 224 then 1#1 else 0#1 := by decide +kernel

/-- The padding test at a flat position. -/
theorem pad_test (q : ℕ) (hq : q < 2 ^ 32) : (IntOp.cmpi .slt (IntOp.andi (BitVec.ofNat 32 q) 255#32) 224#32 : BitVec 1) = if q % 256 < 224 then 1#1 else 0#1 := by
  have e : (IntOp.andi (BitVec.ofNat 32 q) 255#32 : BitVec 32) = BitVec.ofNat 32 (q % 256) := by
    apply BitVec.eq_of_toNat_eq
    show ((BitVec.ofNat 32 q) &&& 255#32).toNat = _
    rw [BitVec.toNat_and, BitVec.toNat_ofNat, BitVec.toNat_ofNat, BitVec.toNat_ofNat, Nat.mod_eq_of_lt hq, Nat.mod_eq_of_lt (by omega : 255 < 2 ^ 32), Nat.mod_eq_of_lt (by omega : q % 256 < 2 ^ 32)]
    exact Nat.and_two_pow_sub_one_eq_mod q 8
  rw [e]; exact pad_word _ (Nat.mod_lt _ (by omega))

/-- Clearing the padding clears it. -/
theorem pay9_pad (X : Vec F S96x15360 .f32) : PadZ (k0_pay9 X) := by
  intro y hy
  have h1 : (y 1).val < 15360 := (y 1).isLt
  show shapeCast S96x15360 (select (cmpi .slt (andi (iota .tc S96x15360 32 [1] iota_S96x15360_d1_w32) (broadcast S96x15360 255#32)) (broadcast S96x15360 224#32)) X (broadcast S96x15360 (Scalar.ofBits .f32 0x00000000#32))) shapeCasts_S96x15360_S96x15360 y = z0
  rw [shapeCast_apply _ _ y y rfl]
  show (if (IntOp.cmpi .slt (IntOp.andi (BitVec.ofNat 32 (0 * 15360 + (y 1).val)) 255#32) 224#32 : BitVec 1) = 1#1 then X y else z0) = z0
  rw [Nat.zero_mul, Nat.zero_add, pad_test _ (by omega), if_neg (by omega : ¬(y 1).val % 256 < 224)]; rfl

/-- The mask: one on the image's columns, zero on the padding. -/
theorem pay10_apply (y : S1x14848.Idx) : (k0_pay10 : FVec F S1x14848 .f32) y = if (y 1).val % 256 < 224 then Scalar.ofBits .f32 0x3F800000#32 else z0 := by
  have h1 : (y 1).val < 14848 := (y 1).isLt
  show shapeCast S1x14848 (select (cmpi .slt (andi (iota .tc S1x14848 32 [1] iota_S1x14848_d1_w32) (broadcast S1x14848 255#32)) (broadcast S1x14848 224#32)) (broadcast S1x14848 (Scalar.ofBits .f32 0x3F800000#32)) (broadcast S1x14848 (Scalar.ofBits .f32 0x00000000#32))) shapeCasts_S1x14848_S1x14848 y = if (y 1).val % 256 < 224 then Scalar.ofBits .f32 0x3F800000#32 else z0
  rw [shapeCast_apply _ _ y y rfl]
  show (if (IntOp.cmpi .slt (IntOp.andi (BitVec.ofNat 32 (0 * 14848 + (y 1).val)) 255#32) 224#32 : BitVec 1) = 1#1 then (Scalar.ofBits .f32 0x3F800000#32 : F .f32) else z0) = _
  rw [Nat.zero_mul, Nat.zero_add, pad_test _ (by omega)]
  by_cases h : (y 1).val % 256 < 224
  · rw [if_pos h, if_pos h, if_pos rfl]
  · rw [if_neg h, if_neg h, if_neg (by decide)]

end Cert.KernelIdeal

end
-- ==== Proof.Conv.Setup.lean ====
module

public import proofs.«01_k».proof.Proof.Gen.KernelIdeal.Frame
public import proofs.«01_k».proof.Proof.Conv.Edge
public import proofs.«01_k».proof.Proof.Conv.Select

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

open Idealize.ShloMosaic.ValueIdx

/-! ## The set-up at a batch's first stripe, and the first three rows -/

/-- Expert `e` and tap `k` name a block of the weights. -/
theorem inb7 {e k : ℕ} (he : e < 8) (hk : k < 9) : ∀ a, (![e, k, 0, 0] : Fin 4 → ℕ) a + S1x1x48x96.size a ≤ S8x9x48x96.size a := by
  intro a
  match a with
  | ⟨0, _⟩ => show e + 1 ≤ 8; omega
  | ⟨1, _⟩ => show k + 1 ≤ 9; omega
  | ⟨2, _⟩ => show 0 + 48 ≤ 48; omega
  | ⟨3, _⟩ => show 0 + 96 ≤ 96; omega

/-- Expert `e` names a block of the depthwise weights. -/
theorem inb9 {e : ℕ} (he : e < 8) : ∀ a, (![e, 0, 0] : Fin 3 → ℕ) a + S1x48x9.size a ≤ S8x48x9.size a := by
  intro a
  match a with
  | ⟨0, _⟩ => show e + 1 ≤ 8; omega
  | ⟨1, _⟩ => show 0 + 48 ≤ 48; omega
  | ⟨2, _⟩ => show 0 + 9 ≤ 9; omega

/-- Expert `e` names a block of a bias. -/
theorem inb8 {e : ℕ} (he : e < 8) : ∀ a, (![e, 0, 0] : Fin 3 → ℕ) a + S1x48x1.size a ≤ S8x48x1.size a := by
  intro a
  match a with
  | ⟨0, _⟩ => show e + 1 ≤ 8; omega
  | ⟨1, _⟩ => show 0 + 48 ≤ 48; omega
  | ⟨2, _⟩ => show 0 + 1 ≤ 1; omega

/-- A word below 8 passes the first range check. -/
theorem chk1_of_lt (i : grid0.Coords) (w : BitVec 32) (h : w.toNat < 8) : k0_chk1 i w :=
  ⟨fun _ => inb7 (k := 0) h (by omega), fun _ => inb7 (k := 1) h (by omega), fun _ => inb7 (k := 2) h (by omega), fun _ => inb7 (k := 3) h (by omega),
   fun _ => inb7 (k := 4) h (by omega), fun _ => inb7 (k := 5) h (by omega), fun _ => inb7 (k := 6) h (by omega), fun _ => inb7 (k := 7) h (by omega),
   fun _ => inb7 (k := 8) h (by omega), fun _ => inb9 h, fun _ => inb8 h⟩

/-- A word below 8 passes the second range check. -/
theorem chk2_of_lt (i : grid0.Coords) (w : BitVec 32) (h : w.toNat < 8) : k0_chk2 i w :=
  ⟨fun _ => inb7 (k := 0) h (by omega), fun _ => inb7 (k := 1) h (by omega), fun _ => inb7 (k := 2) h (by omega), fun _ => inb7 (k := 3) h (by omega),
   fun _ => inb7 (k := 4) h (by omega), fun _ => inb7 (k := 5) h (by omega), fun _ => inb7 (k := 6) h (by omega), fun _ => inb7 (k := 7) h (by omega),
   fun _ => inb7 (k := 8) h (by omega), fun _ => inb9 h, fun _ => inb8 h⟩

/-- The body's test for the very first point, as it is printed. -/
abbrev cZero (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- The two printed tests in arithmetic. -/
theorem setup_words : ∀ (a : Fin 2) (n : Fin 4),
    ((Scalar.cmpi .ne (Scalar.extui (Scalar.andi (Scalar.cmpi .eq (BitVec.ofNat 32 a.val) 0#32) (Scalar.cmpi .eq (BitVec.ofNat 32 n.val) 0#32))) 0#32) = 1#1 ↔ a.val = 0 ∧ n.val = 0) := by
  decide +kernel
theorem cZero_iff (i : grid0.Coords) : cZero i ↔ (i 0).val = 0 ∧ (i 1).val = 0 := setup_words (i 0) (i 1)
theorem cond2_iff (i : grid0.Coords) : k0_cond2 i = 1#1 ↔ (i 1).val = 0 := cFst_iff i

/-- The word (or number) of a batch in a 2 x 2 table. -/
def cell {e : EltTy} (x : Vec F S2x2 e) (i : grid0.Coords) (k : Fin 2) : Elt F e := x (ix2 ⟨(i 0).val, (i 0).isLt⟩ k)

/-- A batch index survives the passage through a word. -/
theorem batch_word : ∀ a : Fin 2, (BitVec.ofNat 32 a.val).toNat = a.val := by decide

/-- A cell of a table as it is read. -/
theorem cell_load {e : EltTy} {sp : Space} (v : View sig .tc sp S2x2 e) (f : v.ty.Contents (Elt F)) (i : grid0.Coords) (k : Fin 2) (off : Fin 2 → ℕ)
    (inb : ∀ a, off a + S1x1.size a ≤ S2x2.size a) (hoff : off = ![(BitVec.ofNat 32 (i 0).val).toNat, k.val]) (y : S1x1.Idx) :
    v.readAt (Elt F) (Rect.unit (s := S2x2) off S1x1.size inb).toLoadRect f y = cell (v.read (Elt F) f) i k := by
  subst hoff
  have h0 : (y 0).val < 1 := (y 0).isLt
  have h1 : (y 1).val < 1 := (y 1).isLt
  refine congrArg (v.read (Elt F) f) (funext fun a => Fin.ext ?_)
  match a with
  | ⟨0, _⟩ =>
    show (BitVec.ofNat 32 (i 0).val).toNat + 1 * (y 0).val = (i 0).val
    rw [batch_word (i 0)]; omega
  | ⟨1, _⟩ => show k.val + 1 * (y 1).val = k.val; omega

/-- Where a loaded word points in the weights. -/
theorem off4_at {off : BitVec 32 → Fin 4 → ℕ} {k e : ℕ} (hoff : ∀ w, off w = ![w.toNat, k, 0, 0]) {W : BitVec 32} (hW : W.toNat = e) : off W = ![e, k, 0, 0] := by
  rw [hoff, hW]

/-- Where a loaded word points in the depthwise weights or a bias. -/
theorem off3_at {off : BitVec 32 → Fin 3 → ℕ} {e : ℕ} (hoff : ∀ w, off w = ![w.toNat, 0, 0]) {W : BitVec 32} (hW : W.toNat = e) : off W = ![e, 0, 0] := by
  rw [hoff, hW]

/-- Equal blocks give equal tap rows. -/
theorem pay3_congr {a b c d e g a' b' c' d' e' g' : Vec F S1x1x48x96 .f32} (h1 : a = a') (h2 : b = b') (h3 : c = c') (h4 : d = d') (h5 : e = e') (h6 : g = g') :
    k0_pay3 a b c d e g = k0_pay3 a' b' c' d' e' g' := by subst h1 h2 h3 h4 h5 h6; rfl

/-- A buffer with clean padding has its first no rows in place. -/
theorem PadZ.rows {X : Vec F S96x15360 .f32} (x4 : Vec F S1x96x56x224 .f32) (h : PadZ X) : Rows 0 x4 X := fun y => ⟨h y, fun _ h1 h2 => by omega⟩

set_option maxHeartbeats 8000000 in
/-- The set-up and the first three rows. -/
theorem setup_spec (c : Dev nD) (i : grid0.Coords) (arg2 : Memref sig .tc .smem S2x2 .i32) (harg2 : arg2.IsWhole) (arg3 : Memref sig .tc .smem S2x2 .f32) (harg3 : arg3.IsWhole) (arg4 : Memref sig .tc .vmem S1x96x56x224 .f32) (harg4 : arg4.IsWhole) (arg5 : Memref sig .tc .vmem S1x96x8x224 .f32) (harg5 : arg5.IsWhole) (arg6 : Memref sig .tc .vmem S1x96x8x224 .f32) (harg6 : arg6.IsWhole) (arg7 : Memref sig .tc .vmem S8x9x48x96 .f32) (harg7 : arg7.IsWhole) (arg8 : Memref sig .tc .vmem S8x48x1 .f32) (harg8 : arg8.IsWhole) (arg9 : Memref sig .tc .vmem S8x48x9 .f32) (harg9 : arg9.IsWhole) (arg10 : Memref sig .tc .vmem S8x48x1 .f32) (harg10 : arg10.IsWhole) (arg11 : Memref sig .tc .vmem S1x96x56x224 .f32) (harg11 : arg11.IsWhole) (arg12 : Memref sig .tc .vmem S96x15360 .f32) (harg12 : arg12.IsWhole) (arg13 : Memref sig .tc .vmem S96x14848 .f32) (harg13 : arg13.IsWhole) (arg14 : Memref sig .tc .vmem S96x14336 .f32) (harg14 : arg14.IsWhole) (arg15 : Memref sig .tc .vmem S1x14848 .f32) (harg15 : arg15.IsWhole) (arg16 : Memref sig .tc .vmem S3x288x96 .f32) (harg16 : arg16.IsWhole) (arg17 : Memref sig .tc .vmem S96x9 .f32) (harg17 : arg17.IsWhole) (arg18 : Memref sig .tc .vmem S96x1 .f32) (harg18 : arg18.IsWhole) (arg19 : Memref sig .tc .vmem S96x1 .f32) (harg19 : arg19.IsWhole) (x2 : Vec F S2x2 .i32) (x3 : Vec F S2x2 .f32) (x4 : Vec F S1x96x56x224 .f32)
    (x7 : Vec F S8x9x48x96 .f32) (x8 : Vec F S8x48x1 .f32) (x9 : Vec F S8x48x9 .f32) (x10 : Vec F S8x48x1 .f32)
    (X : Vec F S96x15360 .f32) (x15 : Vec F S1x14848 .f32) (x16 : Vec F S3x288x96 .f32) (x17 : Vec F S96x9 .f32) (x18 x19 : Vec F S96x1 .f32)
    (h2 : ∀ y, (x2 y : BitVec 32).toNat < 8)
    (hX : ¬((i 0).val = 0 ∧ (i 1).val = 0) → PadZ X ∧ x15 = k0_pay10)
    (hS : (i 1).val ≠ 0 → x16 = W9S (cell x2 i 0 : BitVec 32).toNat (cell x2 i 1 : BitVec 32).toNat x7 ∧ x17 = WDS (cell x2 i 0 : BitVec 32).toNat (cell x2 i 1 : BitVec 32).toNat x9
      ∧ x18 = SHS (cell x2 i 0 : BitVec 32).toNat (cell x2 i 1 : BitVec 32).toNat x8 ∧ x19 = SHS (cell x2 i 0 : BitVec 32).toNat (cell x2 i 1 : BitVec 32).toNat x10)
    (E : Set ℕ) {R : Type} (k : (Σ' (arg1 : BitVec 32) (v1 : Elt F .f32), Elt F .f32) → Prog (TpuEff nD τ sig (Elt F) Λ₀ .tc) R) (K : R → sProp 𝕄) :
    iprop(owns (c : Thread nD τ) arg2 fullShare x2
      ∗ owns (c : Thread nD τ) arg3 fullShare x3
      ∗ owns (c : Thread nD τ) arg4 fullShare x4
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg12 fullShare X
      ∗ owns (c : Thread nD τ) arg15 fullShare x15
      ∗ owns (c : Thread nD τ) arg16 fullShare x16
      ∗ owns (c : Thread nD τ) arg17 fullShare x17
      ∗ owns (c : Thread nD τ) arg18 fullShare x18
      ∗ owns (c : Thread nD τ) arg19 fullShare x19
      ∗ (iprop(owns (c : Thread nD τ) arg2 fullShare x2
      ∗ owns (c : Thread nD τ) arg3 fullShare x3
      ∗ owns (c : Thread nD τ) arg4 fullShare x4
      ∗ owns (c : Thread nD τ) arg7 fullShare x7
      ∗ owns (c : Thread nD τ) arg8 fullShare x8
      ∗ owns (c : Thread nD τ) arg9 fullShare x9
      ∗ owns (c : Thread nD τ) arg10 fullShare x10
      ∗ ownsSat (c : Thread nD τ) arg12 fullShare (Rows 3 x4)
      ∗ owns (c : Thread nD τ) arg15 fullShare k0_pay10
      ∗ owns (c : Thread nD τ) arg16 fullShare (W9S (cell x2 i 0 : BitVec 32).toNat (cell x2 i 1 : BitVec 32).toNat x7)
      ∗ owns (c : Thread nD τ) arg17 fullShare (WDS (cell x2 i 0 : BitVec 32).toNat (cell x2 i 1 : BitVec 32).toNat x9)
      ∗ owns (c : Thread nD τ) arg18 fullShare (SHS (cell x2 i 0 : BitVec 32).toNat (cell x2 i 1 : BitVec 32).toNat x8)
      ∗ owns (c : Thread nD τ) arg19 fullShare (SHS (cell x2 i 0 : BitVec 32).toNat (cell x2 i 1 : BitVec 32).toNat x10)) -∗ wp frame (wpE (defs₀ (F := F)) Variants.none c none) E (k ⟨BitVec.ofNat 32 (i 1).val, cell x3 i 0, cell x3 i 1⟩) K))
    ⊢ wp frame (wpE (defs₀ (F := F)) Variants.none c none) E ((k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 : Prog (TpuEff nD τ sig (Elt F) Λ₀ .tc) _) >>= k) K := by
  simp only [k0_part4_eq_skeleton, k0_part1_eq_skeleton, k0_part2_eq_skeleton, k0_part3_eq_skeleton]
  unfold owns ownsSat
  iintro ⟨⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩, ⟨%f12, %hf12, H12⟩, ⟨%f15, %hf15, H15⟩, ⟨%f16, %hf16, H16⟩, ⟨%f17, %hf17, H17⟩, ⟨%f18, %hf18, H18⟩, ⟨%f19, %hf19, H19⟩, Hk⟩
  obtain rfl := harg4.eq_unread hf4
  have hrd : ∀ (r : LoadRect S2x2) (y), (arg2.view.readAt (Elt F) r f2 y : BitVec 32).toNat < 8 := fun r y => by
    subst hf2; exact h2 _
  have hW0 : ∀ (off : Fin 2 → ℕ) (inb) (hoff : off = ![(BitVec.ofNat 32 (i 0).val).toNat, 0]) (y), (arg2.view.readAt (Elt F) (Rect.unit (s := S2x2) off S1x1.size inb).toLoadRect f2 y : BitVec 32).toNat = (cell x2 i 0 : BitVec 32).toNat := fun off inb hoff y => by
    subst hf2; exact congrArg BitVec.toNat (cell_load arg2.view f2 i 0 off inb hoff y)
  have hW1 : ∀ (off : Fin 2 → ℕ) (inb) (hoff : off = ![(BitVec.ofNat 32 (i 0).val).toNat, 1]) (y), (arg2.view.readAt (Elt F) (Rect.unit (s := S2x2) off S1x1.size inb).toLoadRect f2 y : BitVec 32).toNat = (cell x2 i 1 : BitVec 32).toNat := fun off inb hoff y => by
    subst hf2; exact congrArg BitVec.toNat (cell_load arg2.view f2 i 1 off inb hoff y)
  have hp : ∀ (Z Z' : Elt F .f32), Z = cell (arg3.view.read (Elt F) f3) i 0 → Z' = cell (arg3.view.read (Elt F) f3) i 1 → Z = cell x3 i 0 ∧ Z' = cell x3 i 1 := fun Z Z' h h' => by
    rw [h, h', hf3]; exact ⟨rfl, rfl⟩
  by_cases h0 : (i 1).val = 0
  · have c2 : k0_cond2 i = 1#1 := by rw [cond2_iff]; exact h0
    by_cases hb : (i 0).val = 0
    · have c1 : cZero i := by rw [cZero_iff]; exact ⟨hb, h0⟩
      sl_exec (disch := first | sl_exact c1 | sl_exact c2 | exact chk1_of_lt i _ (hrd _ _) | exact chk2_of_lt i _ (hrd _ _))
      generalize hZ0 : setup_spec.sl.r (F := F) _ _ _ _ = Z0
      generalize hZ1 : setup_spec.sl.r_1 (F := F) _ _ _ _ = Z1
      obtain ⟨e0, e1⟩ := hp Z0 Z1 (hZ0.symm.trans (cell_load arg3.view f3 i 0 _ _ rfl _)) (hZ1.symm.trans (cell_load arg3.view f3 i 1 _ _ rfl _))
      rw [e0, e1]
      iapply Hk
      isplitl [H2]
      · iexists _; isplitr; swap; · iexact H2
        ipureintro
        exact hf2
      isplitl [H3]
      · iexists _; isplitr; swap; · iexact H3
        ipureintro
        exact hf3
      isplitl [H4]
      · iexists _; isplitr; swap; · iexact H4
        ipureintro
        exact harg4.read_unread _
      isplitl [H7]
      · iexists _; isplitr; swap; · iexact H7
        ipureintro
        exact hf7
      isplitl [H8]
      · iexists _; isplitr; swap; · iexact H8
        ipureintro
        exact hf8
      isplitl [H9]
      · iexists _; isplitr; swap; · iexact H9
        ipureintro
        exact hf9
      isplitl [H10]
      · iexists _; isplitr; swap; · iexact H10
        ipureintro
        exact hf10
      isplitl [H12]
      · iexists _; isplitr; swap; · iexact H12
        ipureintro
        iterate 3 refine rows_step _ _ _ _ _ _ _ rfl _ (rowLoad_apply arg4 harg4 x4 _ _) ?_
        rw [View.read_writes_full]
        exact (pay9_pad _).rows x4
      isplitl [H15]
      · iexists _; isplitr; swap; · iexact H15
        ipureintro
        rw [View.read_writes_full]
      isplitl [H16]
      · iexists _; isplitr; swap; · iexact H16
        ipureintro
        subst hf7
        apply TapRows.eq
        refine tapRows_step _ _ _ _ _ _ 2 _ _ (pay3_congr (wblk_load arg7.view f7 _ _ _ _ (off4_at (k := 6) (off := k0_off17) (fun _ => rfl) (hW0 _ _ rfl _))) (wblk_load arg7.view f7 _ _ _ _ (off4_at (k := 6) (off := k0_off18) (fun _ => rfl) (hW1 _ _ rfl _))) (wblk_load arg7.view f7 _ _ _ _ (off4_at (k := 7) (off := k0_off19) (fun _ => rfl) (hW0 _ _ rfl _))) (wblk_load arg7.view f7 _ _ _ _ (off4_at (k := 7) (off := k0_off20) (fun _ => rfl) (hW1 _ _ rfl _))) (wblk_load arg7.view f7 _ _ _ _ (off4_at (k := 8) (off := k0_off21) (fun _ => rfl) (hW0 _ _ rfl _))) (wblk_load arg7.view f7 _ _ _ _ (off4_at (k := 8) (off := k0_off22) (fun _ => rfl) (hW1 _ _ rfl _)))) ?_
        refine tapRows_step _ _ _ _ _ _ 1 _ _ (pay3_congr (wblk_load arg7.view f7 _ _ _ _ (off4_at (k := 3) (off := k0_off11) (fun _ => rfl) (hW0 _ _ rfl _))) (wblk_load arg7.view f7 _ _ _ _ (off4_at (k := 3) (off := k0_off12) (fun _ => rfl) (hW1 _ _ rfl _))) (wblk_load arg7.view f7 _ _ _ _ (off4_at (k := 4) (off := k0_off13) (fun _ => rfl) (hW0 _ _ rfl _))) (wblk_load arg7.view f7 _ _ _ _ (off4_at (k := 4) (off := k0_off14) (fun _ => rfl) (hW1 _ _ rfl _))) (wblk_load arg7.view f7 _ _ _ _ (off4_at (k := 5) (off := k0_off15) (fun _ => rfl) (hW0 _ _ rfl _))) (wblk_load arg7.view f7 _ _ _ _ (off4_at (k := 5) (off := k0_off16) (fun _ => rfl) (hW1 _ _ rfl _)))) ?_
        refine tapRows_step _ _ _ _ _ _ 0 _ _ (pay3_congr (wblk_load arg7.view f7 _ _ _ _ (off4_at (k := 0) (off := k0_off5) (fun _ => rfl) (hW0 _ _ rfl _))) (wblk_load arg7.view f7 _ _ _ _ (off4_at (k := 0) (off := k0_off6) (fun _ => rfl) (hW1 _ _ rfl _))) (wblk_load arg7.view f7 _ _ _ _ (off4_at (k := 1) (off := k0_off7) (fun _ => rfl) (hW0 _ _ rfl _))) (wblk_load arg7.view f7 _ _ _ _ (off4_at (k := 1) (off := k0_off8) (fun _ => rfl) (hW1 _ _ rfl _))) (wblk_load arg7.view f7 _ _ _ _ (off4_at (k := 2) (off := k0_off9) (fun _ => rfl) (hW0 _ _ rfl _))) (wblk_load arg7.view f7 _ _ _ _ (off4_at (k := 2) (off := k0_off10) (fun _ => rfl) (hW1 _ _ rfl _)))) ?_
        intro y hy; omega
      isplitl [H17]
      · iexists _; isplitr; swap; · iexact H17
        ipureintro
        subst hf9
        rw [View.read_writes_full]
        exact (congrArg₂ k0_pay7 (vblk_load arg9.view f9 _ _ _ (off3_at (off := k0_off23) (fun _ => rfl) (hW0 _ _ rfl _))) (vblk_load arg9.view f9 _ _ _ (off3_at (off := k0_off24) (fun _ => rfl) (hW1 _ _ rfl _)))).trans (pay7_eq _ _ _)
      isplitl [H18]
      · iexists _; isplitr; swap; · iexact H18
        ipureintro
        subst hf8
        rw [View.read_writes_full]
        exact (congrArg₂ k0_pay12 (vblk_load arg8.view f8 _ _ _ (off3_at (off := k0_off25) (fun _ => rfl) (hW0 _ _ rfl _))) (vblk_load arg8.view f8 _ _ _ (off3_at (off := k0_off26) (fun _ => rfl) (hW1 _ _ rfl _)))).trans (pay12_eq _ _ _)
      iexists _; isplitr; swap; · iexact H19
      ipureintro
      subst hf10
      rw [View.read_writes_full]
      exact (congrArg₂ k0_pay12 (vblk_load arg10.view f10 _ _ _ (off3_at (off := k0_off25) (fun _ => rfl) (hW0 _ _ rfl _))) (vblk_load arg10.view f10 _ _ _ (off3_at (off := k0_off26) (fun _ => rfl) (hW1 _ _ rfl _)))).trans (pay12_eq _ _ _)
    · have c1 : ¬cZero i := by rw [cZero_iff]; exact fun h => hb h.1
      sl_exec (disch := first | sl_exact c1 | sl_exact c2 | exact chk1_of_lt i _ (hrd _ _) | exact chk2_of_lt i _ (hrd _ _))
      generalize hZ0 : setup_spec.sl.r_5 (F := F) _ _ _ _ = Z0
      generalize hZ1 : setup_spec.sl.r_6 (F := F) _ _ _ _ = Z1
      obtain ⟨e0, e1⟩ := hp Z0 Z1 (hZ0.symm.trans (cell_load arg3.view f3 i 0 _ _ rfl _)) (hZ1.symm.trans (cell_load arg3.view f3 i 1 _ _ rfl _))
      rw [e0, e1]
      iapply Hk
      isplitl [H2]
      · iexists _; isplitr; swap; · iexact H2
        ipureintro
        exact hf2
      isplitl [H3]
      · iexists _; isplitr; swap; · iexact H3
        ipureintro
        exact hf3
      isplitl [H4]
      · iexists _; isplitr; swap; · iexact H4
        ipureintro
        exact harg4.read_unread _
      isplitl [H7]
      · iexists _; isplitr; swap; · iexact H7
        ipureintro
        exact hf7
      isplitl [H8]
      · iexists _; isplitr; swap; · iexact H8
        ipureintro
        exact hf8
      isplitl [H9]
      · iexists _; isplitr; swap; · iexact H9
        ipureintro
        exact hf9
      isplitl [H10]
      · iexists _; isplitr; swap; · iexact H10
        ipureintro
        exact hf10
      isplitl [H12]
      · iexists _; isplitr; swap; · iexact H12
        ipureintro
        iterate 3 refine rows_step _ _ _ _ _ _ _ rfl _ (rowLoad_apply arg4 harg4 x4 _ _) ?_
        rw [View.writes_nil, hf12]
        exact (hX (fun h => hb h.1)).1.rows x4
      isplitl [H15]
      · iexists _; isplitr; swap; · iexact H15
        ipureintro
        rw [hf15]; exact (hX (fun h => hb h.1)).2
      isplitl [H16]
      · iexists _; isplitr; swap; · iexact H16
        ipureintro
        subst hf7
        apply TapRows.eq
        refine tapRows_step _ _ _ _ _ _ 2 _ _ (pay3_congr (wblk_load arg7.view f7 _ _ _ _ (off4_at (k := 6) (off := k0_off17) (fun _ => rfl) (hW0 _ _ rfl _))) (wblk_load arg7.view f7 _ _ _ _ (off4_at (k := 6) (off := k0_off18) (fun _ => rfl) (hW1 _ _ rfl _))) (wblk_load arg7.view f7 _ _ _ _ (off4_at (k := 7) (off := k0_off19) (fun _ => rfl) (hW0 _ _ rfl _))) (wblk_load arg7.view f7 _ _ _ _ (off4_at (k := 7) (off := k0_off20) (fun _ => rfl) (hW1 _ _ rfl _))) (wblk_load arg7.view f7 _ _ _ _ (off4_at (k := 8) (off := k0_off21) (fun _ => rfl) (hW0 _ _ rfl _))) (wblk_load arg7.view f7 _ _ _ _ (off4_at (k := 8) (off := k0_off22) (fun _ => rfl) (hW1 _ _ rfl _)))) ?_
        refine tapRows_step _ _ _ _ _ _ 1 _ _ (pay3_congr (wblk_load arg7.view f7 _ _ _ _ (off4_at (k := 3) (off := k0_off11) (fun _ => rfl) (hW0 _ _ rfl _))) (wblk_load arg7.view f7 _ _ _ _ (off4_at (k := 3) (off := k0_off12) (fun _ => rfl) (hW1 _ _ rfl _))) (wblk_load arg7.view f7 _ _ _ _ (off4_at (k := 4) (off := k0_off13) (fun _ => rfl) (hW0 _ _ rfl _))) (wblk_load arg7.view f7 _ _ _ _ (off4_at (k := 4) (off := k0_off14) (fun _ => rfl) (hW1 _ _ rfl _))) (wblk_load arg7.view f7 _ _ _ _ (off4_at (k := 5) (off := k0_off15) (fun _ => rfl) (hW0 _ _ rfl _))) (wblk_load arg7.view f7 _ _ _ _ (off4_at (k := 5) (off := k0_off16) (fun _ => rfl) (hW1 _ _ rfl _)))) ?_
        refine tapRows_step _ _ _ _ _ _ 0 _ _ (pay3_congr (wblk_load arg7.view f7 _ _ _ _ (off4_at (k := 0) (off := k0_off5) (fun _ => rfl) (hW0 _ _ rfl _))) (wblk_load arg7.view f7 _ _ _ _ (off4_at (k := 0) (off := k0_off6) (fun _ => rfl) (hW1 _ _ rfl _))) (wblk_load arg7.view f7 _ _ _ _ (off4_at (k := 1) (off := k0_off7) (fun _ => rfl) (hW0 _ _ rfl _))) (wblk_load arg7.view f7 _ _ _ _ (off4_at (k := 1) (off := k0_off8) (fun _ => rfl) (hW1 _ _ rfl _))) (wblk_load arg7.view f7 _ _ _ _ (off4_at (k := 2) (off := k0_off9) (fun _ => rfl) (hW0 _ _ rfl _))) (wblk_load arg7.view f7 _ _ _ _ (off4_at (k := 2) (off := k0_off10) (fun _ => rfl) (hW1 _ _ rfl _)))) ?_
        intro y hy; omega
      isplitl [H17]
      · iexists _; isplitr; swap; · iexact H17
        ipureintro
        subst hf9
        rw [View.read_writes_full]
        exact (congrArg₂ k0_pay7 (vblk_load arg9.view f9 _ _ _ (off3_at (off := k0_off23) (fun _ => rfl) (hW0 _ _ rfl _))) (vblk_load arg9.view f9 _ _ _ (off3_at (off := k0_off24) (fun _ => rfl) (hW1 _ _ rfl _)))).trans (pay7_eq _ _ _)
      isplitl [H18]
      · iexists _; isplitr; swap; · iexact H18
        ipureintro
        subst hf8
        rw [View.read_writes_full]
        exact (congrArg₂ k0_pay12 (vblk_load arg8.view f8 _ _ _ (off3_at (off := k0_off25) (fun _ => rfl) (hW0 _ _ rfl _))) (vblk_load arg8.view f8 _ _ _ (off3_at (off := k0_off26) (fun _ => rfl) (hW1 _ _ rfl _)))).trans (pay12_eq _ _ _)
      iexists _; isplitr; swap; · iexact H19
      ipureintro
      subst hf10
      rw [View.read_writes_full]
      exact (congrArg₂ k0_pay12 (vblk_load arg10.view f10 _ _ _ (off3_at (off := k0_off25) (fun _ => rfl) (hW0 _ _ rfl _))) (vblk_load arg10.view f10 _ _ _ (off3_at (off := k0_off26) (fun _ => rfl) (hW1 _ _ rfl _)))).trans (pay12_eq _ _ _)
  · have c2 : ¬k0_cond2 i = 1#1 := by rw [cond2_iff]; exact h0
    have c1 : ¬cZero i := by rw [cZero_iff]; exact fun h => h0 h.2
    sl_exec (disch := first | sl_exact c1 | sl_exact c2 | exact chk1_of_lt i _ (hrd _ _) | exact chk2_of_lt i _ (hrd _ _))
    generalize hZ0 : setup_spec.sl.r_10 (F := F) _ _ _ _ = Z0
    generalize hZ1 : setup_spec.sl.r_11 (F := F) _ _ _ _ = Z1
    obtain ⟨e0, e1⟩ := hp Z0 Z1 (hZ0.symm.trans (cell_load arg3.view f3 i 0 _ _ rfl _)) (hZ1.symm.trans (cell_load arg3.view f3 i 1 _ _ rfl _))
    rw [e0, e1]
    iapply Hk
    isplitl [H2]
    · iexists _; isplitr; swap; · iexact H2
      ipureintro
      exact hf2
    isplitl [H3]
    · iexists _; isplitr; swap; · iexact H3
      ipureintro
      exact hf3
    isplitl [H4]
    · iexists _; isplitr; swap; · iexact H4
      ipureintro
      exact harg4.read_unread _
    isplitl [H7]
    · iexists _; isplitr; swap; · iexact H7
      ipureintro
      exact hf7
    isplitl [H8]
    · iexists _; isplitr; swap; · iexact H8
      ipureintro
      exact hf8
    isplitl [H9]
    · iexists _; isplitr; swap; · iexact H9
      ipureintro
      exact hf9
    isplitl [H10]
    · iexists _; isplitr; swap; · iexact H10
      ipureintro
      exact hf10
    isplitl [H12]
    · iexists _; isplitr; swap; · iexact H12
      ipureintro
      iterate 3 refine rows_step _ _ _ _ _ _ _ rfl _ (rowLoad_apply arg4 harg4 x4 _ _) ?_
      rw [View.writes_nil, hf12]
      exact (hX (fun h => h0 h.2)).1.rows x4
    isplitl [H15]
    · iexists _; isplitr; swap; · iexact H15
      ipureintro
      rw [hf15]; exact (hX (fun h => h0 h.2)).2
    isplitl [H16]
    · iexists _; isplitr; swap; · iexact H16
      ipureintro
      rw [hf16]; exact (hS h0).1
    isplitl [H17]
    · iexists _; isplitr; swap; · iexact H17
      ipureintro
      rw [hf17]; exact (hS h0).2.1
    isplitl [H18]
    · iexists _; isplitr; swap; · iexact H18
      ipureintro
      rw [hf18]; exact (hS h0).2.2.1
    iexists _; isplitr; swap; · iexact H19
    ipureintro
    rw [hf19]; exact (hS h0).2.2.2

end Cert.KernelIdeal

end
-- ==== Proof.Conv.Mid.lean ====
module

public import proofs.«01_k».proof.Proof.Gen.KernelIdeal.Frame
public import proofs.«01_k».proof.Proof.Conv.Edge

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

open Idealize.ShloMosaic.ValueIdx

/-! ## The two convolution stages -/

/-- The 58 rows of the padded stripe from flat position `o` on. -/
noncomputable def ldX (X : Vec F S96x15360 .f32) (o : ℕ) (inb : ∀ a, ![0, o] a + S96x14848.size a ≤ S96x15360.size a) : Vec F S96x14848 .f32 :=
  View.ld X (Rect.unit (s := S96x15360) ![0, o] S96x14848.size inb)

/-- One tap row of the selected 3x3 weights. -/
noncomputable def ldW (x16 : Vec F S3x288x96 .f32) (k : ℕ) (inb : ∀ a, ![k, 0, 0] a + S1x288x96.size a ≤ S3x288x96.size a) : Vec F S1x288x96 .f32 :=
  View.ld x16 (Rect.unit (s := S3x288x96) ![k, 0, 0] S1x288x96.size inb)

/-- A column read whole. -/
noncomputable def ldC (x18 : Vec F S96x1 .f32) : Vec F S96x1 .f32 :=
  View.ld x18 (Rect.unit (s := S96x1) ![0, 0] S96x1.size inb_S96x1_S96x1_0_0)

/-- The first stage before its activation. -/
noncomputable def A1 (X : Vec F S96x15360 .f32) (x16 : Vec F S3x288x96 .f32) (x18 : Vec F S96x1 .f32) : Vec F S96x14848 .f32 :=
  k0_pay79 (ldX X 0 inb_S96x15360_S96x14848_0_0) (ldW x16 0 inb_S3x288x96_S1x288x96_0_0_0) (ldX X 256 inb_S96x15360_S96x14848_0_256) (ldW x16 1 inb_S3x288x96_S1x288x96_1_0_0)
    (ldX X 512 inb_S96x15360_S96x14848_0_512) (ldW x16 2 inb_S3x288x96_S1x288x96_2_0_0) (ldC x18)

/-- The first stage's output, activated, masked, and cleared outside the image. -/
noncomputable def X1F (t : ℕ) (X : Vec F S96x15360 .f32) (x15 : Vec F S1x14848 .f32) (x16 : Vec F S3x288x96 .f32) (x18 : Vec F S96x1 .f32) : Vec F S96x14848 .f32 :=
  X1 t (k0_pay81 (A1 X x16 x18) (logistic (A1 X x16 x18)) (View.ld x15 (Rect.unit (s := S1x14848) ![0, 0] S1x14848.size inb_S1x14848_S1x14848_0_0)))

/-- The 56 rows of the first stage's output from flat position `o` on. -/
noncomputable def ldV (V : Vec F S96x14848 .f32) (o : ℕ) (inb : ∀ a, ![0, o] a + S96x14336.size a ≤ S96x14848.size a) : Vec F S96x14336 .f32 :=
  View.ld V (Rect.unit (s := S96x14848) ![0, o] S96x14336.size inb)

/-- The depthwise weights read whole. -/
noncomputable def ldD (x17 : Vec F S96x9 .f32) : Vec F S96x9 .f32 :=
  View.ld x17 (Rect.unit (s := S96x9) ![0, 0] S96x9.size inb_S96x9_S96x9_0_0)

/-- The second stage before its activation. -/
noncomputable def Y2 (V : Vec F S96x14848 .f32) (x17 : Vec F S96x9 .f32) (x19 : Vec F S96x1 .f32) : FVec F S96x14336 .f32 :=
  k0_pay86 (ldD x17) (k0_pay84 (ldD x17) (ldV V 0 inb_S96x14848_S96x14336_0_0) (ldV V 256 inb_S96x14848_S96x14336_0_256) (ldV V 512 inb_S96x14848_S96x14336_0_512))
    (ldV V 0 inb_S96x14848_S96x14336_0_0) (k0_pay85 (ldD x17)) (ldV V 256 inb_S96x14848_S96x14336_0_256) (ldV V 512 inb_S96x14848_S96x14336_0_512)
    (ldV V 0 inb_S96x14848_S96x14336_0_0) (ldV V 256 inb_S96x14848_S96x14336_0_256) (ldV V 512 inb_S96x14848_S96x14336_0_512) (ldC x19)

/-- Clearing 256 columns leaves zeros there and everything else as it was. -/
theorem zero_cols {sp : Space} (v : View sig .tc sp S96x14848 .f32) (f : v.ty.Contents (Elt F)) (L : List (View.Piece (Elt F) S96x14848 .f32)) (o : ℕ)
    (inb : ∀ a, ![0, o] a + S96x256.size a ≤ S96x14848.size a) (w : FVec F S96x256 .f32) (hw : ∀ y, w y = z0) (y : S96x14848.Idx) :
    v.read (Elt F) (v.writes (Elt F) f (⟨Rect.unit (s := S96x14848) ![0, o] S96x256.size inb, w⟩ :: L)) y
      = if o ≤ (y 1).val ∧ (y 1).val < o + 256 then z0 else v.read (Elt F) (v.writes (Elt F) f L) y := by
  by_cases hin : o ≤ (y 1).val ∧ (y 1).val < o + 256
  · have hlt : (y 1).val - o < 256 := by omega
    rw [if_pos hin, View.read_writes_cons_unit_of_mem v f inb w L y (ix2 (y 0) ⟨(y 1).val - o, hlt⟩) rfl (fun a => by
      match a with
      | ⟨0, _⟩ => exact (Nat.zero_add _).symm
      | ⟨1, _⟩ => show (y 1).val = o + ((y 1).val - o); omega)]
    exact hw _
  · rw [if_neg hin, View.read_writes_cons_unit_of_not_mem v f inb w L y rfl 1 (by
      show (y 1).val < o ∨ o + 256 ≤ (y 1).val; omega)]

set_option maxHeartbeats 8000000 in
/-- Both convolution stages. -/
theorem mid_spec (c : Dev nD) (i : grid0.Coords) (arg2 : Memref sig .tc .smem S2x2 .i32) (harg2 : arg2.IsWhole) (arg3 : Memref sig .tc .smem S2x2 .f32) (harg3 : arg3.IsWhole) (arg4 : Memref sig .tc .vmem S1x96x56x224 .f32) (harg4 : arg4.IsWhole) (arg5 : Memref sig .tc .vmem S1x96x8x224 .f32) (harg5 : arg5.IsWhole) (arg6 : Memref sig .tc .vmem S1x96x8x224 .f32) (harg6 : arg6.IsWhole) (arg7 : Memref sig .tc .vmem S8x9x48x96 .f32) (harg7 : arg7.IsWhole) (arg8 : Memref sig .tc .vmem S8x48x1 .f32) (harg8 : arg8.IsWhole) (arg9 : Memref sig .tc .vmem S8x48x9 .f32) (harg9 : arg9.IsWhole) (arg10 : Memref sig .tc .vmem S8x48x1 .f32) (harg10 : arg10.IsWhole) (arg11 : Memref sig .tc .vmem S1x96x56x224 .f32) (harg11 : arg11.IsWhole) (arg12 : Memref sig .tc .vmem S96x15360 .f32) (harg12 : arg12.IsWhole) (arg13 : Memref sig .tc .vmem S96x14848 .f32) (harg13 : arg13.IsWhole) (arg14 : Memref sig .tc .vmem S96x14336 .f32) (harg14 : arg14.IsWhole) (arg15 : Memref sig .tc .vmem S1x14848 .f32) (harg15 : arg15.IsWhole) (arg16 : Memref sig .tc .vmem S3x288x96 .f32) (harg16 : arg16.IsWhole) (arg17 : Memref sig .tc .vmem S96x9 .f32) (harg17 : arg17.IsWhole) (arg18 : Memref sig .tc .vmem S96x1 .f32) (harg18 : arg18.IsWhole) (arg19 : Memref sig .tc .vmem S96x1 .f32) (harg19 : arg19.IsWhole) (X : Vec F S96x15360 .f32)
    (x15 : Vec F S1x14848 .f32) (x16 : Vec F S3x288x96 .f32) (x17 : Vec F S96x9 .f32) (x18 x19 : Vec F S96x1 .f32)
    (E : Set ℕ) {R : Type} (k : FVec F S96x14336 .f32 → Prog (TpuEff nD τ sig (Elt F) Λ₀ .tc) R) (K : R → sProp 𝕄) :
    iprop(owns (c : Thread nD τ) arg12 fullShare X ∗ (∃ x, owns (c : Thread nD τ) arg13 fullShare x) ∗ owns (c : Thread nD τ) arg15 fullShare x15
      ∗ owns (c : Thread nD τ) arg16 fullShare x16 ∗ owns (c : Thread nD τ) arg17 fullShare x17 ∗ owns (c : Thread nD τ) arg18 fullShare x18 ∗ owns (c : Thread nD τ) arg19 fullShare x19
      ∗ (iprop(owns (c : Thread nD τ) arg12 fullShare X ∗ owns (c : Thread nD τ) arg13 fullShare (X1F (i 1).val X x15 x16 x18) ∗ owns (c : Thread nD τ) arg15 fullShare x15
      ∗ owns (c : Thread nD τ) arg16 fullShare x16 ∗ owns (c : Thread nD τ) arg17 fullShare x17 ∗ owns (c : Thread nD τ) arg18 fullShare x18 ∗ owns (c : Thread nD τ) arg19 fullShare x19)
        -∗ wp frame (wpE (defs₀ (F := F)) Variants.none c none) E (k (Y2 (X1F (i 1).val X x15 x16 x18) x17 x19)) K))
    ⊢ wp frame (wpE (defs₀ (F := F)) Variants.none c none) E (do
        let ⟨v341, v342⟩ : Σ' (v341 : FVec F S96x14848 .f32), FVec F S96x14848 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        let ⟨v356, v376, v377, v381⟩ : Σ' (v356 : Vec F S96x9 .f32) (v376 : FVec F S96x14336 .f32) (v377 : Vec F S96x14336 .f32), FVec F S96x14336 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v341 v342
        let v427 : FVec F S96x14336 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v356 v376 v377 v381
        k v427) K := by
  have hi : (i 1).val < 4 := (i 1).isLt
  simp only [k0_part16_eq_skeleton, k0_part17_eq_skeleton, k0_part18_eq_skeleton]
  unfold owns
  iintro ⟨⟨%f12, %hf12, H12⟩, ⟨%x13, %f13, %hf13, H13⟩, ⟨%f15, %hf15, H15⟩, ⟨%f16, %hf16, H16⟩, ⟨%f17, %hf17, H17⟩, ⟨%f18, %hf18, H18⟩, ⟨%f19, %hf19, H19⟩, Hk⟩
  have fin : ∀ (L : List (View.Piece (Elt F) S96x14848 .f32)) (Z : FVec F S96x14336 .f32),
      Z = Y2 (arg13.view.read (Elt F) (arg13.view.writes (Elt F) arg13.view.junk L)) (arg17.view.read (Elt F) f17) (arg19.view.read (Elt F) f19) →
      (∀ f, arg13.view.read (Elt F) (arg13.view.writes (Elt F) f L)
        = X1F (i 1).val (arg12.view.read (Elt F) f12) (arg15.view.read (Elt F) f15) (arg16.view.read (Elt F) f16) (arg18.view.read (Elt F) f18)) →
      Z = Y2 (X1F (i 1).val X x15 x16 x18) x17 x19 ∧ arg13.view.read (Elt F) (arg13.view.writes (Elt F) f13 L) = X1F (i 1).val X x15 x16 x18 := fun L Z h1 h2 => by
    rw [h1, h2, h2, hf12, hf15, hf16, hf17, hf18, hf19]; exact ⟨rfl, rfl⟩
  by_cases h0 : (i 1).val = 0
  · have h4 : cFst i := by rw [cFst_iff]; omega
    have h6 : ¬cLst i := by rw [cLst_iff]; omega
    sl_exec (disch := first | sl_exact h4 | sl_exact h6)
    generalize hL : mid_spec.sl.H13_2 (F := F) .. = L
    generalize hZ : mid_spec.sl.r_5 (F := F) _ _ _ _ _ _ _ _ _ _ _ _ _ _  = Z
    obtain ⟨hr, hq⟩ := fin L Z (by rw [← hL, ← hZ]; rfl) (by
      intro f; rw [← hL]; funext y
      refine (zero_cols _ _ _ 0 _ _ (fun _ => rfl) y).trans ?_
      have hy : (y 1).val < 14848 := (y 1).isLt
      have full := congrFun (View.read_writes_full arg13.view f inb_S96x14848_S96x14848_0_0 (k0_pay81 (A1 (arg12.view.read (Elt F) f12) (arg16.view.read (Elt F) f16) (arg18.view.read (Elt F) f18)) (logistic (A1 (arg12.view.read (Elt F) f12) (arg16.view.read (Elt F) f16) (arg18.view.read (Elt F) f18))) (View.ld (arg15.view.read (Elt F) f15) (Rect.unit (s := S1x14848) ![0, 0] S1x14848.size inb_S1x14848_S1x14848_0_0))) []) y
      unfold X1F X1
      by_cases hin : (y 1).val < 256
      · rw [if_pos (show _ ∧ _ from ⟨by omega, by omega⟩), if_pos (show _ ∧ _ from ⟨h0, hin⟩)]
      · rw [if_neg (by omega), if_neg (by omega), if_neg (by omega)]; exact full)
    rw [hr]
    iapply Hk
    isplitl [H12]
    · iexists _; isplitr; · ipureintro; exact hf12
      iexact H12
    isplitl [H13]
    · iexists _; isplitr; · ipureintro; exact hq
      iexact H13
    isplitl [H15]
    · iexists _; isplitr; · ipureintro; exact hf15
      iexact H15
    isplitl [H16]
    · iexists _; isplitr; · ipureintro; exact hf16
      iexact H16
    isplitl [H17]
    · iexists _; isplitr; · ipureintro; exact hf17
      iexact H17
    isplitl [H18]
    · iexists _; isplitr; · ipureintro; exact hf18
      iexact H18
    iexists _; isplitr; · ipureintro; exact hf19
    iexact H19
  · by_cases h9 : (i 1).val = 3
    · have h4 : ¬cFst i := by rw [cFst_iff]; omega
      have h6 : cLst i := by rw [cLst_iff]; omega
      sl_exec (disch := first | sl_exact h4 | sl_exact h6)
      generalize hL : mid_spec.sl.H13_2_1 (F := F) .. = L
      generalize hZ : mid_spec.sl.r_11 (F := F) _ _ _ _ _ _ _ _ _ _ _ _ _ _  = Z
      obtain ⟨hr, hq⟩ := fin L Z (by rw [← hL, ← hZ]; rfl) (by
        intro f; rw [← hL]; funext y
        refine (zero_cols _ _ _ 14592 _ _ (fun _ => rfl) y).trans ?_
        have hy : (y 1).val < 14848 := (y 1).isLt
        have full := congrFun (View.read_writes_full arg13.view f inb_S96x14848_S96x14848_0_0 (k0_pay81 (A1 (arg12.view.read (Elt F) f12) (arg16.view.read (Elt F) f16) (arg18.view.read (Elt F) f18)) (logistic (A1 (arg12.view.read (Elt F) f12) (arg16.view.read (Elt F) f16) (arg18.view.read (Elt F) f18))) (View.ld (arg15.view.read (Elt F) f15) (Rect.unit (s := S1x14848) ![0, 0] S1x14848.size inb_S1x14848_S1x14848_0_0))) []) y
        unfold X1F X1
        by_cases hin : 14592 ≤ (y 1).val
        · rw [if_pos (show _ ∧ _ from ⟨by omega, by omega⟩), if_neg (by omega), if_pos (show _ ∧ _ from ⟨h9, hin⟩)]
        · rw [if_neg (by omega), if_neg (by omega), if_neg (by omega)]; exact full)
      rw [hr]
      iapply Hk
      isplitl [H12]
      · iexists _; isplitr; · ipureintro; exact hf12
        iexact H12
      isplitl [H13]
      · iexists _; isplitr; · ipureintro; exact hq
        iexact H13
      isplitl [H15]
      · iexists _; isplitr; · ipureintro; exact hf15
        iexact H15
      isplitl [H16]
      · iexists _; isplitr; · ipureintro; exact hf16
        iexact H16
      isplitl [H17]
      · iexists _; isplitr; · ipureintro; exact hf17
        iexact H17
      isplitl [H18]
      · iexists _; isplitr; · ipureintro; exact hf18
        iexact H18
      iexists _; isplitr; · ipureintro; exact hf19
      iexact H19
    · have h4 : ¬cFst i := by rw [cFst_iff]; omega
      have h6 : ¬cLst i := by rw [cLst_iff]; omega
      sl_exec (disch := first | sl_exact h4 | sl_exact h6)
      generalize hL : mid_spec.sl.H13_1 (F := F) .. = L
      generalize hZ : mid_spec.sl.r_17 (F := F) _ _ _ _ _ _ _ _ _ _ _ _ _ _  = Z
      obtain ⟨hr, hq⟩ := fin L Z (by rw [← hL, ← hZ]; rfl) (by
        intro f; rw [← hL]; funext y
        show _ = (if _ then _ else if _ then _ else _)
        rw [if_neg (by omega), if_neg (by omega)]
        exact congrFun (View.read_writes_full arg13.view f inb_S96x14848_S96x14848_0_0 _ []) y)
      rw [hr]
      iapply Hk
      isplitl [H12]
      · iexists _; isplitr; · ipureintro; exact hf12
        iexact H12
      isplitl [H13]
      · iexists _; isplitr; · ipureintro; exact hq
        iexact H13
      isplitl [H15]
      · iexists _; isplitr; · ipureintro; exact hf15
        iexact H15
      isplitl [H16]
      · iexists _; isplitr; · ipureintro; exact hf16
        iexact H16
      isplitl [H17]
      · iexists _; isplitr; · ipureintro; exact hf17
        iexact H17
      isplitl [H18]
      · iexists _; isplitr; · ipureintro; exact hf18
        iexact H18
      iexists _; isplitr; · ipureintro; exact hf19
      iexact H19

end Cert.KernelIdeal

end
-- ==== Proof.Conv.Out.lean ====
module

public import proofs.«01_k».proof.Proof.Gen.KernelIdeal.Frame
public import proofs.«01_k».proof.Proof.Conv.Defs

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

open Idealize.ShloMosaic.ValueIdx

/-! ## The weighted sum and the output block -/

/-- The upper channels of the first stage's output, centre rows. -/
noncomputable def ldLo (V : Vec F S96x14848 .f32) : Vec F S48x14336 .f32 :=
  View.ld V (Rect.unit (s := S96x14848) ![0, 256] S48x14336.size inb_S96x14848_S48x14336_0_256)

/-- The lower channels of the first stage's output, centre rows. -/
noncomputable def ldHi (V : Vec F S96x14848 .f32) : Vec F S48x14336 .f32 :=
  View.ld V (Rect.unit (s := S96x14848) ![48, 256] S48x14336.size inb_S96x14848_S48x14336_48_256)

/-- The weighted sum of the two chosen experts. -/
noncomputable def SUM (p0 p1 : Elt F .f32) (V : Vec F S96x14848 .f32) (y2 : FVec F S96x14336 .f32) : Vec F S96x14336 .f32 :=
  TB (k0_pay87 p0 p1 (ldLo V) (ldHi V)) (k0_pay88 p0 p1 y2)

/-- A buffer holding the two halves reads as the one above the other. -/
theorem halves_read {sp : Space} (v : View sig .tc sp S96x14336 .f32) (f : v.ty.Contents (Elt F)) (a b : FVec F S48x14336 .f32)
    (i0 : ∀ a, ![0, 0] a + S48x14336.size a ≤ S96x14336.size a) (i1 : ∀ a, ![48, 0] a + S48x14336.size a ≤ S96x14336.size a) :
    v.read (Elt F) (v.writes (Elt F) f [⟨Rect.unit (s := S96x14336) ![48, 0] S48x14336.size i1, b⟩, ⟨Rect.unit (s := S96x14336) ![0, 0] S48x14336.size i0, a⟩]) = TB a b := by
  funext y
  have hy : (y 0).val < 96 := (y 0).isLt
  unfold TB
  by_cases h : (y 0).val < 48
  · rw [if_pos h, View.read_writes_cons_unit_of_not_mem v f i1 b _ y rfl 0 (by show (y 0).val < 48 ∨ 48 + 48 ≤ (y 0).val; omega),
      View.read_writes_cons_unit_of_mem v f i0 a _ y (ix2 ⟨(y 0).val, h⟩ (y 1)) rfl (fun a => by
      match a with
      | ⟨0, _⟩ => exact (Nat.zero_add _).symm
      | ⟨1, _⟩ => exact (Nat.zero_add _).symm)]
    exact (g2_ix a ⟨(y 0).val, h⟩ (y 1)).symm
  · have hlt : (y 0).val - 48 < 48 := by omega
    rw [if_neg h, View.read_writes_cons_unit_of_mem v f i1 b _ y (ix2 ⟨(y 0).val - 48, hlt⟩ (y 1)) rfl (fun a => by
      match a with
      | ⟨0, _⟩ => show (y 0).val = 48 + ((y 0).val - 48); omega
      | ⟨1, _⟩ => exact (Nat.zero_add _).symm)]
    exact (g2_ix b ⟨(y 0).val - 48, hlt⟩ (y 1)).symm

/-- A row of the two halves, as it is copied out. -/
theorem rowOut_apply {sp : Space} (v : View sig .tc sp S96x14336 .f32) (a b : FVec F S48x14336 .f32)
    (i0 : ∀ a, ![0, 0] a + S48x14336.size a ≤ S96x14336.size a) (i1 : ∀ a, ![48, 0] a + S48x14336.size a ≤ S96x14336.size a)
    (n : ℕ) (off : Fin 2 → ℕ) (inb : ∀ a, off a + S96x224.size a ≤ S96x14336.size a) (hoff : off = ![0, 256 * n]) (ch : Fin 96) (c : Fin 224) :
    shapeCast S1x96x1x224 (v.readCov (Val := Elt F) [⟨Rect.unit (s := S96x14336) ![48, 0] S48x14336.size i1, b⟩, ⟨Rect.unit (s := S96x14336) ![0, 0] S48x14336.size i0, a⟩]
      (Rect.unit (s := S96x14336) off S96x224.size inb).toLoadRect) shapeCasts_S96x224_S1x96x1x224 (ix4 0 ch 0 c) = g2 (TB a b) ch.val (256 * n + c.val) := by
  subst hoff
  rw [shapeCast_apply _ _ (ix4 0 ch 0 c) (ix2 ch c) (by
    rw [Shape.rowMajor_val_four, Shape.rowMajor_val_two]
    show ch.val * 224 + c.val = ((0 * 96 + ch.val) * 1 + 0) * 224 + c.val
    omega)]
  show v.read (Elt F) (v.writes (Elt F) v.junk _) _ = _
  rw [halves_read]
  refine at2 _ _ ?_ ?_
  · show 0 + 1 * ch.val = ch.val; omega
  · show 256 * n + 1 * c.val = _; omega

/-- The first `n` rows of the output block are in place. -/
def OutRows (n : ℕ) (Z : Vec F S96x14336 .f32) (w : Vec F S1x96x56x224 .f32) : Prop :=
  ∀ y : S1x96x56x224.Idx, (y 2).val < n → w y = OUTB Z y

/-- One more output row stored. -/
theorem outRows_step {sp : Space} (v : View sig .tc sp S1x96x56x224 .f32) (f : v.ty.Contents (Elt F)) (L : List (View.Piece (Elt F) S1x96x56x224 .f32)) (Z : Vec F S96x14336 .f32)
    (n : ℕ) (off : Fin 4 → ℕ) (inb : ∀ a, off a + S1x96x1x224.size a ≤ S1x96x56x224.size a) (hoff : off = ![0, 0, n, 0])
    (w : FVec F S1x96x1x224 .f32) (hw : ∀ ch c, w (ix4 0 ch 0 c) = g2 Z ch.val (256 * n + c.val))
    (h : OutRows n Z (v.read (Elt F) (v.writes (Elt F) f L))) :
    OutRows (n + 1) Z (v.read (Elt F) (v.writes (Elt F) f (⟨Rect.unit (s := S1x96x56x224) off S1x96x1x224.size inb, w⟩ :: L))) := by
  intro y hy
  by_cases hin : (y 2).val = n
  · have h0 : (y 0).val < 1 := (y 0).isLt
    rw [View.read_writes_cons_unit_of_mem v f inb w L y (ix4 0 (y 1) 0 (y 3)) hoff (fun a => by
      match a with
      | ⟨0, _⟩ => show (y 0).val = 0 + 0; omega
      | ⟨1, _⟩ => exact (Nat.zero_add _).symm
      | ⟨2, _⟩ => show (y 2).val = n + 0; omega
      | ⟨3, _⟩ => exact (Nat.zero_add _).symm)]
    refine (hw (y 1) (y 3)).trans ?_
    unfold OUTB; rw [hin]
  · rw [View.read_writes_cons_unit_of_not_mem v f inb w L y hoff 2 (by
      show (y 2).val < n ∨ n + 1 ≤ (y 2).val; omega)]
    exact h y (by omega)

/-- With all 56 rows in place the block is the output block. -/
theorem OutRows.eq {Z : Vec F S96x14336 .f32} {w : Vec F S1x96x56x224 .f32} (h : OutRows 56 Z w) : w = OUTB Z :=
  funext fun y => h y (y 2).isLt

set_option maxHeartbeats 16000000 in
/-- The weighted sum and the copy of its rows into the output block. -/
theorem out_spec (c : Dev nD) (i : grid0.Coords) (arg2 : Memref sig .tc .smem S2x2 .i32) (harg2 : arg2.IsWhole) (arg3 : Memref sig .tc .smem S2x2 .f32) (harg3 : arg3.IsWhole) (arg4 : Memref sig .tc .vmem S1x96x56x224 .f32) (harg4 : arg4.IsWhole) (arg5 : Memref sig .tc .vmem S1x96x8x224 .f32) (harg5 : arg5.IsWhole) (arg6 : Memref sig .tc .vmem S1x96x8x224 .f32) (harg6 : arg6.IsWhole) (arg7 : Memref sig .tc .vmem S8x9x48x96 .f32) (harg7 : arg7.IsWhole) (arg8 : Memref sig .tc .vmem S8x48x1 .f32) (harg8 : arg8.IsWhole) (arg9 : Memref sig .tc .vmem S8x48x9 .f32) (harg9 : arg9.IsWhole) (arg10 : Memref sig .tc .vmem S8x48x1 .f32) (harg10 : arg10.IsWhole) (arg11 : Memref sig .tc .vmem S1x96x56x224 .f32) (harg11 : arg11.IsWhole) (arg12 : Memref sig .tc .vmem S96x15360 .f32) (harg12 : arg12.IsWhole) (arg13 : Memref sig .tc .vmem S96x14848 .f32) (harg13 : arg13.IsWhole) (arg14 : Memref sig .tc .vmem S96x14336 .f32) (harg14 : arg14.IsWhole) (arg15 : Memref sig .tc .vmem S1x14848 .f32) (harg15 : arg15.IsWhole) (arg16 : Memref sig .tc .vmem S3x288x96 .f32) (harg16 : arg16.IsWhole) (arg17 : Memref sig .tc .vmem S96x9 .f32) (harg17 : arg17.IsWhole) (arg18 : Memref sig .tc .vmem S96x1 .f32) (harg18 : arg18.IsWhole) (arg19 : Memref sig .tc .vmem S96x1 .f32) (harg19 : arg19.IsWhole) (V : Vec F S96x14848 .f32) (p0 p1 : Elt F .f32) (y2 : FVec F S96x14336 .f32)
    (E : Set ℕ) (K : PUnit → sProp 𝕄) :
    iprop((∃ x, owns (c : Thread nD τ) arg11 fullShare x) ∗ owns (c : Thread nD τ) arg13 fullShare V ∗ (∃ x, owns (c : Thread nD τ) arg14 fullShare x)
      ∗ (iprop(owns (c : Thread nD τ) arg11 fullShare (OUTB (SUM p0 p1 V y2)) ∗ owns (c : Thread nD τ) arg13 fullShare V ∗ (∃ x, owns (c : Thread nD τ) arg14 fullShare x))
        -∗ K ⟨⟩))
    ⊢ wp frame (wpE (defs₀ (F := F)) Variants.none c none) E (do
        let v458 : Vec F S96x224 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 p0 p1 y2
        k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v458
        let v502 : Vec F S96x224 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        let v525 : FVec F S1x96x1x224 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v502
        let v546 : Vec F S96x224 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v525
        let v566 : Vec F S96x224 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v546
        let v590 : Vec F S96x224 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v566
        let ⟨v610, v611⟩ : Σ' (v610 : Vec F S96x224 .f32), Vec F S1x96x1x224 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v590
        k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v610 v611
        let v654 : Vec F S96x224 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        let v655 : Vec F S1x96x1x224 .f32 ← Prog.lift (.load arg11 (Rect.unit (s := S1x96x56x224) ![0, 0, 51, 0] S1x96x1x224.size inb_S1x96x56x224_S1x96x1x224_0_0_51_0).toLoadRect (View.loadsAt_vmem h_S1x96x1x224))
        Prog.lift (.store arg11 (Rect.unit (s := S1x96x56x224) ![0, 0, 51, 0] S1x96x1x224.size inb_S1x96x56x224_S1x96x1x224_0_0_51_0) (k0_pay140 v654) Finset.univ (View.stores_vmem_bits_univ h_S1x96x1x224 rfl) (.inl rfl))
        let v658 : Vec F S96x224 .f32 ← Prog.lift (.load arg14 (Rect.unit (s := S96x14336) ![0, 13312] S96x224.size inb_S96x14336_S96x224_0_13312).toLoadRect (View.loadsAt_vmem h_S96x224))
        let v659 : Vec F S1x96x1x224 .f32 ← Prog.lift (.load arg11 (Rect.unit (s := S1x96x56x224) ![0, 0, 52, 0] S1x96x1x224.size inb_S1x96x56x224_S1x96x1x224_0_0_52_0).toLoadRect (View.loadsAt_vmem h_S1x96x1x224))
        Prog.lift (.store arg11 (Rect.unit (s := S1x96x56x224) ![0, 0, 52, 0] S1x96x1x224.size inb_S1x96x56x224_S1x96x1x224_0_0_52_0) (k0_pay141 v658) Finset.univ (View.stores_vmem_bits_univ h_S1x96x1x224 rfl) (.inl rfl))
        let v662 : Vec F S96x224 .f32 ← Prog.lift (.load arg14 (Rect.unit (s := S96x14336) ![0, 13568] S96x224.size inb_S96x14336_S96x224_0_13568).toLoadRect (View.loadsAt_vmem h_S96x224))
        let v663 : Vec F S1x96x1x224 .f32 ← Prog.lift (.load arg11 (Rect.unit (s := S1x96x56x224) ![0, 0, 53, 0] S1x96x1x224.size inb_S1x96x56x224_S1x96x1x224_0_0_53_0).toLoadRect (View.loadsAt_vmem h_S1x96x1x224))
        Prog.lift (.store arg11 (Rect.unit (s := S1x96x56x224) ![0, 0, 53, 0] S1x96x1x224.size inb_S1x96x56x224_S1x96x1x224_0_0_53_0) (k0_pay142 v662) Finset.univ (View.stores_vmem_bits_univ h_S1x96x1x224 rfl) (.inl rfl))
        let v666 : Vec F S96x224 .f32 ← Prog.lift (.load arg14 (Rect.unit (s := S96x14336) ![0, 13824] S96x224.size inb_S96x14336_S96x224_0_13824).toLoadRect (View.loadsAt_vmem h_S96x224))
        let v667 : Vec F S1x96x1x224 .f32 ← Prog.lift (.load arg11 (Rect.unit (s := S1x96x56x224) ![0, 0, 54, 0] S1x96x1x224.size inb_S1x96x56x224_S1x96x1x224_0_0_54_0).toLoadRect (View.loadsAt_vmem h_S1x96x1x224))
        Prog.lift (.store arg11 (Rect.unit (s := S1x96x56x224) ![0, 0, 54, 0] S1x96x1x224.size inb_S1x96x56x224_S1x96x1x224_0_0_54_0) (k0_pay1 v666) Finset.univ (View.stores_vmem_bits_univ h_S1x96x1x224 rfl) (.inl rfl))
        let v670 : Vec F S96x224 .f32 ← Prog.lift (.load arg14 (Rect.unit (s := S96x14336) ![0, 14080] S96x224.size inb_S96x14336_S96x224_0_14080).toLoadRect (View.loadsAt_vmem h_S96x224))
        let v671 : Vec F S1x96x1x224 .f32 ← Prog.lift (.load arg11 (Rect.unit (s := S1x96x56x224) ![0, 0, 55, 0] S1x96x1x224.size inb_S1x96x56x224_S1x96x1x224_0_0_55_0).toLoadRect (View.loadsAt_vmem h_S1x96x1x224))
        Prog.lift (.store arg11 (Rect.unit (s := S1x96x56x224) ![0, 0, 55, 0] S1x96x1x224.size inb_S1x96x56x224_S1x96x1x224_0_0_55_0) (k0_pay2 v670) Finset.univ (View.stores_vmem_bits_univ h_S1x96x1x224 rfl) (.inl rfl))
        pure ⟨⟩) K := by
  simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%x11, %f11, %hf11, H11⟩, ⟨%f13, %hf13, H13⟩, ⟨%x14, %f14, %hf14, H14⟩, Hk⟩
  subst hf13
  sl_exec
  simp only [wp_ret]
  imodintro
  iapply Hk
  isplitl [H11]
  · iexists _; isplitr; swap; · iexact H11
    ipureintro
    apply OutRows.eq
    iterate 56 refine outRows_step _ _ _ _ _ _ _ rfl _ (rowOut_apply arg14.view (k0_pay87 p0 p1 (ldLo (arg13.view.read (Elt F) f13)) (ldHi (arg13.view.read (Elt F) f13))) (k0_pay88 p0 p1 y2) _ _ _ _ _ rfl) ?_
    intro y hy; omega
  isplitl [H13]
  · iexists _; isplitr; · ipureintro; rfl
    iexact H13
  iexists _, _; isplitr; swap; · iexact H14
  ipureintro; rfl

end Cert.KernelIdeal

end
-- ==== Proof.Conv.Body.lean ====
module

public import proofs.«01_k».proof.Proof.Gen.KernelIdeal.Frame
public import proofs.«01_k».proof.Proof.Conv.Setup
public import proofs.«01_k».proof.Proof.Conv.Mid
public import proofs.«01_k».proof.Proof.Conv.Out
@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

/-! ## One grid point of the kernel -/

/-- The block one grid point writes, of the tables and blocks it reads. -/
def OUT9 (i : grid0.Coords) (x2 : Vec F S2x2 .i32) (x3 : Vec F S2x2 .f32) (x4 : Vec F S1x96x56x224 .f32) (x5 x6 : Vec F S1x96x8x224 .f32)
    (x7 : Vec F S8x9x48x96 .f32) (x8 : Vec F S8x48x1 .f32) (x9 : Vec F S8x48x9 .f32) (x10 : Vec F S8x48x1 .f32) : Vec F S1x96x56x224 .f32 :=
  OUTB (SUM (cell x3 i 0) (cell x3 i 1)
    (X1F (i 1).val (XS (i 1).val x4 x5 x6) k0_pay10 (W9S (cell x2 i 0 : BitVec 32).toNat (cell x2 i 1 : BitVec 32).toNat x7) (SHS (cell x2 i 0 : BitVec 32).toNat (cell x2 i 1 : BitVec 32).toNat x8))
    (Y2 (X1F (i 1).val (XS (i 1).val x4 x5 x6) k0_pay10 (W9S (cell x2 i 0 : BitVec 32).toNat (cell x2 i 1 : BitVec 32).toNat x7) (SHS (cell x2 i 0 : BitVec 32).toNat (cell x2 i 1 : BitVec 32).toNat x8))
      (WDS (cell x2 i 0 : BitVec 32).toNat (cell x2 i 1 : BitVec 32).toNat x9) (SHS (cell x2 i 0 : BitVec 32).toNat (cell x2 i 1 : BitVec 32).toNat x10)))

/-- The padded stripe's padding is zero. -/
theorem XS_pad (t : ℕ) (x4 : Vec F S1x96x56x224 .f32) (x5 x6 : Vec F S1x96x8x224 .f32) : PadZ (XS t x4 x5 x6) := by
  intro y hy
  unfold XS XSn
  rw [if_pos hy]

set_option maxHeartbeats 4000000 in
/-- One grid point: from the blocks and tables it reads, and the scratch buffers left by the point before, it writes its
    output block and leaves the scratch buffers ready for the point after. -/
theorem body_spec (c : Dev nD) (i : grid0.Coords) (arg2 : Memref sig .tc .smem S2x2 .i32) (harg2 : arg2.IsWhole) (arg3 : Memref sig .tc .smem S2x2 .f32) (harg3 : arg3.IsWhole) (arg4 : Memref sig .tc .vmem S1x96x56x224 .f32) (harg4 : arg4.IsWhole) (arg5 : Memref sig .tc .vmem S1x96x8x224 .f32) (harg5 : arg5.IsWhole) (arg6 : Memref sig .tc .vmem S1x96x8x224 .f32) (harg6 : arg6.IsWhole) (arg7 : Memref sig .tc .vmem S8x9x48x96 .f32) (harg7 : arg7.IsWhole) (arg8 : Memref sig .tc .vmem S8x48x1 .f32) (harg8 : arg8.IsWhole) (arg9 : Memref sig .tc .vmem S8x48x9 .f32) (harg9 : arg9.IsWhole) (arg10 : Memref sig .tc .vmem S8x48x1 .f32) (harg10 : arg10.IsWhole) (arg11 : Memref sig .tc .vmem S1x96x56x224 .f32) (harg11 : arg11.IsWhole) (arg12 : Memref sig .tc .vmem S96x15360 .f32) (harg12 : arg12.IsWhole) (arg13 : Memref sig .tc .vmem S96x14848 .f32) (harg13 : arg13.IsWhole) (arg14 : Memref sig .tc .vmem S96x14336 .f32) (harg14 : arg14.IsWhole) (arg15 : Memref sig .tc .vmem S1x14848 .f32) (harg15 : arg15.IsWhole) (arg16 : Memref sig .tc .vmem S3x288x96 .f32) (harg16 : arg16.IsWhole) (arg17 : Memref sig .tc .vmem S96x9 .f32) (harg17 : arg17.IsWhole) (arg18 : Memref sig .tc .vmem S96x1 .f32) (harg18 : arg18.IsWhole) (arg19 : Memref sig .tc .vmem S96x1 .f32) (harg19 : arg19.IsWhole) (x2 : Vec F S2x2 .i32) (x3 : Vec F S2x2 .f32) (x4 : Vec F S1x96x56x224 .f32) (x5 x6 : Vec F S1x96x8x224 .f32)
    (x7 : Vec F S8x9x48x96 .f32) (x8 : Vec F S8x48x1 .f32) (x9 : Vec F S8x48x9 .f32) (x10 : Vec F S8x48x1 .f32)
    (X : Vec F S96x15360 .f32) (x15 : Vec F S1x14848 .f32) (x16 : Vec F S3x288x96 .f32) (x17 : Vec F S96x9 .f32) (x18 x19 : Vec F S96x1 .f32)
    (h2 : ∀ y, (x2 y : BitVec 32).toNat < 8)
    (hX : ¬((i 0).val = 0 ∧ (i 1).val = 0) → PadZ X ∧ x15 = k0_pay10)
    (hS : (i 1).val ≠ 0 → x16 = W9S (cell x2 i 0 : BitVec 32).toNat (cell x2 i 1 : BitVec 32).toNat x7 ∧ x17 = WDS (cell x2 i 0 : BitVec 32).toNat (cell x2 i 1 : BitVec 32).toNat x9
      ∧ x18 = SHS (cell x2 i 0 : BitVec 32).toNat (cell x2 i 1 : BitVec 32).toNat x8 ∧ x19 = SHS (cell x2 i 0 : BitVec 32).toNat (cell x2 i 1 : BitVec 32).toNat x10)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ x, owns (c : Thread nD τ) arg11 fullShare x) ∗ owns (c : Thread nD τ) arg12 fullShare X ∗ (∃ x, owns (c : Thread nD τ) arg13 fullShare x) ∗ (∃ x, owns (c : Thread nD τ) arg14 fullShare x) ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (OUT9 i x2 x3 x4 x5 x6 x7 x8 x9 x10) ∗ owns (c : Thread nD τ) arg12 fullShare (XS (i 1).val x4 x5 x6) ∗ (∃ x, owns (c : Thread nD τ) arg13 fullShare x) ∗ (∃ x, owns (c : Thread nD τ) arg14 fullShare x) ∗ owns (c : Thread nD τ) arg15 fullShare k0_pay10 ∗ owns (c : Thread nD τ) arg16 fullShare (W9S (cell x2 i 0 : BitVec 32).toNat (cell x2 i 1 : BitVec 32).toNat x7) ∗ owns (c : Thread nD τ) arg17 fullShare (WDS (cell x2 i 0 : BitVec 32).toNat (cell x2 i 1 : BitVec 32).toNat x9) ∗ owns (c : Thread nD τ) arg18 fullShare (SHS (cell x2 i 0 : BitVec 32).toNat (cell x2 i 1 : BitVec 32).toNat x8) ∗ owns (c : Thread nD τ) arg19 fullShare (SHS (cell x2 i 0 : BitVec 32).toNat (cell x2 i 1 : BitVec 32).toNat x10)) -∗ K ⟨⟩))
    ⊢ wp frame (wpE (defs₀ (F := F)) Variants.none c none) E (cc0__conv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [cc0__conv_kernel_eq_skeleton]
  unfold cc0__conv_kernel_skel
  rw [k0_part29_eq_skeleton]
  unfold k0_part29_skel
  simp only [bind_assoc, pure_bind]
  iintro ⟨H2, H3, H4, H5, H6, H7, H8, H9, H10, H11, H12, H13, H14, H15, H16, H17, H18, H19, Hk⟩
  iapply (setup_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x7 x8 x9 x10 X x15 x16 x17 x18 x19 h2 hX hS)
  isplitl [H2]
  · iexact H2
  isplitl [H3]
  · iexact H3
  isplitl [H4]
  · iexact H4
  isplitl [H7]
  · iexact H7
  isplitl [H8]
  · iexact H8
  isplitl [H9]
  · iexact H9
  isplitl [H10]
  · iexact H10
  isplitl [H12]
  · iexact H12
  isplitl [H15]
  · iexact H15
  isplitl [H16]
  · iexact H16
  isplitl [H17]
  · iexact H17
  isplitl [H18]
  · iexact H18
  isplitl [H19]
  · iexact H19
  iintro ⟨H2, H3, H4, H7, H8, H9, H10, H12, H15, H16, H17, H18, H19⟩
  ihave H12 := (ownsSat_elim (c : Thread nD τ) arg12 fullShare (Rows 3 x4)) $$ H12
  icases H12 with ⟨%X3, %hX3, H12⟩
  iapply (rows_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x4 X3 hX3)
  isplitl [H4]
  · iexact H4
  isplitl [H12]
  · iexact H12
  iintro ⟨H4, H12⟩
  ihave H12 := (ownsSat_elim (c : Thread nD τ) arg12 fullShare (Rows 53 x4)) $$ H12
  icases H12 with ⟨%X53, %hX53, H12⟩
  iapply (edge_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x4 x5 x6 X53 hX53)
  isplitl [H4]
  · iexact H4
  isplitl [H5]
  · iexact H5
  isplitl [H6]
  · iexact H6
  isplitl [H12]
  · iexact H12
  iintro ⟨H4, H5, H6, H12⟩
  iapply (mid_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
  isplitl [H12]
  · iexact H12
  isplitl [H13]
  · iexact H13
  isplitl [H15]
  · iexact H15
  isplitl [H16]
  · iexact H16
  isplitl [H17]
  · iexact H17
  isplitl [H18]
  · iexact H18
  isplitl [H19]
  · iexact H19
  iintro ⟨H12, H13, H15, H16, H17, H18, H19⟩
  iapply (out_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
  isplitl [H11]
  · iexact H11
  isplitl [H13]
  · iexact H13
  isplitl [H14]
  · iexact H14
  iintro ⟨H11, H13, H14⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexists _
    iexact H13
  isplitl [H14]
  · iexact H14
  isplitl [H15]
  · iexact H15
  isplitl [H16]
  · iexact H16
  isplitl [H17]
  · iexact H17
  isplitl [H18]
  · iexact H18
  iexact H19

end Cert.KernelIdeal

end
-- ==== Proof.Conv.Dats.lean ====
module

public import proofs.«01_k».proof.Proof.Gen.KernelIdeal.Frame
public import proofs.«01_k».proof.Proof.Conv.Body
public import Idealize.ShloMosaic.Lib.Claim
@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid and the tables -/

/-- Point `t` is stripe `t mod 4` of image `t / 4`. -/
theorem coords_val : ∀ t : Fin grid0.N, (grid0.coords t 0).val = t.val / 4 ∧ (grid0.coords t 1).val = t.val % 4 := by decide +kernel

/-- Every chosen expert is one of the eight, in every core's memory. -/
def InRange : Prop := ∀ (c : Dev nD) (y : S2x2.Idx), ((V m c main_arg1 : Vec F S2x2 .i32) y : BitVec 32).toNat < 8

/-- Window 0's block at point `t`. -/
abbrev blk0 (c : Dev nD) (t : Fin cfg0.N) : Vec F S2x2 .i32 := iblk m c 0 t
/-- Window 1's block at point `t`. -/
abbrev blk1 (c : Dev nD) (t : Fin cfg0.N) : Vec F S2x2 .f32 := iblk m c 1 t
/-- Window 2's block at point `t`. -/
abbrev blk2 (c : Dev nD) (t : Fin cfg0.N) : Vec F S1x96x56x224 .f32 := iblk m c 2 t
/-- Window 3's block at point `t`. -/
abbrev blk3 (c : Dev nD) (t : Fin cfg0.N) : Vec F S1x96x8x224 .f32 := iblk m c 3 t
/-- Window 4's block at point `t`. -/
abbrev blk4 (c : Dev nD) (t : Fin cfg0.N) : Vec F S1x96x8x224 .f32 := iblk m c 4 t
/-- Window 5's block at point `t`. -/
abbrev blk5 (c : Dev nD) (t : Fin cfg0.N) : Vec F S8x9x48x96 .f32 := iblk m c 5 t
/-- Window 6's block at point `t`. -/
abbrev blk6 (c : Dev nD) (t : Fin cfg0.N) : Vec F S8x48x1 .f32 := iblk m c 6 t
/-- Window 7's block at point `t`. -/
abbrev blk7 (c : Dev nD) (t : Fin cfg0.N) : Vec F S8x48x9 .f32 := iblk m c 7 t
/-- Window 8's block at point `t`. -/
abbrev blk8 (c : Dev nD) (t : Fin cfg0.N) : Vec F S8x48x1 .f32 := iblk m c 8 t

/-- The tables are the same block at every point. -/
theorem blk_const (c : Dev nD) (t t' : Fin cfg0.N) : blk0 m c t = blk0 m c t' ∧ blk5 m c t = blk5 m c t' ∧ blk6 m c t = blk6 m c t' ∧ blk7 m c t = blk7 m c t'
    ∧ blk8 m c t = blk8 m c t' := ⟨rfl, rfl, rfl, rfl, rfl⟩

/-- The word that names the `k`-th chosen expert at point `t`. -/
def expAt (c : Dev nD) (t : Fin cfg0.N) (k : Fin 2) : ℕ := (cell (blk0 m c t) (grid0.coords t) k : BitVec 32).toNat

/-- Within one image the chosen experts do not change. -/
theorem expAt_prev (c : Dev nD) (n : ℕ) (hn : n + 1 < cfg0.N) (h : (grid0.coords ⟨n + 1, hn⟩ 1).val ≠ 0) (k : Fin 2) :
    expAt m c ⟨n + 1, hn⟩ k = expAt m c ⟨n, Nat.lt_of_succ_lt hn⟩ k := by
  unfold expAt
  rw [(blk_const m c ⟨n + 1, hn⟩ ⟨n, Nat.lt_of_succ_lt hn⟩).1]
  unfold cell
  have e : (⟨(grid0.coords ⟨n + 1, hn⟩ 0).val, (grid0.coords ⟨n + 1, hn⟩ 0).isLt⟩ : Fin 2) = ⟨(grid0.coords ⟨n, Nat.lt_of_succ_lt hn⟩ 0).val, (grid0.coords ⟨n, Nat.lt_of_succ_lt hn⟩ 0).isLt⟩ := by
    apply Fin.ext
    show (grid0.coords ⟨n + 1, hn⟩ 0).val = (grid0.coords ⟨n, Nat.lt_of_succ_lt hn⟩ 0).val
    have h1 := coords_val ⟨n + 1, hn⟩
    have h0 := coords_val ⟨n, Nat.lt_of_succ_lt hn⟩
    simp only at h1 h0
    omega
  exact congrArg (fun r : Fin 2 => ((blk0 m c ⟨n, Nat.lt_of_succ_lt hn⟩ (ValueIdx.ix2 r k) : Elt F .i32) : BitVec 32).toNat) e

/-! ## The invariant between grid points -/

/-- Scratch buffer 0. -/
abbrev sc0 : Memref sig .tc .vmem S96x15360 .f32 := Memref.whole cc0_scratch0
/-- Scratch buffer 1. -/
abbrev sc1 : Memref sig .tc .vmem S96x14848 .f32 := Memref.whole cc0_scratch1
/-- Scratch buffer 2. -/
abbrev sc2 : Memref sig .tc .vmem S96x14336 .f32 := Memref.whole cc0_scratch2
/-- Scratch buffer 3. -/
abbrev sc3 : Memref sig .tc .vmem S1x14848 .f32 := Memref.whole cc0_scratch3
/-- Scratch buffer 4. -/
abbrev sc4 : Memref sig .tc .vmem S3x288x96 .f32 := Memref.whole cc0_scratch4
/-- Scratch buffer 5. -/
abbrev sc5 : Memref sig .tc .vmem S96x9 .f32 := Memref.whole cc0_scratch5
/-- Scratch buffer 6. -/
abbrev sc6 : Memref sig .tc .vmem S96x1 .f32 := Memref.whole cc0_scratch6
/-- Scratch buffer 7. -/
abbrev sc7 : Memref sig .tc .vmem S96x1 .f32 := Memref.whole cc0_scratch7

/-- What the scratch buffers hold after point `t`: zero padding, the column mask, and the chosen experts' weights. -/
def left (c : Dev nD) (t : Fin cfg0.N) : sProp 𝕄 :=
  iprop(ownsSat (c : Thread nD τ) sc0 fullShare PadZ
    ∗ (∃ x, owns (c : Thread nD τ) sc1 fullShare x) ∗ (∃ x, owns (c : Thread nD τ) sc2 fullShare x)
    ∗ owns (c : Thread nD τ) sc3 fullShare k0_pay10
    ∗ owns (c : Thread nD τ) sc4 fullShare (W9S (expAt m c t 0) (expAt m c t 1) (blk5 m c t))
    ∗ owns (c : Thread nD τ) sc5 fullShare (WDS (expAt m c t 0) (expAt m c t 1) (blk7 m c t))
    ∗ owns (c : Thread nD τ) sc6 fullShare (SHS (expAt m c t 0) (expAt m c t 1) (blk6 m c t))
    ∗ owns (c : Thread nD τ) sc7 fullShare (SHS (expAt m c t 0) (expAt m c t 1) (blk8 m c t))
    ∗ (∃ r, prngReg c r))

/-- The invariant before position `n`: at first every scratch buffer at anything, later what the point before left. -/
def PhiS (c : Dev nD) : (n : ℕ) → n ≤ cfg0.N → sProp 𝕄
  | 0, _ => Pipeline.ΦA spec0 c
  | n + 1, hn => left m c ⟨n, hn⟩

theorem PhiS_succ (c : Dev nD) (n : ℕ) (hn : n < cfg0.N) : PhiS m c (n + 1) hn = left m c ⟨n, hn⟩ := rfl

/-- The launch's invariant: every scratch buffer at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

/-- The output block of point `t`. -/
def outAt (c : Dev nD) (t : Fin cfg0.N) : Vec F S1x96x56x224 .f32 :=
  OUT9 (grid0.coords t) (blk0 m c t) (blk1 m c t) (blk2 m c t) (blk3 m c t) (blk4 m c t) (blk5 m c t) (blk6 m c t) (blk7 m c t) (blk8 m c t)

/-- The pipeline's proof data: inputs keep their blocks, the output's block is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val (Nat.le_of_lt_succ t.isLt)
  q w := if (spec0 w).isOut then fullShare else Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- No window is ever idle. -/
theorem live (w : Fin cfg0.W) : ∀ t : Fin cfg0.N, cfg0.idle w (grid0.coords t) = false := fun _ => rfl

/-! ## The body at a grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The body at point `t`, from the scratch buffers as any point before may have left them. -/
theorem point_spec (hR : InRange m) (c : Dev nD) (t : Fin cfg0.N)
    (X : Vec F S96x15360 .f32) (x15 : Vec F S1x14848 .f32) (x16 : Vec F S3x288x96 .f32) (x17 : Vec F S96x9 .f32) (x18 x19 : Vec F S96x1 .f32)
    (hX : ¬((grid0.coords t 0).val = 0 ∧ (grid0.coords t 1).val = 0) → PadZ X ∧ x15 = k0_pay10)
    (hS : (grid0.coords t 1).val ≠ 0 → x16 = W9S (expAt m c t 0) (expAt m c t 1) (blk5 m c t) ∧ x17 = WDS (expAt m c t 0) (expAt m c t 1) (blk7 m c t)
      ∧ x18 = SHS (expAt m c t 0) (expAt m c t 1) (blk6 m c t) ∧ x19 = SHS (expAt m c t 0) (expAt m c t 1) (blk8 m c t)) :
    iprop(iprop(owns (c : Thread nD τ) sc0 fullShare X ∗ (∃ x, owns (c : Thread nD τ) sc1 fullShare x) ∗ (∃ x, owns (c : Thread nD τ) sc2 fullShare x)
        ∗ owns (c : Thread nD τ) sc3 fullShare x15 ∗ owns (c : Thread nD τ) sc4 fullShare x16 ∗ owns (c : Thread nD τ) sc5 fullShare x17
        ∗ owns (c : Thread nD τ) sc6 fullShare x18 ∗ owns (c : Thread nD τ) sc7 fullShare x19 ∗ (∃ r, prngReg c r))
      ∗ (dats m 0 c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (iblk m c 5 t)
      ∗ owns (c : Thread nD τ) (st0_6 t) fullShare (iblk m c 6 t)
      ∗ owns (c : Thread nD τ) (st0_7 t) fullShare (iblk m c 7 t)
      ∗ owns (c : Thread nD τ) (st0_8 t) fullShare (iblk m c 8 t)
      ∗ (∃ x, owns (c : Thread nD τ) (st0_9 t) fullShare x))
    ⊢ wp frame (wpE (defs₀ (F := F)) Variants.none c none) Set.univ (bodyAt0 t) (fun _ => bodyPost m c t) := by
  unfold bodyPost bodyAt0
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (st0_0 t) fullShare ((dats m 0 c).after 0 t) from by
    unfold Dat.leavesExact; rw [live 0 t], after0_0]
  rw [show (dats m 0 c).leavesExact 1 t = owns (c : Thread nD τ) (st0_1 t) fullShare ((dats m 0 c).after 1 t) from by
    unfold Dat.leavesExact; rw [live 1 t], after0_1]
  rw [show (dats m 0 c).leavesExact 2 t = owns (c : Thread nD τ) (st0_2 t) fullShare ((dats m 0 c).after 2 t) from by
    unfold Dat.leavesExact; rw [live 2 t], after0_2]
  rw [show (dats m 0 c).leavesExact 3 t = owns (c : Thread nD τ) (st0_3 t) fullShare ((dats m 0 c).after 3 t) from by
    unfold Dat.leavesExact; rw [live 3 t], after0_3]
  rw [show (dats m 0 c).leavesExact 4 t = owns (c : Thread nD τ) (st0_4 t) fullShare ((dats m 0 c).after 4 t) from by
    unfold Dat.leavesExact; rw [live 4 t], after0_4]
  rw [show (dats m 0 c).leavesExact 5 t = owns (c : Thread nD τ) (st0_5 t) fullShare ((dats m 0 c).after 5 t) from by
    unfold Dat.leavesExact; rw [live 5 t], after0_5]
  rw [show (dats m 0 c).leavesExact 6 t = owns (c : Thread nD τ) (st0_6 t) fullShare ((dats m 0 c).after 6 t) from by
    unfold Dat.leavesExact; rw [live 6 t], after0_6]
  rw [show (dats m 0 c).leavesExact 7 t = owns (c : Thread nD τ) (st0_7 t) fullShare ((dats m 0 c).after 7 t) from by
    unfold Dat.leavesExact; rw [live 7 t], after0_7]
  rw [show (dats m 0 c).leavesExact 8 t = owns (c : Thread nD τ) (st0_8 t) fullShare ((dats m 0 c).after 8 t) from by
    unfold Dat.leavesExact; rw [live 8 t], after0_8]
  rw [show (dats m 0 c).leavesExact 9 t = owns (c : Thread nD τ) (st0_9 t) fullShare ((dats m 0 c).after 9 t) from by
    unfold Dat.leavesExact; rw [live 9 t], after0_9]
  unfold left
  iintro ⟨⟨S0, S1, S2, S3, S4, S5, S6, S7, Hg⟩, Ho, H0, H1, H2, H3, H4, H5, H6, H7, H8, H9⟩
  iapply (body_spec c (grid0.coords t) _ _ _ _ _ _ _ _ _ _ _ _ _ _ _ _ _ _ _ _ _ _ _ _ _ _ _ _ _ _ _ _ _ _ _ _ (blk0 m c t) (blk1 m c t) (blk2 m c t) (blk3 m c t) (blk4 m c t) (blk5 m c t) (blk6 m c t)
    (blk7 m c t) (blk8 m c t) X x15 x16 x17 x18 x19 (fun y => hR c _) hX hS)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [S0]
  · iexact S0
  isplitl [S1]
  · iexact S1
  isplitl [S2]
  · iexact S2
  isplitl [S3]
  · iexact S3
  isplitl [S4]
  · iexact S4
  isplitl [S5]
  · iexact S5
  isplitl [S6]
  · iexact S6
  isplitl [S7]
  · iexact S7
  iintro ⟨H0, H1, H2, H3, H4, H5, H6, H7, H8, H9, S0, S1, S2, S3, S4, S5, S6, S7⟩
  isplitl [S0 S1 S2 S3 S4 S5 S6 S7 Hg]
  · isplitl [S0]
    · iapply (ownsSat_intro (c : Thread nD τ) sc0 fullShare (XS_pad _ _ _ _))
      iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

/-- The body at any point. -/
theorem sound_body (hR : InRange m) (c : Dev nD) (t : Fin cfg0.N) :
    bodyPre m c t ⊢ wp frame (wpE (defs₀ (F := F)) Variants.none c none) Set.univ (bodyAt0 t) (fun _ => bodyPost m c t) := by
  unfold bodyPre
  simp only [before0_0, before0_1, before0_2, before0_3, before0_4, before0_5, before0_6, before0_7, before0_8]
  rw [PhiS_castSucc m c t]
  obtain ⟨n, hn⟩ := t
  cases n with
  | zero =>
    have hc := coords_val ⟨0, hn⟩
    rw [show PhiS m c 0 (Nat.le_of_lt hn) = Pipeline.ΦA spec0 c from rfl, PhiA0_eq]
    iintro ⟨⟨⟨⟨%X, S0⟩, S1, S2, ⟨%x15, S3⟩, ⟨%x16, S4⟩, ⟨%x17, S5⟩, ⟨%x18, S6⟩, ⟨%x19, S7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (point_spec m hR c ⟨0, hn⟩ X x15 x16 x17 x18 x19 (fun h => absurd ⟨hc.1.trans (Nat.zero_div 4), hc.2.trans (Nat.zero_mod 4)⟩ h) (fun h => absurd (hc.2.trans (Nat.zero_mod 4)) h))
    isplitl [S0 S1 S2 S3 S4 S5 S6 S7 Hg]
    · isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      isplitl [S7]
      · iexact S7
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexists _
    iexact H9
  | succ n =>
    have hc := coords_val ⟨n + 1, hn⟩
    rw [show PhiS m c (n + 1) (Nat.le_of_lt hn) = left m c ⟨n, Nat.lt_of_succ_lt hn⟩ from rfl]
    unfold left
    iintro ⟨⟨S0, S1, S2, S3, S4, S5, S6, S7, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave S0 := (ownsSat_elim (c : Thread nD τ) sc0 fullShare PadZ) $$ S0
    icases S0 with ⟨%X, %hX, S0⟩
    iapply (point_spec m hR c ⟨n + 1, hn⟩ X k0_pay10 _ _ _ _ (fun _ => ⟨hX, rfl⟩) (fun h => by
      have hk := expAt_prev m c n hn h
      have hb := blk_const m c ⟨n + 1, hn⟩ ⟨n, Nat.lt_of_succ_lt hn⟩
      rw [hk 0, hk 1, hb.2.1, hb.2.2.1, hb.2.2.2.1, hb.2.2.2.2]
      exact ⟨rfl, rfl, rfl, rfl⟩))
    isplitl [S0 S1 S2 S3 S4 S5 S6 S7 Hg]
    · isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      isplitl [S7]
      · iexact S7
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexists _
    iexact H9

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (hR : InRange m) (c : Dev nD) : BodyObligation (dats (F := F) m 0 c) (defs₀ (F := F)) Variants.none () Set.univ := fun t => by
  rw [bigSep_W0, bigSep_W0, defs₀_row]
  exact triple_restated (sound_body m hR c t) rfl .rfl fun _ => .rfl

/-- What the launch hands over is the invariant before the first point. -/
theorem hin (c : Dev nD) : Pipeline.ΦA spec0 c ⊢ (dats m 0 c).Φ 0 := by
  rw [show (dats m 0 c).Φ 0 = Pipeline.ΦA spec0 c from rfl]

/-- After the last point the invariant gives the scratch buffers back. -/
theorem hout (c : Dev nD) : (dats m 0 c).Φ (Fin.last cfg0.N) ⊢ Pipeline.ΦA spec0 c := by
  rw [show (dats m 0 c).Φ (Fin.last cfg0.N) = left m c ⟨7, by rw [show cfg0.N = 8 from N_0]; decide⟩ from rfl, PhiA0_eq]
  unfold left
  iintro ⟨S0, S1, S2, S3, S4, S5, S6, S7, Hg⟩
  ihave S0 := (ownsSat_elim (c : Thread nD τ) sc0 fullShare PadZ) $$ S0
  icases S0 with ⟨%X, %hX, S0⟩
  isplitl [S0 S1 S2 S3 S4 S5 S6 S7]
  · isplitl [S0]
    · iexists _
      iexact S0
    isplitl [S1]
    · iexact S1
    isplitl [S2]
    · iexact S2
    isplitl [S3]
    · iexists _
      iexact S3
    isplitl [S4]
    · iexists _
      iexact S4
    isplitl [S5]
    · iexists _
      iexact S5
    isplitl [S6]
    · iexists _
      iexact S6
    iexists _
    iexact S7
  iexact Hg

/-- Every input window's share is its part of its array. -/
theorem shares (c : Dev nD) (w : Fin cfg0.W) (h : (spec0 w).isOut = false) : (dats m 0 c).q w = Pipeline.shareOf spec0 w := by
  dsimp only [dats]; rw [h]; rfl

set_option backward.isDefEq.respectTransparency.types false in
/-- The run: every execution ends, with every window's array as the proof data say, and every counter at zero. -/
theorem run_main (hR : InRange m) : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m hR c).loose) (hq := shares m)
    (howed := fun _ _ => rfl) (V := V m) (hmain := hmain m Variants.none) (hA := A_eq m) (hin := hin m) (hout := hout m)

/-- The frame: the argument arrays end unchanged, and every counter ends at zero. -/
theorem frame_main (hR : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main m ρ hR)))
    ((θ_run defs _ _).mono (fun _ h => h.2) (run_main m ρ hR))

end Cert.KernelIdeal

end
-- ==== Proof.Value.Pre.lean ====
/- What the predicate on the expert words says of the argument arrays, element by element. -/
module

public import proofs.«01_k».proof.Pre_in_range
public import Idealize.ShloMosaic.Lib.ReduceAll
public import Idealize.ShloMosaic.Lib.Pointwise
public import Idealize.ShloMosaic.PureOps.Ideal

@[expose] public section

noncomputable section

namespace Cert.Pre

open Idealize.ShloMosaic

/-- A word that compares at least 0 and below 8 as a signed number is below 8 as a natural number. -/
theorem word_lt (w : BitVec 32) (h0 : IntOp.cmpi .sge w 0#32 = 1#1) (h8 : IntOp.cmpi .slt w 8#32 = 1#1) : w.toNat < 8 := by
  have ofBool_eq_one (p : Bool) : (BitVec.ofBool p = 1#1) ↔ p = true := by cases p <;> decide
  simp only [IntOp.cmpi, ofBool_eq_one, BitVec.sle, BitVec.slt, decide_eq_true_eq, BitVec.toInt, BitVec.toNat_ofNat] at h0 h8
  omega

instance : Subsingleton Cert.Pre_in_range.S_.Idx := ⟨fun a b => funext fun k => k.elim0⟩

/-- `in_range` says that every expert word is below 8. -/
theorem in_range_word {F : FTy → Type} [FloatOps F] [Cert.Pre_in_range.Facts] {a0 a1 a2 a3 a4 a5 a6 a7 a8}
    (e : Cert.Pre_in_range.fn (F := F) a0 a1 a2 a3 a4 a5 a6 a7 a8 = fun _ => 1#1) (y : Cert.Pre_in_range.S2x2.Idx) :
    (a1 y : BitVec 32).toNat < 8 := by
  have h := Host.reduce_andi_all _ _ _ _ _ (congrFun e (fun k => k.elim0)) y
  obtain ⟨h0, h8⟩ := IntOp.andi_eq_one.1 h
  exact word_lt _ h0 h8

end Cert.Pre

end
-- ==== Proof.Value.Ref.lean ====
module

public import proofs.«01_k».proof.Proof.Gen.ReferenceIdeal.Run
public import proofs.«01_k».proof.Proof.Gen.ReferenceIdeal.Read
-- ==== Proof.Frames.lean ====
/- The frames: each program runs, leaves its arguments as they were, and ends with every counter at zero. -/
module

public import proofs.«01_k».proof.Defs
public import proofs.«01_k».proof.Proof.Conv.Dats
public import proofs.«01_k».proof.Proof.ConvBits.Dats
public import proofs.«01_k».proof.Proof.Gen.Pre_in_range
public import proofs.«01_k».proof.Proof.Gen.Routing.Frame
public import proofs.«01_k».proof.Proof.Value.Pre
public import proofs.«01_k».proof.Proof.Value.Ref

@[expose] public section

noncomputable section

namespace Cert.Proof

open Idealize.ShloMosaic Idealize.SL.Sem

attribute [local instance] Cert.Kernel.Gen.facts Cert.KernelIdeal.Gen.facts Cert.ReferenceIdeal.Gen.facts
  Cert.Routing.Gen.facts Cert.Pre_in_range.Gen.facts

/-- Under `in_range` the words the kernel reads are below 8 when it starts. -/
theorem inRange_kernel (m : (ℓ : Loc Cert.Kernel.nD Cert.Kernel.τ Cert.Kernel.sig) → Buf (Elt Bits) ℓ)
    (h : Cert.Pre_Kernel m) : Cert.Kernel.InRange m := fun c y => by
  rw [Cert.Kernel.Gen.V_main_arg1]; exact Cert.Pre.in_range_word (h c) y

/-- The same of the program read at the extended reals. -/
theorem inRange_ideal (m : (ℓ : Loc Cert.KernelIdeal.nD Cert.KernelIdeal.τ Cert.KernelIdeal.sig) → Buf (Elt Ideal) ℓ)
    (h : Cert.Pre_KernelIdeal m) : Cert.KernelIdeal.InRange m := fun c y => by
  rw [Cert.KernelIdeal.Gen.V_main_arg1]; exact Cert.Pre.in_range_word (h c) y

/-- The convolution kernel's frame. -/
theorem frame_kernel : Cert.quiescent_Kernel := fun m g h =>
  Cert.Kernel.frame_main m g (inRange_kernel m h)

/-- The frame of the convolution kernel at the extended reals. -/
theorem frame_ideal : Cert.quiescent_KernelIdeal := fun m g h =>
  Cert.KernelIdeal.frame_main m g (inRange_ideal m h)

/-- The reference's frame. -/
theorem frame_reference : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The routing kernel's frame. -/
theorem frame_routing : Cert.quiescent_Routing := fun m g _ => Cert.Routing.Gen.frame m g

end Cert.Proof

end
-- ==== Proof.Value.PreFinite.lean ====
/- What the predicate of the value claim says of the argument arrays, element by element. -/
module

public import proofs.«01_k».proof.Proof.Value.Pre
public import proofs.«01_k».proof.Pre_finite
public import Idealize.ShloMosaic.Lib.ReduceAll
public import Idealize.ShloMosaic.Lib.Pointwise
public import Idealize.ShloMosaic.PureOps.Ideal

@[expose] public section

noncomputable section

namespace Cert.Pre

open Idealize.ShloMosaic

/-- An extended real whose magnitude compares below the format's infinity is a real number. -/
theorem real_of_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  have hb (p : Bool) : (BitVec.ofBool p = 1#1) → p = true := by cases p <;> decide
  have hlt := of_decide_eq_true (hb _ h')
  rw [max_lt_iff] at hlt
  refine ⟨x.toReal, (EReal.coe_toReal hlt.1.ne ?_).symm⟩
  rintro rfl
  exact absurd hlt.2 (by simp)

instance : Subsingleton Cert.Pre_finite.S_.Idx := ⟨fun a b => funext fun k => k.elim0⟩

section
variable [Cert.Pre_finite.Facts] {F : FTy → Type} [FloatOps F]

/-- The seven conjuncts of `finite`, each at an index of its own array. -/
theorem finite_split {a0 a1 a2 a3 a4 a5 a6 a7 a8}
    (e : Cert.Pre_finite.fn (F := F) a0 a1 a2 a3 a4 a5 a6 a7 a8 = fun _ => 1#1) :
    (∀ y, (a1 y : BitVec 32).toNat < 8)
      ∧ (∀ y, FloatOps.cmpf .olt (FloatOps.hostAbsf (a0 y)) (FloatOps.ofBits (F := F) .f32 0x7F800000#32) = 1#1)
      ∧ (∀ y, FloatOps.cmpf .olt (FloatOps.hostAbsf (a3 y)) (FloatOps.ofBits (F := F) .f32 0x7F800000#32) = 1#1)
      ∧ (∀ y, FloatOps.cmpf .olt (FloatOps.hostAbsf (a4 y)) (FloatOps.ofBits (F := F) .f32 0x7F800000#32) = 1#1)
      ∧ (∀ y, FloatOps.cmpf .olt (FloatOps.hostAbsf (a5 y)) (FloatOps.ofBits (F := F) .f32 0x7F800000#32) = 1#1)
      ∧ (∀ y, FloatOps.cmpf .olt (FloatOps.hostAbsf (a6 y)) (FloatOps.ofBits (F := F) .f32 0x7F800000#32) = 1#1)
      ∧ (∀ y, FloatOps.cmpf .olt (FloatOps.hostAbsf (a7 y)) (FloatOps.ofBits (F := F) .f32 0x7F800000#32) = 1#1) := by
  have h := congrFun e (fun k => k.elim0)
  unfold Cert.Pre_finite.fn Cert.Pre_finite.fn_part1 Cert.Pre_finite.fn_part2 at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h0⟩ := IntOp.andi_eq_one.1 h
  refine ⟨fun y => ?_, fun y => Host.reduce_andi_all _ _ _ _ _ h0 y, fun y => Host.reduce_andi_all _ _ _ _ _ h3 y,
    fun y => Host.reduce_andi_all _ _ _ _ _ h4 y, fun y => Host.reduce_andi_all _ _ _ _ _ h5 y,
    fun y => Host.reduce_andi_all _ _ _ _ _ h6 y, fun y => Host.reduce_andi_all _ _ _ _ _ h7 y⟩
  obtain ⟨g0, g8⟩ := IntOp.andi_eq_one.1 (Host.reduce_andi_all _ _ _ _ _ h1 y)
  exact word_lt _ g0 g8

end

end Cert.Pre

end
-- ==== Proof.Value.Spec.lean ====
module

public import proofs.«01_k».proof.Proof.Conv.Defs
public import Idealize.ShloMosaic.PureOps.Ideal

@[expose] public section

set_option maxRecDepth 16384

noncomputable section

namespace Cert.Spec

open Idealize.ShloMosaic

/-! ## The expected result, over the reals and natural coordinates -/

/-- The image with a border of zeros: row and column 0 are the border, everything beyond the image is zero already. -/
def xp (x : ℕ → ℕ → ℕ → ℕ → ℝ) (b c r q : ℕ) : ℝ := if r = 0 ∨ q = 0 then 0 else x b c (r - 1) (q - 1)

/-- The 3x3 convolution of image `b` with expert `e`'s filter for channel `o`, at a pixel. -/
def cv (x : ℕ → ℕ → ℕ → ℕ → ℝ) (W : ℕ → ℕ → ℕ → ℕ → ℕ → ℝ) (b e o h w : ℕ) : ℝ :=
  ∑ dy : Fin 3, ∑ dx : Fin 3, ∑ c : Fin 96, W e o c.val dy.val dx.val * xp x b c.val (h + dy.val) (w + dx.val)

/-- `a` times its logistic. -/
def silu (a : ℝ) : ℝ := a * (1 + Real.exp (-a))⁻¹

/-- The first half of the channels: convolution, scale, offset, activation. -/
def x1 (x : ℕ → ℕ → ℕ → ℕ → ℝ) (W : ℕ → ℕ → ℕ → ℕ → ℕ → ℝ) (g bp : ℕ → ℕ → ℝ) (s : ℝ) (b e o h w : ℕ) : ℝ :=
  silu (cv x W b e o h w * (g e o * (1 / s)) + bp e o)

/-- An image of 224 by 224 with a border of zeros around it. -/
def bd (f : ℕ → ℕ → ℝ) (r q : ℕ) : ℝ := if r = 0 ∨ q = 0 ∨ 224 < r ∨ 224 < q then 0 else f (r - 1) (q - 1)

/-- The depthwise 3x3 convolution of a bordered image. -/
def dw (wc : ℕ → ℕ → ℝ) (f : ℕ → ℕ → ℝ) (h w : ℕ) : ℝ :=
  ∑ dy : Fin 3, ∑ dx : Fin 3, wc dy.val dx.val * bd f (h + dy.val) (w + dx.val)

/-- `a` times its logistic, over the extended reals. -/
def esilu (a : EReal) : EReal := a * Ideal.logistic a

/-- The second half of the channels: depthwise convolution, scale, offset, activation. -/
def x2 (x : ℕ → ℕ → ℕ → ℕ → ℝ) (W : ℕ → ℕ → ℕ → ℕ → ℕ → ℝ) (g bp : ℕ → ℕ → ℝ) (Wc : ℕ → ℕ → ℕ → ℕ → ℝ) (gc : ℕ → ℕ → ℝ) (bc : ℕ → ℕ → EReal)
    (s : ℝ) (b e o h w : ℕ) : EReal :=
  esilu (((dw (Wc e o) (x1 x W g bp s b e o) h w * (gc e o * (1 / s)) : ℝ) : EReal) + bc e o)

/-- What expert `e` gives for image `b` at channel `ch`. -/
def feat (x : ℕ → ℕ → ℕ → ℕ → ℝ) (W : ℕ → ℕ → ℕ → ℕ → ℕ → ℝ) (g bp : ℕ → ℕ → ℝ) (Wc : ℕ → ℕ → ℕ → ℕ → ℝ) (gc : ℕ → ℕ → ℝ) (bc : ℕ → ℕ → EReal)
    (s : ℝ) (b e ch h w : ℕ) : EReal :=
  if ch < 48 then (x1 x W g bp s b e ch h w : EReal) else x2 x W g bp Wc gc bc s b e (ch - 48) h w

/-- A finite sum of reals, as a sum of extended reals. -/
theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- `silu` of a real, as the ideal values compute it. -/
theorem silu_coe (a : ℝ) : esilu (a : EReal) = (silu a : EReal) := by
  unfold esilu; rw [Ideal.logistic_coe, ← EReal.coe_mul]; rfl

/-- Folding the scale into the weights, one tap column after the other, is the scaled convolution. -/
theorem cv_folded (x : ℕ → ℕ → ℕ → ℕ → ℝ) (W : ℕ → ℕ → ℕ → ℕ → ℕ → ℝ) (k : ℝ) (b e o h w : ℕ) (T : ℕ → ℕ → EReal)
    (hT : ∀ dy dx : Fin 3, T dy.val dx.val = ∑ c : Fin 96, ((W e o c.val dy.val dx.val * k : ℝ) : EReal) * (xp x b c.val (h + dy.val) (w + dx.val) : EReal)) :
    (((T 0 0 + T 1 0) + T 2 0) + ((T 0 1 + T 1 1) + T 2 1)) + ((T 0 2 + T 1 2) + T 2 2) = ((cv x W b e o h w * k : ℝ) : EReal) := by
  have h' : ∀ dy dx : Fin 3, T dy.val dx.val = (((∑ c : Fin 96, W e o c.val dy.val dx.val * xp x b c.val (h + dy.val) (w + dx.val)) * k : ℝ) : EReal) := fun dy dx => by
    rw [hT, Finset.sum_mul, coe_sum]
    exact Finset.sum_congr rfl fun c _ => by rw [← EReal.coe_mul]; congr 1; ring
  have e00 := h' 0 0; have e10 := h' 1 0; have e20 := h' 2 0
  have e01 := h' 0 1; have e11 := h' 1 1; have e21 := h' 2 1
  have e02 := h' 0 2; have e12 := h' 1 2; have e22 := h' 2 2
  simp only [Fin.val_zero, Fin.val_one, Fin.val_two] at e00 e10 e20 e01 e11 e21 e02 e12 e22
  rw [e00, e10, e20, e01, e11, e21, e02, e12, e22]
  simp only [← EReal.coe_add]
  congr 1
  simp only [cv, Fin.sum_univ_three, Fin.val_zero, Fin.val_one, Fin.val_two]
  ring

/-- The same for the depthwise convolution. -/
theorem dw_folded (wc : ℕ → ℕ → ℝ) (f : ℕ → ℕ → ℝ) (k : ℝ) (h w : ℕ) (T : ℕ → ℕ → EReal)
    (hT : ∀ dy dx : Fin 3, T dy.val dx.val = ((wc dy.val dx.val * k : ℝ) : EReal) * (bd f (h + dy.val) (w + dx.val) : EReal)) :
    (((T 0 0 + T 1 0) + T 2 0) + ((T 0 1 + T 1 1) + T 2 1)) + ((T 0 2 + T 1 2) + T 2 2) = ((dw wc f h w * k : ℝ) : EReal) := by
  have e00 := hT 0 0; have e10 := hT 1 0; have e20 := hT 2 0
  have e01 := hT 0 1; have e11 := hT 1 1; have e21 := hT 2 1
  have e02 := hT 0 2; have e12 := hT 1 2; have e22 := hT 2 2
  simp only [Fin.val_zero, Fin.val_one, Fin.val_two] at e00 e10 e20 e01 e11 e21 e02 e12 e22
  rw [e00, e10, e20, e01, e11, e21, e02, e12, e22]
  simp only [← EReal.coe_mul, ← EReal.coe_add]
  congr 1
  simp only [dw, Fin.sum_univ_three, Fin.val_zero, Fin.val_one, Fin.val_two]
  ring

end Cert.Spec

end
-- ==== Proof.Value.KernA.lean ====
module

public import proofs.«01_k».proof.Proof.Conv.Body
public import proofs.«01_k».proof.Proof.Value.Spec
public import Idealize.ShloMosaic.Lib.Pointwise.Tactic
public import Idealize.ShloMosaic.Lib.Pointwise.Contract
public import Idealize.ShloMosaic.Lib.Pipeline.Value

@[expose] public section

set_option maxRecDepth 16384

noncomputable section

namespace Cert.KernelIdeal

open Idealize.ShloMosaic Idealize.ShloMosaic.ValueIdx
open Cert.KernelIdeal.Gen
open Cert.Spec (esilu)

/-! ## The two convolution stages, element by element, over the extended reals -/

/-- The zero constant is zero. -/
theorem z0_eq : (z0 : Ideal .f32) = 0 := Ideal.ofBits_zero_f32

/-- A slice at an index is the operand at the index moved by the offsets. -/
theorem sl2 {n0 n1 m0 m1 o0 o1 : ℕ} (A : Vec Ideal ⟨2, ![n0, n1]⟩ .f32) (h : Shape.Slices ⟨2, ![n0, n1]⟩ ![o0, o1] ⟨2, ![m0, m1]⟩)
    (y : (⟨2, ![m0, m1]⟩ : Shape).Idx) :
    extractStridedSlice ⟨2, ![m0, m1]⟩ ![o0, o1] A h y = g2 A (o0 + (y 0).val) (o1 + (y 1).val) := by
  unfold extractStridedSlice; exact at2 A _ rfl rfl

/-- A column set before the first column. -/
theorem shR {n m : ℕ} (v : Ideal .f32) (B : Vec Ideal ⟨2, ![96, n]⟩ .f32)
    (h : Shape.Concatenates [(⟨2, ![96, 1]⟩ : Shape), ⟨2, ![96, n]⟩] ⟨2, ![96, m]⟩ 1) (hm : m = n + 1) (y : (⟨2, ![96, m]⟩ : Shape).Idx) :
    concatenate (⟨2, ![96, m]⟩ : Shape) 1 [⟨⟨2, ![96, 1]⟩, broadcast (⟨2, ![96, 1]⟩ : Shape) v⟩, ⟨⟨2, ![96, n]⟩, B⟩] h y
      = if (y 1).val = 0 then v else g2 B (y 0).val ((y 1).val - 1) := by
  have hy : (y 1).val < m := (y 1).isLt
  by_cases h0 : (y 1).val = 0
  · rw [if_pos h0]
    exact concatenate_pair_apply_left _ _ B h y rfl (ValueIdx.ix2 (y 0) 0) (fun b => by
      match b with
      | ⟨0, _⟩ => rfl
      | ⟨1, _⟩ => exact h0.symm)
  · have hlt : (y 1).val - 1 < n := by omega
    rw [if_neg h0]
    refine (concatenate_pair_apply_right _ _ B h y rfl rfl (ValueIdx.ix2 (y 0) ⟨(y 1).val - 1, hlt⟩) (fun b hb => by
      match b with
      | ⟨0, _⟩ => rfl
      | ⟨1, _⟩ => exact absurd rfl hb) (by show (y 1).val - 1 + 1 = (y 1).val; omega)).trans (g2_ix B (y 0) ⟨(y 1).val - 1, hlt⟩).symm

/-- A column set behind the last column. -/
theorem shL {n m : ℕ} (v : Ideal .f32) (B : Vec Ideal ⟨2, ![96, n]⟩ .f32)
    (h : Shape.Concatenates [(⟨2, ![96, n]⟩ : Shape), ⟨2, ![96, 1]⟩] ⟨2, ![96, m]⟩ 1) (hm : m = n + 1) (y : (⟨2, ![96, m]⟩ : Shape).Idx) :
    concatenate (⟨2, ![96, m]⟩ : Shape) 1 [⟨⟨2, ![96, n]⟩, B⟩, ⟨⟨2, ![96, 1]⟩, broadcast (⟨2, ![96, 1]⟩ : Shape) v⟩] h y
      = if (y 1).val < n then g2 B (y 0).val (y 1).val else v := by
  have hy : (y 1).val < m := (y 1).isLt
  by_cases h0 : (y 1).val < n
  · rw [if_pos h0]
    exact (concatenate_pair_apply_left _ B _ h y rfl (ValueIdx.ix2 (y 0) ⟨(y 1).val, h0⟩) (fun b => by
      match b with
      | ⟨0, _⟩ => rfl
      | ⟨1, _⟩ => rfl)).trans (g2_ix B (y 0) ⟨(y 1).val, h0⟩).symm
  · rw [if_neg h0]
    exact concatenate_pair_apply_right _ B _ h y rfl rfl (ValueIdx.ix2 (y 0) 0) (fun b hb => by
      match b with
      | ⟨0, _⟩ => rfl
      | ⟨1, _⟩ => exact absurd rfl hb) (by show 0 + n = (y 1).val; omega)

/-- A column repeated along the rows. -/
theorem bc2 {m : ℕ} (hm : m ≠ 1) (v : Vec Ideal ⟨2, ![96, 1]⟩ .f32) (h : Shape.Broadcasts ⟨2, ![96, 1]⟩ ⟨2, ![96, m]⟩) (y : (⟨2, ![96, m]⟩ : Shape).Idx) :
    broadcastTo ⟨2, ![96, m]⟩ v h y = g2 v (y 0).val 0 := by
  exact (broadcastTo_apply v h y (ValueIdx.ix2 (y 0) 0) (fun a => by
    match a with
    | ⟨0, _⟩ => rfl
    | ⟨1, _⟩ => rfl)).trans (g2_ix v (y 0) 0).symm

/-- Row `r` of a block of weights times column `p` of the stripe. -/
def TD (W : Vec Ideal S1x288x96 .f32) (X : Vec Ideal S96x14848 .f32) (r p : ℕ) : EReal :=
  ∑ c : Fin 96, g3 W 0 r c.val * g2 X c.val p

/-- The product of a tap row's weights with the stripe. -/
def MM (W : Vec Ideal S1x288x96 .f32) (X : Vec Ideal S96x14848 .f32) : FVec Ideal S288x14848 .f32 :=
  matmul (F := Ideal) (φ₁ := .f32) (φ₂ := .f32) dot_S288x96_S96x14848_S288x14848_1_0_0_1_n_n none (shapeCast S288x96 W shapeCasts_S1x288x96_S288x96) X (constant S288x14848 .f32 0x00000000#32)

/-- The product at an element. -/
theorem mm_apply (W : Vec Ideal S1x288x96 .f32) (X : Vec Ideal S96x14848 .f32) (z : S288x14848.Idx) :
    MM W X z = TD W X (z 0).val (z 1).val := by
  unfold MM
  simp only [pointwise]
  rw [zero_add]
  refine Finset.sum_congr rfl fun c _ => congrArg₂ (· * ·) ?_ (at2 X _ rfl rfl)
  exact (shapeCast_apply W shapeCasts_S1x288x96_S288x96 (ValueIdx.ix2 (z 0) c) (ValueIdx.ix3 0 (z 0) c) (by
    rw [Shape.rowMajor_val_three, Shape.rowMajor_val_two]
    show (0 * 288 + (z 0).val) * 96 + c.val = (z 0).val * 96 + c.val
    omega)).trans (g3_ix W 0 (z 0) c).symm

/-- A vector known by its coordinates, read at coordinates inside it. -/
theorem g2_of {n0 n1 : ℕ} (A : Vec Ideal ⟨2, ![n0, n1]⟩ .f32) (f : ℕ → ℕ → EReal) (h : ∀ z, A z = f (z 0).val (z 1).val) {a b : ℕ} (ha : a < n0) (hb : b < n1) :
    g2 A a b = f a b := by
  unfold g2; rw [dif_pos ⟨ha, hb⟩]; exact h _

/-- A slice of a vector known by its coordinates, read at coordinates inside it. -/
theorem slg {n0 n1 m0 m1 o0 o1 : ℕ} (A : Vec Ideal ⟨2, ![n0, n1]⟩ .f32) (f : ℕ → ℕ → EReal) (h : ∀ z, A z = f (z 0).val (z 1).val)
    (hs : Shape.Slices ⟨2, ![n0, n1]⟩ ![o0, o1] ⟨2, ![m0, m1]⟩) {a b : ℕ} (ha : a < m0) (hb : b < m1) (ha' : o0 + a < n0) (hb' : o1 + b < n1) :
    g2 (extractStridedSlice ⟨2, ![m0, m1]⟩ ![o0, o1] A hs) a b = f (o0 + a) (o1 + b) :=
  (g2_of _ (fun a b => g2 A (o0 + a) (o1 + b)) (fun z => sl2 A hs z) ha hb).trans (g2_of A f h ha' hb')

/-- The three tap rows' products for tap column `dx`. -/
def PD (X0 : Vec Ideal S96x14848 .f32) (W0 : Vec Ideal S1x288x96 .f32) (X1 : Vec Ideal S96x14848 .f32) (W1 : Vec Ideal S1x288x96 .f32)
    (X2 : Vec Ideal S96x14848 .f32) (W2 : Vec Ideal S1x288x96 .f32) (o r p : ℕ) : EReal :=
  (TD W0 X0 (o + r) p + TD W1 X1 (o + r) p) + TD W2 X2 (o + r) p

/-- The three products of one tap column, cut out and added. -/
theorem col_apply (X0 : Vec Ideal S96x14848 .f32) (W0 : Vec Ideal S1x288x96 .f32) (X1 : Vec Ideal S96x14848 .f32) (W1 : Vec Ideal S1x288x96 .f32)
    (X2 : Vec Ideal S96x14848 .f32) (W2 : Vec Ideal S1x288x96 .f32) {o : ℕ} (ho : o + 96 ≤ 288) (h : Shape.Slices S288x14848 ![o, 0] S96x14848) (z : S96x14848.Idx) :
    addf (F := Ideal) (φ := .f32) (addf
        (extractStridedSlice S96x14848 ![o, 0] (MM W0 X0) h)
        (extractStridedSlice S96x14848 ![o, 0] (MM W1 X1) h))
        (extractStridedSlice S96x14848 ![o, 0] (MM W2 X2) h) z
      = PD X0 W0 X1 W1 X2 W2 o (z 0).val (z 1).val := by
  have h0 : (z 0).val < 96 := (z 0).isLt
  have h1 : (z 1).val < 14848 := (z 1).isLt
  have key : ∀ (W : Vec Ideal S1x288x96 .f32) (X : Vec Ideal S96x14848 .f32),
      extractStridedSlice S96x14848 ![o, 0] (MM W X) h z
        = TD W X (o + (z 0).val) (z 1).val := fun W X =>
    (sl2 _ h z).trans ((g2_of _ (fun a b => TD W X a b) (mm_apply W X) (by omega) (by omega)).trans (congrArg (TD W X _) (Nat.zero_add _)))
  exact congrArg₂ (· + ·) (congrArg₂ (· + ·) (key W0 X0) (key W1 X1)) (key W2 X2)

/-- The first stage before its activation, at an element. -/
theorem pay79_apply (X0 : Vec Ideal S96x14848 .f32) (W0 : Vec Ideal S1x288x96 .f32) (X1 : Vec Ideal S96x14848 .f32) (W1 : Vec Ideal S1x288x96 .f32)
    (X2 : Vec Ideal S96x14848 .f32) (W2 : Vec Ideal S1x288x96 .f32) (bb : Vec Ideal S96x1 .f32) (y : S96x14848.Idx) :
    k0_pay79 X0 W0 X1 W1 X2 W2 bb y
      = (((if (y 1).val = 0 then 0 else PD X0 W0 X1 W1 X2 W2 0 (y 0).val ((y 1).val - 1)) + PD X0 W0 X1 W1 X2 W2 96 (y 0).val (y 1).val)
          + (if (y 1).val < 14847 then PD X0 W0 X1 W1 X2 W2 192 (y 0).val ((y 1).val + 1) else 0)) + g2 bb (y 0).val 0 := by
  have h0 : (y 0).val < 96 := (y 0).isLt
  have h1 : (y 1).val < 14848 := (y 1).isLt
  refine congrArg₂ (· + ·) (congrArg₂ (· + ·) (congrArg₂ (· + ·) ((shR _ _ _ rfl y).trans ?_) (col_apply X0 W0 X1 W1 X2 W2 (by decide) _ y)) ((shL _ _ _ rfl y).trans ?_)) (bc2 (by decide) _ _ y)
  · split
    · exact z0_eq
    · refine (slg (n0 := 96) (n1 := 14848) (m0 := 96) (m1 := 14847) _ _ (col_apply X0 W0 X1 W1 X2 W2 (by decide) _) _ h0 (by omega) (by omega) (by omega)).trans ?_
      rw [Nat.zero_add, Nat.zero_add]
  · split
    · refine (slg (n0 := 96) (n1 := 14848) (m0 := 96) (m1 := 14847) _ _ (col_apply X0 W0 X1 W1 X2 W2 (by decide) _) _ h0 (by omega) (by omega) (by omega)).trans ?_
      rw [Nat.zero_add, Nat.add_comm 1]
    · exact z0_eq

/-- One tap column's three products of the depthwise stage. -/
def QD (d : Vec Ideal S96x9 .f32) (V0 V1 V2 : Vec Ideal S96x14336 .f32) (k r p : ℕ) : EReal :=
  (g2 d r k * g2 V0 r p + g2 d r (3 + k) * g2 V1 r p) + g2 d r (6 + k) * g2 V2 r p

/-- A tap's weights repeated along the rows. -/
theorem tapB (d : Vec Ideal S96x9 .f32) {k : ℕ} (hk : k < 9) (h : Shape.Slices S96x9 ![0, k] S96x1) (y : S96x14336.Idx) :
    broadcastTo S96x14336 (shapeCast S96x1 (shapeCast S96 (extractStridedSlice S96x1 ![0, k] d h) shapeCasts_S96x1_S96) shapeCasts_S96_S96x1) broadcasts_S96x1_S96x14336 y
      = g2 d (y 0).val k := by
  have h0 : (y 0).val < 96 := (y 0).isLt
  refine (bc2 (by decide) _ _ y).trans ?_
  refine (g2_of _ (fun a b => g2 d a (k + b)) (fun z => ?_) h0 (by decide)).trans rfl
  refine (shapeCast_apply _ shapeCasts_S96_S96x1 z (ValueIdx.ix1 (z 0)) (by
    rw [Shape.rowMajor_val_one, Shape.rowMajor_val_two]
    show (z 0).val = (z 0).val * 1 + (z 1).val
    have : (z 1).val < 1 := (z 1).isLt
    omega)).trans ?_
  refine (shapeCast_apply _ shapeCasts_S96x1_S96 (ValueIdx.ix1 (z 0)) z (by
    rw [Shape.rowMajor_val_one, Shape.rowMajor_val_two]
    show (z 0).val * 1 + (z 1).val = (z 0).val
    have : (z 1).val < 1 := (z 1).isLt
    omega)).trans ?_
  refine (sl2 d h z).trans ?_
  rw [Nat.zero_add]

/-- One tap column of the depthwise stage. -/
theorem qcol_apply (d : Vec Ideal S96x9 .f32) (V0 V1 V2 : Vec Ideal S96x14336 .f32) {k k1 k2 : ℕ} (hk : k < 3) (e1 : 3 + k = k1) (e2 : 6 + k = k2)
    (h0 : Shape.Slices S96x9 ![0, k] S96x1) (h1 : Shape.Slices S96x9 ![0, k1] S96x1) (h2 : Shape.Slices S96x9 ![0, k2] S96x1) (y : S96x14336.Idx) :
    addf (F := Ideal) (φ := .f32) (addf (F := Ideal) (φ := .f32)
        (mulf (F := Ideal) (φ := .f32) (broadcastTo S96x14336 (shapeCast S96x1 (shapeCast S96 (extractStridedSlice S96x1 ![0, k] d h0) shapeCasts_S96x1_S96) shapeCasts_S96_S96x1) broadcasts_S96x1_S96x14336) V0)
        (mulf (F := Ideal) (φ := .f32) (broadcastTo S96x14336 (shapeCast S96x1 (shapeCast S96 (extractStridedSlice S96x1 ![0, k1] d h1) shapeCasts_S96x1_S96) shapeCasts_S96_S96x1) broadcasts_S96x1_S96x14336) V1))
        (mulf (F := Ideal) (φ := .f32) (broadcastTo S96x14336 (shapeCast S96x1 (shapeCast S96 (extractStridedSlice S96x1 ![0, k2] d h2) shapeCasts_S96x1_S96) shapeCasts_S96_S96x1) broadcasts_S96x1_S96x14336) V2) y
      = QD d V0 V1 V2 k (y 0).val (y 1).val := by
  subst e1 e2
  exact congrArg₂ (· + ·) (congrArg₂ (· + ·) (congrArg₂ (· * ·) (tapB d (by omega) h0 y) (at2 V0 y rfl rfl)) (congrArg₂ (· * ·) (tapB d (by omega) h1 y) (at2 V1 y rfl rfl)))
    (congrArg₂ (· * ·) (tapB d (by omega) h2 y) (at2 V2 y rfl rfl))

/-- The depthwise stage before its activation, at an element. -/
theorem pay86_apply (d : Vec Ideal S96x9 .f32) (V0 V1 V2 : Vec Ideal S96x14336 .f32) (bb : Vec Ideal S96x1 .f32) (y : S96x14336.Idx) :
    k0_pay86 d (k0_pay84 d V0 V1 V2) V0 (k0_pay85 d) V1 V2 V0 V1 V2 bb y
      = (((if (y 1).val = 0 then 0 else QD d V0 V1 V2 0 (y 0).val ((y 1).val - 1)) + QD d V0 V1 V2 1 (y 0).val (y 1).val)
          + (if (y 1).val < 14335 then QD d V0 V1 V2 2 (y 0).val ((y 1).val + 1) else 0)) + g2 bb (y 0).val 0 := by
  have h0 : (y 0).val < 96 := (y 0).isLt
  have h1 : (y 1).val < 14336 := (y 1).isLt
  refine congrArg₂ (· + ·) (congrArg₂ (· + ·) (congrArg₂ (· + ·) ((shR _ _ _ rfl y).trans ?_) (qcol_apply d V0 V1 V2 (by decide) rfl rfl _ _ _ y)) ((shL _ _ _ rfl y).trans ?_)) (bc2 (by decide) _ _ y)
  · split
    · exact z0_eq
    · refine (slg (n0 := 96) (n1 := 14336) (m0 := 96) (m1 := 14335) _ _ (qcol_apply d V0 V1 V2 (k := 0) (by decide) rfl rfl _ _ _) _ h0 (by omega) (by omega) (by omega)).trans ?_
      rw [Nat.zero_add, Nat.zero_add]
  · split
    · refine (slg (n0 := 96) (n1 := 14336) (m0 := 96) (m1 := 14335) _ _ (qcol_apply d V0 V1 V2 (k := 2) (by decide) rfl rfl _ _ _) _ h0 (by omega) (by omega) (by omega)).trans ?_
      rw [Nat.zero_add, Nat.add_comm 1]
    · exact z0_eq

/-- The activated and masked first stage, at an element. -/
theorem pay81_apply (a : FVec Ideal S96x14848 .f32) (k : Vec Ideal S1x14848 .f32) (y : S96x14848.Idx) :
    k0_pay81 a (logistic a) k y = esilu (a y) * g2 k 0 (y 1).val := by
  refine (shapeCast_apply (mulf (F := Ideal) (φ := .f32) (mulf (F := Ideal) (φ := .f32) a (logistic a)) (broadcastTo S96x14848 k broadcasts_S1x14848_S96x14848)) shapeCasts_S96x14848_S96x14848 y y rfl).trans ?_
  refine congrArg (esilu (a y) * ·) ?_
  exact (broadcastTo_apply k broadcasts_S1x14848_S96x14848 y (ValueIdx.ix2 0 (y 1)) (fun a => by
    match a with
    | ⟨0, _⟩ => rfl
    | ⟨1, _⟩ => rfl)).trans (g2_ix k 0 (y 1)).symm

/-- The weighted sum of the two experts' halves, at an element of the upper half. -/
theorem pay87_apply (p0 p1 : Ideal .f32) (a b : Vec Ideal S48x14336 .f32) (y : S48x14336.Idx) : k0_pay87 p0 p1 a b y = p0 * a y + p1 * b y :=
  shapeCast_apply (addf (F := Ideal) (φ := .f32) (mulf (F := Ideal) (φ := .f32) (broadcast S48x14336 p0) a) (mulf (F := Ideal) (φ := .f32) (broadcast S48x14336 p1) b)) shapeCasts_S48x14336_S48x14336 y y rfl

/-- The same of the lower half, which is activated first. -/
theorem pay88_apply (p0 p1 : Ideal .f32) (v : FVec Ideal S96x14336 .f32) (y : S48x14336.Idx) :
    k0_pay88 p0 p1 v y = p0 * esilu (g2 (F := Ideal) (n0 := 96) (n1 := 14336) v (y 0).val (y 1).val) + p1 * esilu (g2 (F := Ideal) (n0 := 96) (n1 := 14336) v (48 + (y 0).val) (y 1).val) := by
  have h0 : (y 0).val < 48 := (y 0).isLt
  have h1 : (y 1).val < 14336 := (y 1).isLt
  have key : ∀ z : S96x14336.Idx, mulf (F := Ideal) (φ := .f32) v (logistic v) z = esilu (g2 (F := Ideal) (n0 := 96) (n1 := 14336) v (z 0).val (z 1).val) := fun z =>
    congrArg esilu (at2 (F := Ideal) (n0 := 96) (n1 := 14336) v z rfl rfl)
  refine (pay87_apply p0 p1 (extractStridedSlice S48x14336 ![0, 0] (mulf (F := Ideal) (φ := .f32) v (logistic v)) slices_S96x14336_o0_0_S48x14336)
    (extractStridedSlice S48x14336 ![48, 0] (mulf (F := Ideal) (φ := .f32) v (logistic v)) slices_S96x14336_o48_0_S48x14336) y).trans ?_
  refine congrArg₂ (· + ·) (congrArg (p0 * ·) ?_) (congrArg (p1 * ·) ?_)
  · refine (sl2 (n0 := 96) (n1 := 14336) _ _ y).trans ((g2_of _ (fun a b => esilu (g2 (F := Ideal) (n0 := 96) (n1 := 14336) v a b)) key (by omega) (by omega)).trans ?_)
    rw [Nat.zero_add, Nat.zero_add]
  · refine (sl2 (n0 := 96) (n1 := 14336) _ _ y).trans ((g2_of _ (fun a b => esilu (g2 (F := Ideal) (n0 := 96) (n1 := 14336) v a b)) key (by omega) (by omega)).trans ?_)
    rw [Nat.zero_add]

/-! ## The loads -/

/-- A window of a rank-2 vector read at coordinates inside it. -/
theorem ld2 {n0 n1 m0 m1 o0 o1 : ℕ} (A : Vec Ideal ⟨2, ![n0, n1]⟩ .f32) (inb : ∀ a, ![o0, o1] a + (⟨2, ![m0, m1]⟩ : Shape).size a ≤ (⟨2, ![n0, n1]⟩ : Shape).size a)
    (y : (⟨2, ![m0, m1]⟩ : Shape).Idx) :
    View.ld A (Rect.unit (s := ⟨2, ![n0, n1]⟩) ![o0, o1] (⟨2, ![m0, m1]⟩ : Shape).size inb) y = g2 A (o0 + (y 0).val) (o1 + (y 1).val) :=
  at2 A _ (by show o0 + 1 * (y 0).val = _; omega) (by show o1 + 1 * (y 1).val = _; omega)

/-- The same at natural coordinates. -/
theorem ldg {n0 n1 m0 m1 o0 o1 : ℕ} (A : Vec Ideal ⟨2, ![n0, n1]⟩ .f32) (inb : ∀ a, ![o0, o1] a + (⟨2, ![m0, m1]⟩ : Shape).size a ≤ (⟨2, ![n0, n1]⟩ : Shape).size a)
    {a b : ℕ} (ha : a < m0) (hb : b < m1) :
    g2 (n0 := m0) (n1 := m1) (View.ld A (Rect.unit (s := ⟨2, ![n0, n1]⟩) ![o0, o1] (⟨2, ![m0, m1]⟩ : Shape).size inb)) a b = g2 A (o0 + a) (o1 + b) :=
  g2_of _ (fun a b => g2 A (o0 + a) (o1 + b)) (ld2 A inb) ha hb

/-- A tap row of the weights. -/
theorem ldWg (W : Vec Ideal S3x288x96 .f32) (k : ℕ) (inb) {r c : ℕ} (hr : r < 288) (hc : c < 96) : g3 (ldW W k inb) 0 r c = g3 W k r c := by
  conv_lhs => unfold g3
  rw [dif_pos ⟨Nat.one_pos, hr, hc⟩]
  exact at3 W _ (by show k + 1 * 0 = k; omega) (by show 0 + 1 * r = r; omega) (by show 0 + 1 * c = c; omega)

/-- Tap `dy`, `dx` of the first stage at a flat position moved to its tap row. -/
def TAP (X : Vec Ideal S96x15360 .f32) (W : Vec Ideal S3x288x96 .f32) (dy dx r p : ℕ) : EReal :=
  ∑ c : Fin 96, g3 W dy (96 * dx + r) c.val * g2 X c.val (256 * dy + p)

/-- Tap column `dx` of the first stage. -/
def COL (X : Vec Ideal S96x15360 .f32) (W : Vec Ideal S3x288x96 .f32) (dx r p : ℕ) : EReal :=
  (TAP X W 0 dx r p + TAP X W 1 dx r p) + TAP X W 2 dx r p

/-- The first stage before its activation, at an element. -/
theorem A1_apply (X : Vec Ideal S96x15360 .f32) (W : Vec Ideal S3x288x96 .f32) (bb : Vec Ideal S96x1 .f32) (y : S96x14848.Idx) :
    A1 X W bb y
      = (((if (y 1).val = 0 then 0 else COL X W 0 (y 0).val ((y 1).val - 1)) + COL X W 1 (y 0).val (y 1).val)
          + (if (y 1).val < 14847 then COL X W 2 (y 0).val ((y 1).val + 1) else 0)) + g2 bb (y 0).val 0 := by
  have h0 : (y 0).val < 96 := (y 0).isLt
  have h1 : (y 1).val < 14848 := (y 1).isLt
  have key : ∀ (k o r p : ℕ) (i) (j) (hr : r < 288) (hp : p < 14848), TD (ldW W k i) (ldX X o j) r p = ∑ c : Fin 96, g3 W k r c.val * g2 X c.val (o + p) :=
    fun k o r p i j hr hp => Finset.sum_congr rfl fun c _ => congrArg₂ (· * ·) (ldWg W k i hr c.isLt)
      ((ldg (m0 := 96) (m1 := 14848) X j c.isLt hp).trans (by rw [Nat.zero_add]))
  have col : ∀ (dx r p : ℕ) (hdx : dx < 3) (hr : r < 96) (hp : p < 14848),
      PD (ldX X 0 inb_S96x15360_S96x14848_0_0) (ldW W 0 inb_S3x288x96_S1x288x96_0_0_0) (ldX X 256 inb_S96x15360_S96x14848_0_256) (ldW W 1 inb_S3x288x96_S1x288x96_1_0_0)
        (ldX X 512 inb_S96x15360_S96x14848_0_512) (ldW W 2 inb_S3x288x96_S1x288x96_2_0_0) (96 * dx) r p = COL X W dx r p := fun dx r p hdx hr hp => by
    unfold PD COL TAP
    rw [key _ _ _ _ _ _ (by omega) hp, key _ _ _ _ _ _ (by omega) hp, key _ _ _ _ _ _ (by omega) hp]
  refine (pay79_apply _ _ _ _ _ _ _ y).trans ?_
  refine congrArg₂ (· + ·) (congrArg₂ (· + ·) (congrArg₂ (· + ·) ?_ (col 1 _ _ (by decide) h0 h1)) ?_) ((ldg (m0 := 96) (m1 := 1) bb inb_S96x1_S96x1_0_0 h0 Nat.one_pos).trans (by rw [Nat.zero_add]))
  · split
    · rfl
    · exact col 0 _ _ (by decide) h0 (by omega)
  · split
    · exact col 2 _ _ (by decide) h0 (by omega)
    · rfl

/-- Tap column `dx` of the depthwise stage. -/
def DCOL (V : Vec Ideal S96x14848 .f32) (d : Vec Ideal S96x9 .f32) (dx r p : ℕ) : EReal :=
  (g2 d r dx * g2 V r p + g2 d r (3 + dx) * g2 V r (256 + p)) + g2 d r (6 + dx) * g2 V r (512 + p)

/-- The depthwise stage before its activation, at an element. -/
theorem Y2_apply (V : Vec Ideal S96x14848 .f32) (d : Vec Ideal S96x9 .f32) (bb : Vec Ideal S96x1 .f32) (y : S96x14336.Idx) :
    Y2 V d bb y
      = (((if (y 1).val = 0 then 0 else DCOL V d 0 (y 0).val ((y 1).val - 1)) + DCOL V d 1 (y 0).val (y 1).val)
          + (if (y 1).val < 14335 then DCOL V d 2 (y 0).val ((y 1).val + 1) else 0)) + g2 bb (y 0).val 0 := by
  have h0 : (y 0).val < 96 := (y 0).isLt
  have h1 : (y 1).val < 14336 := (y 1).isLt
  have hd : ∀ k r : ℕ, k < 9 → r < 96 → g2 (ldD d) r k = g2 d r k := fun k r hk hr =>
    (ldg (m0 := 96) (m1 := 9) d inb_S96x9_S96x9_0_0 hr hk).trans (by rw [Nat.zero_add, Nat.zero_add])
  have hv : ∀ (o r p : ℕ) (i), r < 96 → p < 14336 → g2 (ldV V o i) r p = g2 V r (o + p) := fun o r p i hr hp =>
    (ldg (m0 := 96) (m1 := 14336) V i hr hp).trans (by rw [Nat.zero_add])
  have col : ∀ (dx r p : ℕ), dx < 3 → r < 96 → p < 14336 →
      QD (ldD d) (ldV V 0 inb_S96x14848_S96x14336_0_0) (ldV V 256 inb_S96x14848_S96x14336_0_256) (ldV V 512 inb_S96x14848_S96x14336_0_512) dx r p = DCOL V d dx r p :=
    fun dx r p hdx hr hp => by
    unfold QD DCOL
    rw [hd _ _ (by omega) hr, hd _ _ (by omega) hr, hd _ _ (by omega) hr, hv _ _ _ _ hr hp, hv _ _ _ _ hr hp, hv _ _ _ _ hr hp, Nat.zero_add]
  refine (pay86_apply _ _ _ _ _ y).trans ?_
  refine congrArg₂ (· + ·) (congrArg₂ (· + ·) (congrArg₂ (· + ·) ?_ (col 1 _ _ (by decide) h0 h1)) ?_) ((ldg (m0 := 96) (m1 := 1) bb inb_S96x1_S96x1_0_0 h0 Nat.one_pos).trans (by rw [Nat.zero_add]))
  · split
    · rfl
    · exact col 0 _ _ (by decide) h0 (by omega)
  · split
    · exact col 2 _ _ (by decide) h0 (by omega)
    · rfl

/-- The weighted sum at an element. -/
theorem SUM_apply (p0 p1 : Ideal .f32) (V : Vec Ideal S96x14848 .f32) (y2 : FVec Ideal S96x14336 .f32) {r p : ℕ} (hr : r < 96) (hp : p < 14336) :
    g2 (SUM p0 p1 V y2) r p = if r < 48 then p0 * g2 V r (256 + p) + p1 * g2 V (48 + r) (256 + p)
      else p0 * esilu (g2 (F := Ideal) (n0 := 96) (n1 := 14336) y2 (r - 48) p) + p1 * esilu (g2 (F := Ideal) (n0 := 96) (n1 := 14336) y2 r p) := by
  refine (g2_of _ (fun r p => if r < 48 then g2 (k0_pay87 p0 p1 (ldLo V) (ldHi V)) r p else g2 (k0_pay88 p0 p1 y2) (r - 48) p) (fun z => rfl) hr hp).trans ?_
  show (if r < 48 then _ else _) = _
  split
  · rename_i h
    refine (g2_of _ (fun a b => p0 * g2 V a (256 + b) + p1 * g2 V (48 + a) (256 + b)) (fun z => (pay87_apply p0 p1 _ _ z).trans ?_) h hp)
    refine congrArg₂ (· + ·) (congrArg (p0 * ·) ((ld2 V _ z).trans ?_)) (congrArg (p1 * ·) (ld2 V _ z))
    rw [Nat.zero_add]
  · refine (g2_of _ (fun a b => p0 * esilu (g2 (F := Ideal) (n0 := 96) (n1 := 14336) y2 a b) + p1 * esilu (g2 (F := Ideal) (n0 := 96) (n1 := 14336) y2 (48 + a) b)) (fun z => pay88_apply p0 p1 y2 z) (by omega) hp).trans ?_
    show _ + p1 * esilu (g2 (F := Ideal) (n0 := 96) (n1 := 14336) y2 (48 + (r - 48)) p) = _
    rw [show 48 + (r - 48) = r by omega]

end Cert.KernelIdeal

end
-- ==== Proof.Value.KernB.lean ====
module

public import proofs.«01_k».proof.Proof.Value.KernA

@[expose] public section

set_option maxRecDepth 16384

noncomputable section

namespace Cert.KernelIdeal

open Idealize.ShloMosaic Idealize.ShloMosaic.ValueIdx
open Cert.KernelIdeal.Gen
open Cert.Spec

/-! ## One output block as the expected result -/

/-- The padded stripe holds the bordered image's rows, each moved by one position. -/
theorem XS_at (x : ℕ → ℕ → ℕ → ℕ → ℝ) (b s : ℕ) (x4 : Vec Ideal S1x96x56x224 .f32) (x5 x6 : Vec Ideal S1x96x8x224 .f32)
    (h4 : ∀ c r q, c < 96 → r < 56 → q < 224 → g4 x4 0 c r q = (x b c (56 * s + r) q : EReal))
    (h5 : 1 ≤ s → ∀ c r q, c < 96 → 6 ≤ r → r < 8 → q < 224 → g4 x5 0 c r q = (x b c (56 * s + r - 8) q : EReal))
    (h6 : s < 3 → ∀ c r q, c < 96 → r < 2 → q < 224 → g4 x6 0 c r q = (x b c (56 * s + 56 + r) q : EReal))
    (hz : ∀ c r q, 224 ≤ r ∨ 224 ≤ q → x b c r q = 0) (hs : s < 4)
    {c k q : ℕ} (hc : c < 96) (hk : k < 60) (hq : q ≤ 225) (hR : 1 ≤ 56 * s + k) (hp : 1 ≤ 256 * k + q) :
    g2 (XS s x4 x5 x6) c (256 * k + q - 1) = (xp x b c (56 * s + k - 1) q : EReal) := by
  refine (g2_of (XS s x4 x5 x6) (fun a p => XSn s x4 x5 x6 a p) (fun z => rfl) hc (by omega)).trans ?_
  show XSn s x4 x5 x6 c (256 * k + q - 1) = _
  unfold XSn xp
  by_cases hq0 : q = 0
  · rw [if_pos (by omega), if_pos (Or.inr hq0), z0_eq, EReal.coe_zero]
  · have e1 : (256 * k + q - 1) % 256 = q - 1 := by omega
    have e2 : (256 * k + q - 1) / 256 = k := by omega
    rw [e1, e2]
    by_cases hb : 224 ≤ q - 1
    · rw [if_pos hb, z0_eq, hz c _ _ (Or.inr hb), ite_self, EReal.coe_zero]
    · rw [if_neg hb]
      by_cases hk2 : k < 2
      · rw [if_pos hk2]
        by_cases hs0 : s = 0
        · rw [if_pos hs0, if_pos (Or.inl (by omega)), z0_eq, EReal.coe_zero]
        · rw [if_neg hs0, if_neg (by omega), h5 (by omega) c _ _ hc (by omega) (by omega) (by omega)]
          rw [show 56 * s + (6 + k) - 8 = 56 * s + k - 1 - 1 by omega]
      · rw [if_neg hk2]
        by_cases hk58 : k < 58
        · rw [if_pos hk58, if_neg (by omega), h4 c _ _ hc (by omega) (by omega)]
          rw [show 56 * s + (k - 2) = 56 * s + k - 1 - 1 by omega]
        · rw [if_neg hk58]
          by_cases hs3 : s = 3
          · rw [if_pos hs3, hz c _ _ (Or.inl (by omega)), ite_self, z0_eq, EReal.coe_zero]
          · rw [if_neg hs3, if_neg (by omega), h6 (by omega) c _ _ hc (by omega) (by omega)]
            rw [show 56 * s + 56 + (k - 58) = 56 * s + k - 1 - 1 by omega]

/-- The first stage before its activation is the scaled convolution and the offset. -/
theorem A1_at (x : ℕ → ℕ → ℕ → ℕ → ℝ) (W : ℕ → ℕ → ℕ → ℕ → ℕ → ℝ) (K β : ℝ) (b s e o r : ℕ)
    (X : Vec Ideal S96x15360 .f32) (w9 : Vec Ideal S3x288x96 .f32) (sh : Vec Ideal S96x1 .f32)
    (hX : ∀ c k q, c < 96 → k < 60 → q ≤ 225 → 1 ≤ 56 * s + k → 1 ≤ 256 * k + q → g2 X c (256 * k + q - 1) = (xp x b c (56 * s + k - 1) q : EReal))
    (hW : ∀ dy dx c, dy < 3 → dx < 3 → c < 96 → g3 w9 dy (96 * dx + r) c = ((W e o c dy dx * K : ℝ) : EReal))
    (hB : g2 sh r 0 = (β : EReal)) (hr : r < 96)
    {j w : ℕ} (hj : j < 58) (hw : w < 224) (hlo : 1 ≤ 56 * s + j) :
    g2 (A1 X w9 sh) r (256 * j + w) = ((cv x W b e o (56 * s + j - 1) w * K + β : ℝ) : EReal) := by
  have hT : ∀ dy dx : Fin 3, (if 256 * j + w + dx.val = 0 then (0 : EReal) else TAP X w9 dy.val dx.val r (256 * j + w + dx.val - 1))
      = ∑ c : Fin 96, ((W e o c.val dy.val dx.val * K : ℝ) : EReal) * (xp x b c.val (56 * s + j - 1 + dy.val) (w + dx.val) : EReal) := fun dy dx => by
    have hdy := dy.isLt; have hdx := dx.isLt
    by_cases h0 : 256 * j + w + dx.val = 0
    · rw [if_pos h0]
      refine (Finset.sum_eq_zero fun c _ => ?_).symm
      unfold xp
      rw [if_pos (Or.inr (by omega)), EReal.coe_zero, mul_zero]
    · rw [if_neg h0]
      refine Finset.sum_congr rfl fun c _ => ?_
      rw [hW _ _ _ hdy hdx c.isLt, show 256 * dy.val + (256 * j + w + dx.val - 1) = 256 * (j + dy.val) + (w + dx.val) - 1 by omega,
        hX _ _ _ c.isLt (by omega) (by omega) (by omega) (by omega), show 56 * s + (j + dy.val) - 1 = 56 * s + j - 1 + dy.val by omega]
  have main := cv_folded x W K b e o (56 * s + j - 1) w (fun dy dx => if 256 * j + w + dx = 0 then (0 : EReal) else TAP X w9 dy dx r (256 * j + w + dx - 1)) hT
  refine (g2_of (A1 X w9 sh) (fun r p => (((if p = 0 then 0 else COL X w9 0 r (p - 1)) + COL X w9 1 r p) + (if p < 14847 then COL X w9 2 r (p + 1) else 0)) + g2 sh r 0)
    (A1_apply X w9 sh) hr (by omega)).trans ?_
  rw [EReal.coe_add, ← main, hB, if_pos (show 256 * j + w < 14847 by omega)]
  refine congrArg (· + (β : EReal)) ?_
  refine congrArg₂ (· + ·) (congrArg₂ (· + ·) ?_ ?_) ?_
  · show _ = ((if 256 * j + w = 0 then (0 : EReal) else _) + (if 256 * j + w = 0 then (0 : EReal) else _)) + (if 256 * j + w = 0 then (0 : EReal) else _)
    split
    · rw [add_zero, add_zero]
    · rfl
  · show _ = ((if 256 * j + w + 1 = 0 then (0 : EReal) else _) + (if 256 * j + w + 1 = 0 then (0 : EReal) else _)) + (if 256 * j + w + 1 = 0 then (0 : EReal) else _)
    rw [if_neg (Nat.succ_ne_zero _), if_neg (Nat.succ_ne_zero _), if_neg (Nat.succ_ne_zero _)]; rfl
  · show _ = ((if 256 * j + w + 2 = 0 then (0 : EReal) else _) + (if 256 * j + w + 2 = 0 then (0 : EReal) else _)) + (if 256 * j + w + 2 = 0 then (0 : EReal) else _)
    rw [if_neg (Nat.succ_ne_zero _), if_neg (Nat.succ_ne_zero _), if_neg (Nat.succ_ne_zero _)]; rfl

/-- The mask is one on the image's columns and zero on the padding. -/
theorem mask_at {p : ℕ} (hp : p < 14848) :
    g2 (F := Ideal) (n0 := 1) (n1 := 14848) (View.ld (k0_pay10 (F := Ideal)) (Rect.unit (s := S1x14848) ![0, 0] S1x14848.size inb_S1x14848_S1x14848_0_0)) 0 p
      = if p % 256 < 224 then (1 : EReal) else 0 := by
  refine (ldg (m0 := 1) (m1 := 14848) (k0_pay10 (F := Ideal)) inb_S1x14848_S1x14848_0_0 Nat.one_pos hp).trans ?_
  refine (g2_of (k0_pay10 (F := Ideal)) (fun _ p => if p % 256 < 224 then (1 : EReal) else 0) (fun z => ?_) Nat.one_pos (by omega)).trans (by rw [Nat.zero_add])
  refine (pay10_apply z).trans ?_
  split
  · exact Ideal.ofBits_one_f32
  · exact z0_eq

/-- The first stage's output is the bordered activated map, each row moved by one position. -/
theorem X1F_at (f : ℕ → ℕ → ℝ) (s r : ℕ) (X : Vec Ideal S96x15360 .f32) (w9 : Vec Ideal S3x288x96 .f32) (sh : Vec Ideal S96x1 .f32)
    (a : ℕ → ℕ → ℝ) (hf : ∀ h w, f h w = silu (a h w))
    (hA : ∀ j w, j < 58 → w < 224 → 1 ≤ 56 * s + j → g2 (A1 X w9 sh) r (256 * j + w) = (a (56 * s + j - 1) w : EReal))
    (hr : r < 96) (hs : s < 4) {k q : ℕ} (hk : k < 58) (hq : q ≤ 225) (hp : 1 ≤ 256 * k + q) :
    g2 (X1F s X (k0_pay10 (F := Ideal)) w9 sh) r (256 * k + q - 1) = (bd f (56 * s + k) q : EReal) := by
  refine (g2_of (X1F s X (k0_pay10 (F := Ideal)) w9 sh) (fun r p => if s = 0 ∧ p < 256 then (0 : EReal) else if s = 3 ∧ 14592 ≤ p then 0
    else esilu (g2 (F := Ideal) (n0 := 96) (n1 := 14848) (A1 X w9 sh) r p) * g2 (F := Ideal) (n0 := 1) (n1 := 14848) (View.ld (k0_pay10 (F := Ideal)) (Rect.unit (s := S1x14848) ![0, 0] S1x14848.size inb_S1x14848_S1x14848_0_0)) 0 p) (fun z => ?_) hr (by omega)).trans ?_
  · unfold X1F X1
    refine if_congr Iff.rfl z0_eq (if_congr Iff.rfl z0_eq ?_)
    refine (pay81_apply _ _ z).trans ?_
    exact congrArg (fun u => esilu u * _) (at2 (F := Ideal) (n0 := 96) (n1 := 14848) (A1 X w9 sh) z rfl rfl)
  show (if s = 0 ∧ 256 * k + q - 1 < 256 then (0 : EReal) else if s = 3 ∧ 14592 ≤ 256 * k + q - 1 then 0 else _) = _
  rw [mask_at (by omega)]
  unfold bd
  by_cases c1 : s = 0 ∧ 256 * k + q - 1 < 256
  · rw [if_pos c1, if_pos (by omega), EReal.coe_zero]
  · rw [if_neg c1]
    by_cases c2 : s = 3 ∧ 14592 ≤ 256 * k + q - 1
    · rw [if_pos c2, if_pos (by omega), EReal.coe_zero]
    · rw [if_neg c2]
      by_cases c3 : (256 * k + q - 1) % 256 < 224
      · rw [if_pos c3, if_neg (by omega), mul_one, show 256 * k + q - 1 = 256 * k + (q - 1) by omega, hA k (q - 1) hk (by omega) (by omega), silu_coe, hf]
      · rw [if_neg c3, mul_zero, if_pos (by omega), EReal.coe_zero]

/-- The depthwise stage before its activation. -/
theorem Y2_at (wc : ℕ → ℕ → ℝ) (f : ℕ → ℕ → ℝ) (K : ℝ) (β : EReal) (s r : ℕ) (V : Vec Ideal S96x14848 .f32) (d : Vec Ideal S96x9 .f32) (sh : Vec Ideal S96x1 .f32)
    (hV : ∀ k q, k < 58 → q ≤ 225 → 1 ≤ 256 * k + q → g2 V r (256 * k + q - 1) = (bd f (56 * s + k) q : EReal))
    (hd : ∀ dy dx, dy < 3 → dx < 3 → g2 d r (3 * dy + dx) = ((wc dy dx * K : ℝ) : EReal))
    (hB : g2 sh r 0 = β) (hr : r < 96) {j w : ℕ} (hj : j < 56) (hw : w < 224) :
    g2 (n0 := 96) (n1 := 14336) (Y2 V d sh) r (256 * j + w) = ((dw wc f (56 * s + j) w * K : ℝ) : EReal) + β := by
  have hT : ∀ dy dx : Fin 3, (if 256 * j + w + dx.val = 0 then (0 : EReal) else g2 d r (3 * dy.val + dx.val) * g2 V r (256 * dy.val + (256 * j + w + dx.val - 1)))
      = ((wc dy.val dx.val * K : ℝ) : EReal) * (bd f (56 * s + j + dy.val) (w + dx.val) : EReal) := fun dy dx => by
    have hdy := dy.isLt; have hdx := dx.isLt
    by_cases h0 : 256 * j + w + dx.val = 0
    · rw [if_pos h0]
      unfold bd
      rw [if_pos (Or.inr (Or.inl (by omega))), EReal.coe_zero, mul_zero]
    · rw [if_neg h0, hd _ _ hdy hdx, show 256 * dy.val + (256 * j + w + dx.val - 1) = 256 * (j + dy.val) + (w + dx.val) - 1 by omega,
        hV _ _ (by omega) (by omega) (by omega), Nat.add_assoc (56 * s)]
  have main := dw_folded wc f K (56 * s + j) w (fun dy dx => if 256 * j + w + dx = 0 then (0 : EReal) else g2 d r (3 * dy + dx) * g2 V r (256 * dy + (256 * j + w + dx - 1))) hT
  refine (g2_of (n0 := 96) (n1 := 14336) (Y2 V d sh) (fun r p => (((if p = 0 then 0 else DCOL V d 0 r (p - 1)) + DCOL V d 1 r p) + (if p < 14335 then DCOL V d 2 r (p + 1) else 0)) + g2 sh r 0)
    (Y2_apply V d sh) hr (by omega)).trans ?_
  rw [← main, hB, if_pos (show 256 * j + w < 14335 by omega)]
  refine congrArg (· + β) ?_
  refine congrArg₂ (· + ·) (congrArg₂ (· + ·) ?_ ?_) ?_
  · show _ = ((if 256 * j + w = 0 then (0 : EReal) else _) + (if 256 * j + w = 0 then (0 : EReal) else _)) + (if 256 * j + w = 0 then (0 : EReal) else _)
    split
    · rw [add_zero, add_zero]
    · unfold DCOL; simp only [Nat.mul_zero, Nat.zero_add, Nat.mul_one, Nat.add_zero]
  · show _ = ((if 256 * j + w + 1 = 0 then (0 : EReal) else _) + (if 256 * j + w + 1 = 0 then (0 : EReal) else _)) + (if 256 * j + w + 1 = 0 then (0 : EReal) else _)
    rw [if_neg (Nat.succ_ne_zero _), if_neg (Nat.succ_ne_zero _), if_neg (Nat.succ_ne_zero _)]
    unfold DCOL; simp only [Nat.mul_zero, Nat.zero_add, Nat.mul_one, Nat.add_sub_cancel]
  · show _ = ((if 256 * j + w + 2 = 0 then (0 : EReal) else _) + (if 256 * j + w + 2 = 0 then (0 : EReal) else _)) + (if 256 * j + w + 2 = 0 then (0 : EReal) else _)
    rw [if_neg (Nat.succ_ne_zero _), if_neg (Nat.succ_ne_zero _), if_neg (Nat.succ_ne_zero _)]
    unfold DCOL; simp only [Nat.mul_zero, Nat.zero_add, Nat.mul_one, show 256 * j + w + 2 - 1 = 256 * j + w + 1 by omega]

end Cert.KernelIdeal

end
-- ==== Proof.Value.KernC.lean ====
module

public import proofs.«01_k».proof.Proof.Value.KernB

@[expose] public section

set_option maxRecDepth 16384

noncomputable section

namespace Cert.KernelIdeal

open Idealize.ShloMosaic Idealize.ShloMosaic.ValueIdx
open Cert.KernelIdeal.Gen
open Cert.Spec

/-! ## The output block of one grid point -/

/-- The selected 3x3 weights at natural coordinates. -/
theorem W9S_at (e0 e1 : ℕ) (x7 : Vec Ideal S8x9x48x96 .f32) {dy dx r c : ℕ} (hdy : dy < 3) (hdx : dx < 3) (hr : r < 96) (hc : c < 96) :
    g3 (W9S e0 e1 x7) dy (96 * dx + r) c = g4 x7 (if r < 48 then e0 else e1) (3 * dy + dx) (r % 48) c := by
  conv_lhs => unfold g3
  rw [dif_pos ⟨hdy, by omega, hc⟩]
  show g4 x7 (if (96 * dx + r) % 96 < 48 then e0 else e1) (3 * dy + (96 * dx + r) / 96) ((96 * dx + r) % 48) c = _
  rw [show (96 * dx + r) % 96 = r by omega, show (96 * dx + r) / 96 = dx by omega, show (96 * dx + r) % 48 = r % 48 by omega]

/-- A block of the output: the weighted sum of what the two chosen experts give. -/
theorem OUT9_at (i : grid0.Coords) (x2 : Vec Ideal S2x2 .i32) (x3 : Vec Ideal S2x2 .f32) (x4 : Vec Ideal S1x96x56x224 .f32) (x5 x6 : Vec Ideal S1x96x8x224 .f32)
    (x7 : Vec Ideal S8x9x48x96 .f32) (x8 : Vec Ideal S8x48x1 .f32) (x9 : Vec Ideal S8x48x9 .f32) (x10 : Vec Ideal S8x48x1 .f32)
    (x : ℕ → ℕ → ℕ → ℕ → ℝ) (W : ℕ → ℕ → ℕ → ℕ → ℕ → ℝ) (g bp : ℕ → ℕ → ℝ) (Wc : ℕ → ℕ → ℕ → ℕ → ℝ) (gc : ℕ → ℕ → ℝ) (bc : ℕ → ℕ → EReal) (S : ℝ) (b s : ℕ)
    (hi : (i 1).val = s) (hs : s < 4)
    (h4 : ∀ c r q, c < 96 → r < 56 → q < 224 → g4 x4 0 c r q = (x b c (56 * s + r) q : EReal))
    (h5 : 1 ≤ s → ∀ c r q, c < 96 → 6 ≤ r → r < 8 → q < 224 → g4 x5 0 c r q = (x b c (56 * s + r - 8) q : EReal))
    (h6 : s < 3 → ∀ c r q, c < 96 → r < 2 → q < 224 → g4 x6 0 c r q = (x b c (56 * s + 56 + r) q : EReal))
    (hz : ∀ c r q, 224 ≤ r ∨ 224 ≤ q → x b c r q = 0)
    (h7 : ∀ e dy dx o c, e < 8 → dy < 3 → dx < 3 → o < 48 → c < 96 → g4 x7 e (3 * dy + dx) o c = ((W e o c dy dx * (g e o * (1 / S)) : ℝ) : EReal))
    (h8 : ∀ e o, e < 8 → o < 48 → g3 x8 e o 0 = (bp e o : EReal))
    (h9 : ∀ e dy dx o, e < 8 → dy < 3 → dx < 3 → o < 48 → g3 x9 e o (3 * dy + dx) = ((Wc e o dy dx * (gc e o * (1 / S)) : ℝ) : EReal))
    (h10 : ∀ e o, e < 8 → o < 48 → g3 x10 e o 0 = bc e o)
    {e0 e1 : ℕ} (he0 : (cell x2 i 0 : BitVec 32).toNat = e0) (he1 : (cell x2 i 1 : BitVec 32).toNat = e1) (hl0 : e0 < 8) (hl1 : e1 < 8)
    {ch j w : ℕ} (hch : ch < 96) (hj : j < 56) (hw : w < 224) :
    g4 (OUT9 i x2 x3 x4 x5 x6 x7 x8 x9 x10) 0 ch j w
      = (cell x3 i 0 : EReal) * feat x W g bp Wc gc bc S b e0 ch (56 * s + j) w + (cell x3 i 1 : EReal) * feat x W g bp Wc gc bc S b e1 ch (56 * s + j) w := by
  conv_lhs => unfold g4
  rw [dif_pos ⟨Nat.one_pos, hch, hj, hw⟩]
  unfold OUT9
  rw [he0, he1, hi]
  show g2 (SUM (cell x3 i 0) (cell x3 i 1) _ _) ch (256 * j + w) = _
  have hE : ∀ r, (if r < 48 then e0 else e1) < 8 := fun r => by split <;> assumption
  -- the first stage
  have hV : ∀ r, r < 96 → ∀ k q, k < 58 → q ≤ 225 → 1 ≤ 256 * k + q →
      g2 (X1F s (XS s x4 x5 x6) (k0_pay10 (F := Ideal)) (W9S e0 e1 x7) (SHS e0 e1 x8)) r (256 * k + q - 1)
        = (bd (x1 x W g bp S b (if r < 48 then e0 else e1) (r % 48)) (56 * s + k) q : EReal) := fun r hr k q hk hq hp =>
    X1F_at _ s r _ _ _ (fun h w => cv x W b (if r < 48 then e0 else e1) (r % 48) h w * (g (if r < 48 then e0 else e1) (r % 48) * (1 / S)) + bp (if r < 48 then e0 else e1) (r % 48))
      (fun h w => rfl)
      (fun j w hj hw hlo => A1_at x W _ _ b s (if r < 48 then e0 else e1) (r % 48) r _ _ _
        (fun c k q hc hk hq hR hp => XS_at x b s x4 x5 x6 h4 h5 h6 hz hs hc hk hq hR hp)
        (fun dy dx c hdy hdx hc => (W9S_at e0 e1 x7 hdy hdx hr hc).trans (h7 _ _ _ _ _ (hE r) hdy hdx (by omega) hc))
        ((g2_of (SHS e0 e1 x8) (fun r _ => g3 x8 (if r < 48 then e0 else e1) (r % 48) 0) (fun z => by
            show g3 x8 _ _ (z 1).val = _
            rw [show (z 1).val = 0 by have : (z 1).val < 1 := (z 1).isLt; omega]) hr Nat.one_pos).trans (h8 _ _ (hE r) (by omega)))
        hr hj hw hlo) hr hs hk hq hp
  -- the second stage
  have hY : ∀ r, r < 96 → g2 (F := Ideal) (n0 := 96) (n1 := 14336) (Y2 (X1F s (XS s x4 x5 x6) (k0_pay10 (F := Ideal)) (W9S e0 e1 x7) (SHS e0 e1 x8)) (WDS e0 e1 x9) (SHS e0 e1 x10)) r (256 * j + w)
      = ((dw (Wc (if r < 48 then e0 else e1) (r % 48)) (x1 x W g bp S b (if r < 48 then e0 else e1) (r % 48)) (56 * s + j) w * (gc (if r < 48 then e0 else e1) (r % 48) * (1 / S)) : ℝ) : EReal)
        + bc (if r < 48 then e0 else e1) (r % 48) := fun r hr =>
    Y2_at _ _ _ _ s r _ _ _ (hV r hr)
      (fun dy dx hdy hdx => (g2_of (WDS e0 e1 x9) (fun r k => g3 x9 (if r < 48 then e0 else e1) (r % 48) k) (fun z => rfl) hr (by omega)).trans (h9 _ _ _ _ (hE r) hdy hdx (by omega)))
      ((g2_of (SHS e0 e1 x10) (fun r _ => g3 x10 (if r < 48 then e0 else e1) (r % 48) 0) (fun z => by
            show g3 x10 _ _ (z 1).val = _
            rw [show (z 1).val = 0 by have : (z 1).val < 1 := (z 1).isLt; omega]) hr Nat.one_pos).trans (h10 _ _ (hE r) (by omega)))
      hr hj hw
  rw [SUM_apply _ _ _ _ hch (by omega)]
  unfold feat
  by_cases hc : ch < 48
  · have hb : ∀ f : ℕ → ℕ → ℝ, bd f (56 * s + (j + 1)) (w + 1) = f (56 * s + j) w := fun f => by
      unfold bd; rw [if_neg (by omega)]; rfl
    rw [if_pos hc, if_pos hc, if_pos hc, show 256 + (256 * j + w) = 256 * (j + 1) + (w + 1) - 1 by omega,
      hV ch hch _ _ (by omega) (by omega) (by omega), hV (48 + ch) (by omega) _ _ (by omega) (by omega) (by omega), hb, hb,
      if_pos hc, if_neg (by omega), show ch % 48 = ch by omega, show (48 + ch) % 48 = ch by omega]
  · rw [if_neg hc, if_neg hc, if_neg hc, hY (ch - 48) (by omega), hY ch hch, if_pos (by omega), if_neg hc, show (ch - 48) % 48 = ch - 48 by omega,
      show ch % 48 = ch - 48 by omega]
    rfl

end Cert.KernelIdeal

end
-- ==== Proof.Value.HostV.lean ====
module

public import proofs.«01_k».proof.Proof.Value.Spec
public import Idealize.ShloMosaic.Lib.Pipeline.Value
public import Idealize.ShloMosaic.Lib.StableHlo.Run

@[expose] public section

set_option maxRecDepth 16384

noncomputable section

namespace Cert.KernelIdeal

open Idealize.ShloMosaic Idealize.ShloMosaic.TcCoe Idealize.ShloMosaic.ValueIdx
open Cert.KernelIdeal.Gen

/-- A rank-5 vector at natural coordinates, zero outside it. -/
def g5 {n0 n1 n2 n3 n4 : ℕ} (x : Vec Ideal ⟨5, ![n0, n1, n2, n3, n4]⟩ .f32) (a b c d e : ℕ) : EReal :=
  if h : a < n0 ∧ b < n1 ∧ c < n2 ∧ d < n3 ∧ e < n4 then x (ValueIdx.ix5 ⟨a, h.1⟩ ⟨b, h.2.1⟩ ⟨c, h.2.2.1⟩ ⟨d, h.2.2.2.1⟩ ⟨e, h.2.2.2.2⟩) else z0 (F := Ideal)

variable (m : (ℓ : Loc nD τ sig) → Buf (Elt Ideal) ℓ)

/-- The scale of the two normalisations: one over the square root of the constant. -/
def scaleI : EReal := Ideal.div (Ideal.ofBits .f32 0x3F800000#32) (Ideal.sqrt (Ideal.ofBits .f32 0x3F800054#32))

/-- The scale as the host holds it. -/
def scaleV : FVec Ideal S_ .f32 := id (Host.divf (constant (F := Ideal) S_ .f32 0x3F800000#32) (Host.sqrt (constant (F := Ideal) S_ .f32 0x3F800054#32)))

theorem scaleV_apply (i : S_.Idx) : scaleV i = scaleI := rfl

/-- The folded 3x3 weights from the weights and the gains. -/
def foldW (a3 : FVec Ideal S8x48x96x3x3 .f32) (a4 : FVec Ideal S8x48 .f32) : Vec Ideal S8x9x48x96 .f32 :=
    shapeCast S8x9x48x96 (transpose S8x3x3x48x96 [0, 3, 4, 1, 2]
      (mulf a3 (broadcastInDim S8x48x96x3x3 ![0, 1, 2, 3, 4] bcast_S8x48x1x1x1_S8x48x96x3x3_0_1_2_3_4
          (broadcastInDim S8x48x1x1x1 ![0, 1] bcast_S8x48_S8x48x1x1x1_0_1
            (mulf a4 (broadcastInDim S8x48 ![] bcast_S_S8x48 scaleV)))))
      transposes_S8x48x96x3x3_S8x3x3x48x96_0_3_4_1_2) shapeCasts_S8x3x3x48x96_S8x9x48x96

/-- The folded depthwise weights from the weights and the gains. -/
def foldD (a6 : FVec Ideal S8x48x1x3x3 .f32) (a7 : FVec Ideal S8x48 .f32) : Vec Ideal S8x48x9 .f32 :=
    shapeCast S8x48x9 (mulf (F := Ideal) (φ := .f32) (shapeCast S8x48x3x3 a6 shapeCasts_S8x48x1x3x3_S8x48x3x3)
        (broadcastInDim S8x48x3x3 ![0, 1, 2, 3] bcast_S8x48x1x1_S8x48x3x3_0_1_2_3
          (broadcastInDim S8x48x1x1 ![0, 1] bcast_S8x48_S8x48x1x1_0_1
            (mulf a7 (broadcastInDim S8x48 ![] bcast_S_S8x48 scaleV)))))
      shapeCasts_S8x48x3x3_S8x48x9

/-- The folded 3x3 weights as the region finds them. -/
theorem V_v9 (c : Dev nD) : (V m c main_v9 : Vec Ideal S8x9x48x96 .f32) =
    foldW (m ((c : Thread nD τ).loc main_arg3)) (m ((c : Thread nD τ).loc main_arg4)) := by
  show StableHlo.after hostOps0 _ (Proc.devRef .tc main_v9) = _
  after_results_simp
  rfl

/-- The folded depthwise weights as the region finds them. -/
theorem V_v17 (c : Dev nD) : (V m c main_v17 : Vec Ideal S8x48x9 .f32) =
    foldD (m ((c : Thread nD τ).loc main_arg6)) (m ((c : Thread nD τ).loc main_arg7)) := by
  show StableHlo.after hostOps0 _ (Proc.devRef .tc main_v17) = _
  after_results_simp
  rfl

/-- The first shift as the region finds it. -/
theorem V_v18 (c : Dev nD) : (V m c main_v18 : Vec Ideal S8x48x1 .f32) =
    broadcastInDim S8x48x1 ![0, 1] bcast_S8x48_S8x48x1_0_1 (m ((c : Thread nD τ).loc main_arg5) : Vec Ideal S8x48 .f32) := by
  show StableHlo.after hostOps0 _ (Proc.devRef .tc main_v18) = _
  after_results_simp
  try rfl

/-- The second shift as the region finds it. -/
theorem V_v19 (c : Dev nD) : (V m c main_v19 : Vec Ideal S8x48x1 .f32) =
    broadcastInDim S8x48x1 ![0, 1] bcast_S8x48_S8x48x1_0_1 (m ((c : Thread nD τ).loc main_arg8) : Vec Ideal S8x48 .f32) := by
  show StableHlo.after hostOps0 _ (Proc.devRef .tc main_v19) = _
  after_results_simp
  try rfl

/-- The folded weights at an expert, a tap, an output channel and an input channel. -/
theorem v9_at (c : Dev nD) {e dy dx o k : ℕ} (he : e < 8) (hdy : dy < 3) (hdx : dx < 3) (ho : o < 48) (hk : k < 96) :
    g4 (V m c main_v9 : Vec Ideal S8x9x48x96 .f32) e (3 * dy + dx) o k
      = (g5 (m ((c : Thread nD τ).loc main_arg3) : Vec Ideal S8x48x96x3x3 .f32) e o k dy dx : EReal)
        * (g2 (m ((c : Thread nD τ).loc main_arg4) : Vec Ideal S8x48 .f32) e o * scaleI) := by
  rw [V_v9]
  unfold g4 g5 g2 foldW
  rw [dif_pos ⟨he, by omega, ho, hk⟩, dif_pos ⟨he, ho, hk, hdy, hdx⟩, dif_pos ⟨he, ho⟩]
  rw [shapeCast_apply _ _ _ (ValueIdx.ix5 (n0 := 8) (n1 := 3) (n2 := 3) (n3 := 48) (n4 := 96) ⟨e, he⟩ ⟨dy, hdy⟩ ⟨dx, hdx⟩ ⟨o, ho⟩ ⟨k, hk⟩) (by
    rw [Shape.rowMajor_val_five, Shape.rowMajor_val_four]
    show (((e * 3 + dy) * 3 + dx) * 48 + o) * 96 + k = ((e * 9 + (3 * dy + dx)) * 48 + o) * 96 + k
    omega)]
  rw [transpose_apply _ _ _ _ (ValueIdx.ix5 (n0 := 8) (n1 := 48) (n2 := 96) (n3 := 3) (n4 := 3) ⟨e, he⟩ ⟨o, ho⟩ ⟨k, hk⟩ ⟨dy, hdy⟩ ⟨dx, hdx⟩) (by
    intro b; fin_cases b <;> rfl)]
  show _ * _ = _ * _
  congr 1
  rw [broadcastInDim_apply _ _ _ _ (ValueIdx.ix5 (n0 := 8) (n1 := 48) (n2 := 1) (n3 := 1) (n4 := 1) ⟨e, he⟩ ⟨o, ho⟩ 0 0 0) (by
    intro a; fin_cases a <;> rfl),
    broadcastInDim_apply _ _ _ _ (ValueIdx.ix2 (n0 := 8) (n1 := 48) ⟨e, he⟩ ⟨o, ho⟩) (by
    intro a; fin_cases a <;> rfl)]
  rfl

/-- The folded depthwise weights at an expert, a channel and a tap. -/
theorem v17_at (c : Dev nD) {e dy dx o : ℕ} (he : e < 8) (hdy : dy < 3) (hdx : dx < 3) (ho : o < 48) :
    g3 (V m c main_v17 : Vec Ideal S8x48x9 .f32) e o (3 * dy + dx)
      = (g5 (m ((c : Thread nD τ).loc main_arg6) : Vec Ideal S8x48x1x3x3 .f32) e o 0 dy dx : EReal)
        * (g2 (m ((c : Thread nD τ).loc main_arg7) : Vec Ideal S8x48 .f32) e o * scaleI) := by
  rw [V_v17]
  unfold g3 g5 g2 foldD
  rw [dif_pos ⟨he, ho, by omega⟩, dif_pos ⟨he, ho, by omega, hdy, hdx⟩, dif_pos ⟨he, ho⟩]
  rw [shapeCast_apply _ _ _ (ValueIdx.ix4 (n0 := 8) (n1 := 48) (n2 := 3) (n3 := 3) ⟨e, he⟩ ⟨o, ho⟩ ⟨dy, hdy⟩ ⟨dx, hdx⟩) (by
    rw [Shape.rowMajor_val_four, Shape.rowMajor_val_three]
    show ((e * 48 + o) * 3 + dy) * 3 + dx = (e * 48 + o) * 9 + (3 * dy + dx)
    omega)]
  show _ * _ = _ * _
  congr 1
  · rw [shapeCast_apply _ _ _ (ValueIdx.ix5 (n0 := 8) (n1 := 48) (n2 := 1) (n3 := 3) (n4 := 3) ⟨e, he⟩ ⟨o, ho⟩ ⟨0, by omega⟩ ⟨dy, hdy⟩ ⟨dx, hdx⟩) (by
      rw [Shape.rowMajor_val_four, Shape.rowMajor_val_five]
      show (((e * 48 + o) * 1 + 0) * 3 + dy) * 3 + dx = ((e * 48 + o) * 3 + dy) * 3 + dx
      omega)]
  · rw [broadcastInDim_apply _ _ _ _ (ValueIdx.ix4 (n0 := 8) (n1 := 48) (n2 := 1) (n3 := 1) ⟨e, he⟩ ⟨o, ho⟩ 0 0) (by
      intro a; fin_cases a <;> rfl),
      broadcastInDim_apply _ _ _ _ (ValueIdx.ix2 (n0 := 8) (n1 := 48) ⟨e, he⟩ ⟨o, ho⟩) (by
      intro a; fin_cases a <;> rfl)]
    rfl

/-- The first shift at an expert and a channel. -/
theorem v18_at (c : Dev nD) {e o : ℕ} (he : e < 8) (ho : o < 48) :
    g3 (V m c main_v18 : Vec Ideal S8x48x1 .f32) e o 0 = g2 (m ((c : Thread nD τ).loc main_arg5) : Vec Ideal S8x48 .f32) e o := by
  rw [V_v18]
  unfold g3 g2
  rw [dif_pos ⟨he, ho, by omega⟩, dif_pos ⟨he, ho⟩]
  exact broadcastInDim_apply _ _ _ _ _ (by intro a; fin_cases a <;> rfl)

/-- The second shift at an expert and a channel. -/
theorem v19_at (c : Dev nD) {e o : ℕ} (he : e < 8) (ho : o < 48) :
    g3 (V m c main_v19 : Vec Ideal S8x48x1 .f32) e o 0 = g2 (m ((c : Thread nD τ).loc main_arg8) : Vec Ideal S8x48 .f32) e o := by
  rw [V_v19]
  unfold g3 g2
  rw [dif_pos ⟨he, ho, by omega⟩, dif_pos ⟨he, ho⟩]
  exact broadcastInDim_apply _ _ _ _ _ (by intro a; fin_cases a <;> rfl)

end Cert.KernelIdeal

end
-- ==== Proof.Value.Result.lean ====
module

public import proofs.«01_k».proof.Proof.Value.HostV
public import Idealize.ShloMosaic.PureOps.Ideal.Laws
public import Idealize.ShloMosaic.Lib.IdealHost

@[expose] public section

set_option maxRecDepth 16384

noncomputable section

namespace Cert.KernelIdeal

open Idealize.ShloMosaic Idealize.ShloMosaic.TcCoe Idealize.ShloMosaic.ValueIdx
open Cert.KernelIdeal.Gen
open Cert.Spec

/-! ## The expected result array, from the argument arrays -/

/-- Every element of a vector is a real number. -/
def Real' {s : Shape} (x : s.Idx → EReal) : Prop := ∀ i, ∃ r : ℝ, x i = (r : EReal)

/-- A rank-2 vector's real reading. -/
def r2 {n0 n1 : ℕ} (x : Vec Ideal ⟨2, ![n0, n1]⟩ .f32) (a b : ℕ) : ℝ := EReal.toReal (g2 x a b)
/-- A rank-4 vector's real reading. -/
def r4 {n0 n1 n2 n3 : ℕ} (x : Vec Ideal ⟨4, ![n0, n1, n2, n3]⟩ .f32) (a b c d : ℕ) : ℝ := EReal.toReal (g4 x a b c d)
/-- A rank-5 vector's real reading. -/
def r5 {n0 n1 n2 n3 n4 : ℕ} (x : Vec Ideal ⟨5, ![n0, n1, n2, n3, n4]⟩ .f32) (a b c d e : ℕ) : ℝ := EReal.toReal (g5 x a b c d e)

theorem z0_real : ∃ r : ℝ, (z0 (F := Ideal) : EReal) = (r : EReal) := ⟨0, Ideal.ofBits_zero_f32⟩

theorem coe_of_real {a : EReal} (h : ∃ r : ℝ, a = (r : EReal)) : a = (EReal.toReal a : EReal) := by
  obtain ⟨r, rfl⟩ := h; rfl

theorem g2_coe {n0 n1 : ℕ} {x : Vec Ideal ⟨2, ![n0, n1]⟩ .f32} (h : Real' (s := ⟨2, ![n0, n1]⟩) x) (a b : ℕ) : g2 x a b = ((r2 x a b : ℝ) : EReal) := by
  refine coe_of_real ?_
  unfold g2; split
  · exact h _
  · exact z0_real
theorem g4_coe {n0 n1 n2 n3 : ℕ} {x : Vec Ideal ⟨4, ![n0, n1, n2, n3]⟩ .f32} (h : Real' (s := ⟨4, ![n0, n1, n2, n3]⟩) x) (a b c d : ℕ) : g4 x a b c d = ((r4 x a b c d : ℝ) : EReal) := by
  refine coe_of_real ?_
  unfold g4; split
  · exact h _
  · exact z0_real
theorem g5_coe {n0 n1 n2 n3 n4 : ℕ} {x : Vec Ideal ⟨5, ![n0, n1, n2, n3, n4]⟩ .f32} (h : Real' (s := ⟨5, ![n0, n1, n2, n3, n4]⟩) x) (a b c d e : ℕ) : g5 x a b c d e = ((r5 x a b c d e : ℝ) : EReal) := by
  refine coe_of_real ?_
  unfold g5; split
  · exact h _
  · exact z0_real

/-- The word of a 2x2 table at natural coordinates, zero outside it. -/
def gi (x : S2x2.Idx → BitVec 32) (b k : ℕ) : ℕ := if h : b < 2 ∧ k < 2 then (x (ValueIdx.ix2 ⟨b, h.1⟩ ⟨k, h.2⟩)).toNat else 0

/-- The normalisation's divisor. -/
def sqI : EReal := Ideal.sqrt (Ideal.ofBits .f32 0x3F800054#32)
/-- The divisor as a real number. -/
def rS : ℝ := EReal.toReal sqI

/-- The constant under the square root. -/
theorem lit_eps : Ideal.ofBits .f32 0x3F800054#32 = ((8388692 / 8388608 : ℝ) : EReal) := by
  simp [Ideal.ofBits, Ideal.ieee, -EReal.coe_mul]; norm_num

theorem sqI_eq : sqI = (rS : EReal) := by
  unfold rS sqI
  refine coe_of_real ⟨Real.sqrt (8388692 / 8388608), ?_⟩
  rw [lit_eps, Ideal.sqrt_coe, if_neg (by norm_num)]

theorem rS_ne : rS ≠ 0 := by
  unfold rS sqI
  rw [lit_eps, Ideal.sqrt_coe, if_neg (by norm_num), EReal.toReal_coe]
  exact (Real.sqrt_pos.2 (by norm_num)).ne'

theorem scaleI_eq : scaleI = ((1 / rS : ℝ) : EReal) := by
  show Ideal.div (Ideal.ofBits .f32 0x3F800000#32) sqI = _
  rw [sqI_eq, Ideal.div_coe rS_ne, Ideal.ofBits_one_f32, one_mul]

/-- The weighted sum of the two chosen experts' features at a pixel. -/
def result (X : Vec Ideal S2x96x224x224 .f32) (idx : S2x2.Idx → BitVec 32) (vals : Vec Ideal S2x2 .f32) (Wp : Vec Ideal S8x48x96x3x3 .f32)
    (gp bp : Vec Ideal S8x48 .f32) (Wc : Vec Ideal S8x48x1x3x3 .f32) (gc bc : Vec Ideal S8x48 .f32) (b ch h w : ℕ) : EReal :=
  (g2 vals b 0 : EReal) * feat (r4 X) (r5 Wp) (r2 gp) (r2 bp) (fun e o => r5 Wc e o 0) (r2 gc) (fun e o => g2 bc e o) rS b (gi idx b 0) ch h w
    + (g2 vals b 1 : EReal) * feat (r4 X) (r5 Wp) (r2 gp) (r2 bp) (fun e o => r5 Wc e o 0) (r2 gc) (fun e o => g2 bc e o) rS b (gi idx b 1) ch h w

end Cert.KernelIdeal

end
-- ==== Proof.Value.KernD.lean ====
module

public import proofs.«01_k».proof.Proof.Value.KernC
public import proofs.«01_k».proof.Proof.Value.Result
public import proofs.«01_k».proof.Proof.Conv.Dats

@[expose] public section

set_option maxRecDepth 16384

noncomputable section

namespace Cert.KernelIdeal

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal.Gen
open Cert.Spec

variable (m : (ℓ : Loc nD τ sig) → Buf (Elt Ideal) ℓ) (ρ : Dev nD → PrngReg)

/-! ## The windows' blocks, element by element -/

theorem ind0 : ∀ t : Fin grid0.N, win0_0.index t (0 : Fin 2) = 0 ∧ win0_0.index t (1 : Fin 2) = 0 := by decide +kernel
theorem ind1 : ∀ t : Fin grid0.N, win0_1.index t (0 : Fin 2) = 0 ∧ win0_1.index t (1 : Fin 2) = 0 := by decide +kernel
theorem ind2 : ∀ t : Fin grid0.N, win0_2.index t (0 : Fin 4) = t.val / 4 ∧ win0_2.index t (1 : Fin 4) = 0 ∧ win0_2.index t (2 : Fin 4) = t.val % 4 ∧ win0_2.index t (3 : Fin 4) = 0 := by decide +kernel
theorem ind3 : ∀ t : Fin grid0.N, win0_3.index t (0 : Fin 4) = t.val / 4 ∧ win0_3.index t (1 : Fin 4) = 0 ∧ win0_3.index t (2 : Fin 4) = 7 * (t.val % 4) - 1 ∧ win0_3.index t (3 : Fin 4) = 0 := by decide +kernel
theorem ind4 : ∀ t : Fin grid0.N, win0_4.index t (0 : Fin 4) = t.val / 4 ∧ win0_4.index t (1 : Fin 4) = 0 ∧ win0_4.index t (2 : Fin 4) = min (7 * (t.val % 4) + 7) 27 ∧ win0_4.index t (3 : Fin 4) = 0 := by decide +kernel
theorem ind5 : ∀ t : Fin grid0.N, win0_5.index t (0 : Fin 4) = 0 ∧ win0_5.index t (1 : Fin 4) = 0 ∧ win0_5.index t (2 : Fin 4) = 0 ∧ win0_5.index t (3 : Fin 4) = 0 := by decide +kernel
theorem ind6 : ∀ t : Fin grid0.N, win0_6.index t (0 : Fin 3) = 0 ∧ win0_6.index t (1 : Fin 3) = 0 ∧ win0_6.index t (2 : Fin 3) = 0 := by decide +kernel
theorem ind7 : ∀ t : Fin grid0.N, win0_7.index t (0 : Fin 3) = 0 ∧ win0_7.index t (1 : Fin 3) = 0 ∧ win0_7.index t (2 : Fin 3) = 0 := by decide +kernel
theorem ind8 : ∀ t : Fin grid0.N, win0_8.index t (0 : Fin 3) = 0 ∧ win0_8.index t (1 : Fin 3) = 0 ∧ win0_8.index t (2 : Fin 3) = 0 := by decide +kernel
theorem ind9 : ∀ t : Fin grid0.N, win0_9.index t (0 : Fin 4) = t.val / 4 ∧ win0_9.index t (1 : Fin 4) = 0 ∧ win0_9.index t (2 : Fin 4) = t.val % 4 ∧ win0_9.index t (3 : Fin 4) = 0 := by decide +kernel

/-- The table of experts is one block. -/
theorem blk0_eq (c : Dev nD) (t : Fin cfg0.N) : blk0 m c t = (m ((c : Thread nD τ).loc main_arg1) : S2x2.Idx → BitVec 32) := by
  obtain ⟨e0, e1⟩ := ind0 t
  rw [← V_main_arg1 m c]
  funext j; show V m c main_arg1 (((cfg0.win 0).blk t).view.emb j) = V m c main_arg1 j
  refine congrArg _ (funext fun a => Fin.ext ?_)
  match a with
  | ⟨0, _⟩ => show win0_0.index t (0 : Fin 2) * 2 + 1 * (j 0).val = (j 0).val; omega
  | ⟨1, _⟩ => show win0_0.index t (1 : Fin 2) * 2 + 1 * (j 1).val = (j 1).val; omega

/-- The table of weights is one block. -/
theorem blk1_eq (c : Dev nD) (t : Fin cfg0.N) : blk1 m c t = (m ((c : Thread nD τ).loc main_arg2) : Vec Ideal S2x2 .f32) := by
  obtain ⟨e0, e1⟩ := ind1 t
  rw [← V_main_arg2 m c]
  funext j; show V m c main_arg2 (((cfg0.win 1).blk t).view.emb j) = V m c main_arg2 j
  refine congrArg _ (funext fun a => Fin.ext ?_)
  match a with
  | ⟨0, _⟩ => show win0_1.index t (0 : Fin 2) * 2 + 1 * (j 0).val = (j 0).val; omega
  | ⟨1, _⟩ => show win0_1.index t (1 : Fin 2) * 2 + 1 * (j 1).val = (j 1).val; omega

/-- The folded 3x3 weights are one block. -/
theorem blk5_eq (c : Dev nD) (t : Fin cfg0.N) : blk5 m c t = V m c main_v9 := by
  obtain ⟨e0, e1, e2, e3⟩ := ind5 t
  funext j; show V m c main_v9 (((cfg0.win 5).blk t).view.emb j) = V m c main_v9 j
  refine congrArg _ (funext fun a => Fin.ext ?_)
  match a with
  | ⟨0, _⟩ => show win0_5.index t (0 : Fin 4) * 8 + 1 * (j 0).val = (j 0).val; omega
  | ⟨1, _⟩ => show win0_5.index t (1 : Fin 4) * 9 + 1 * (j 1).val = (j 1).val; omega
  | ⟨2, _⟩ => show win0_5.index t (2 : Fin 4) * 48 + 1 * (j 2).val = (j 2).val; omega
  | ⟨3, _⟩ => show win0_5.index t (3 : Fin 4) * 96 + 1 * (j 3).val = (j 3).val; omega

/-- The first shift is one block. -/
theorem blk6_eq (c : Dev nD) (t : Fin cfg0.N) : blk6 m c t = V m c main_v18 := by
  obtain ⟨e0, e1, e2⟩ := ind6 t
  funext j; show V m c main_v18 (((cfg0.win 6).blk t).view.emb j) = V m c main_v18 j
  refine congrArg _ (funext fun a => Fin.ext ?_)
  match a with
  | ⟨0, _⟩ => show win0_6.index t (0 : Fin 3) * 8 + 1 * (j 0).val = (j 0).val; omega
  | ⟨1, _⟩ => show win0_6.index t (1 : Fin 3) * 48 + 1 * (j 1).val = (j 1).val; omega
  | ⟨2, _⟩ => show win0_6.index t (2 : Fin 3) * 1 + 1 * (j 2).val = (j 2).val; omega

/-- The folded depthwise weights are one block. -/
theorem blk7_eq (c : Dev nD) (t : Fin cfg0.N) : blk7 m c t = V m c main_v17 := by
  obtain ⟨e0, e1, e2⟩ := ind7 t
  funext j; show V m c main_v17 (((cfg0.win 7).blk t).view.emb j) = V m c main_v17 j
  refine congrArg _ (funext fun a => Fin.ext ?_)
  match a with
  | ⟨0, _⟩ => show win0_7.index t (0 : Fin 3) * 8 + 1 * (j 0).val = (j 0).val; omega
  | ⟨1, _⟩ => show win0_7.index t (1 : Fin 3) * 48 + 1 * (j 1).val = (j 1).val; omega
  | ⟨2, _⟩ => show win0_7.index t (2 : Fin 3) * 9 + 1 * (j 2).val = (j 2).val; omega

/-- The second shift is one block. -/
theorem blk8_eq (c : Dev nD) (t : Fin cfg0.N) : blk8 m c t = V m c main_v19 := by
  obtain ⟨e0, e1, e2⟩ := ind8 t
  funext j; show V m c main_v19 (((cfg0.win 8).blk t).view.emb j) = V m c main_v19 j
  refine congrArg _ (funext fun a => Fin.ext ?_)
  match a with
  | ⟨0, _⟩ => show win0_8.index t (0 : Fin 3) * 8 + 1 * (j 0).val = (j 0).val; omega
  | ⟨1, _⟩ => show win0_8.index t (1 : Fin 3) * 48 + 1 * (j 1).val = (j 1).val; omega
  | ⟨2, _⟩ => show win0_8.index t (2 : Fin 3) * 1 + 1 * (j 2).val = (j 2).val; omega

/-- The image the region finds. -/
abbrev argX (c : Dev nD) : Vec Ideal S2x96x224x224 .f32 := m ((c : Thread nD τ).loc main_arg0)

theorem t_lt (t : Fin cfg0.N) : t.val < 8 := t.isLt.trans_eq N_0

/-- The middle stripe of the image. -/
theorem blk2_at (c : Dev nD) (t : Fin cfg0.N) {k r q : ℕ} (hk : k < 96) (hr : r < 56) (hq : q < 224) :
    g4 (blk2 m c t) 0 k r q = g4 (argX m c) (t.val / 4) k (56 * (t.val % 4) + r) q := by
  have ht := t_lt t
  obtain ⟨e0, e1, e2, e3⟩ := ind2 t
  unfold g4
  rw [dif_pos ⟨by omega, hk, hr, hq⟩, dif_pos ⟨by omega, hk, by omega, hq⟩]
  unfold argX
  rw [← V_main_arg0 m c]
  show V m c main_arg0 (((cfg0.win 2).blk t).view.emb _) = V m c main_arg0 _
  refine congrArg _ (funext fun a => Fin.ext ?_)
  match a with
  | ⟨0, _⟩ => show win0_2.index t (0 : Fin 4) * 1 + 1 * 0 = t.val / 4; omega
  | ⟨1, _⟩ => show win0_2.index t (1 : Fin 4) * 96 + 1 * k = k; omega
  | ⟨2, _⟩ => show win0_2.index t (2 : Fin 4) * 56 + 1 * r = 56 * (t.val % 4) + r; omega
  | ⟨3, _⟩ => show win0_2.index t (3 : Fin 4) * 224 + 1 * q = q; omega

/-- The eight rows above the stripe, where there are any. -/
theorem blk3_at (c : Dev nD) (t : Fin cfg0.N) {k r q : ℕ} (h1 : 1 ≤ t.val % 4) (hk : k < 96) (hr : r < 8) (hq : q < 224) :
    g4 (blk3 m c t) 0 k r q = g4 (argX m c) (t.val / 4) k (56 * (t.val % 4) + r - 8) q := by
  have ht := t_lt t
  obtain ⟨e0, e1, e2, e3⟩ := ind3 t
  unfold g4
  rw [dif_pos ⟨by omega, hk, hr, hq⟩, dif_pos ⟨by omega, hk, by omega, hq⟩]
  unfold argX
  rw [← V_main_arg0 m c]
  show V m c main_arg0 (((cfg0.win 3).blk t).view.emb _) = V m c main_arg0 _
  refine congrArg _ (funext fun a => Fin.ext ?_)
  match a with
  | ⟨0, _⟩ => show win0_3.index t (0 : Fin 4) * 1 + 1 * 0 = t.val / 4; omega
  | ⟨1, _⟩ => show win0_3.index t (1 : Fin 4) * 96 + 1 * k = k; omega
  | ⟨2, _⟩ => show win0_3.index t (2 : Fin 4) * 8 + 1 * r = 56 * (t.val % 4) + r - 8; omega
  | ⟨3, _⟩ => show win0_3.index t (3 : Fin 4) * 224 + 1 * q = q; omega

/-- The eight rows below the stripe, where there are any. -/
theorem blk4_at (c : Dev nD) (t : Fin cfg0.N) {k r q : ℕ} (h1 : t.val % 4 < 3) (hk : k < 96) (hr : r < 8) (hq : q < 224) :
    g4 (blk4 m c t) 0 k r q = g4 (argX m c) (t.val / 4) k (56 * (t.val % 4) + 56 + r) q := by
  have ht := t_lt t
  obtain ⟨e0, e1, e2, e3⟩ := ind4 t
  unfold g4
  rw [dif_pos ⟨by omega, hk, hr, hq⟩, dif_pos ⟨by omega, hk, by omega, hq⟩]
  unfold argX
  rw [← V_main_arg0 m c]
  show V m c main_arg0 (((cfg0.win 4).blk t).view.emb _) = V m c main_arg0 _
  refine congrArg _ (funext fun a => Fin.ext ?_)
  match a with
  | ⟨0, _⟩ => show win0_4.index t (0 : Fin 4) * 1 + 1 * 0 = t.val / 4; omega
  | ⟨1, _⟩ => show win0_4.index t (1 : Fin 4) * 96 + 1 * k = k; omega
  | ⟨2, _⟩ => show win0_4.index t (2 : Fin 4) * 8 + 1 * r = 56 * (t.val % 4) + 56 + r; omega
  | ⟨3, _⟩ => show win0_4.index t (3 : Fin 4) * 224 + 1 * q = q; omega

end Cert.KernelIdeal

end
-- ==== Proof.Value.KernE.lean ====
module

public import proofs.«01_k».proof.Proof.Value.KernD

@[expose] public section

set_option maxRecDepth 16384

noncomputable section

namespace Cert.KernelIdeal

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal.Gen
open Cert.Spec

variable (m : (ℓ : Loc nD τ sig) → Buf (Elt Ideal) ℓ) (ρ : Dev nD → PrngReg)

/-! ## The output array -/

/-- The arrays that the sums and products run over hold real numbers, in every core's memory. -/
structure Finite : Prop where
  x : ∀ c : Dev nD, Real' (s := S2x96x224x224) (m ((c : Thread nD τ).loc main_arg0) : Vec Ideal S2x96x224x224 .f32)
  Wp : ∀ c : Dev nD, Real' (s := S8x48x96x3x3) (m ((c : Thread nD τ).loc main_arg3) : Vec Ideal S8x48x96x3x3 .f32)
  gp : ∀ c : Dev nD, Real' (s := S8x48) (m ((c : Thread nD τ).loc main_arg4) : Vec Ideal S8x48 .f32)
  bp : ∀ c : Dev nD, Real' (s := S8x48) (m ((c : Thread nD τ).loc main_arg5) : Vec Ideal S8x48 .f32)
  Wc : ∀ c : Dev nD, Real' (s := S8x48x1x3x3) (m ((c : Thread nD τ).loc main_arg6) : Vec Ideal S8x48x1x3x3 .f32)
  gc : ∀ c : Dev nD, Real' (s := S8x48) (m ((c : Thread nD τ).loc main_arg7) : Vec Ideal S8x48 .f32)

/-- The expected result at natural coordinates, from the memory. -/
def resAt (c : Dev nD) (b ch h w : ℕ) : EReal :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) b ch h w

/-- The expected result array. -/
def resArr (c : Dev nD) : Vec Ideal S2x96x224x224 .f32 := fun i => resAt m c (i 0).val (i 1).val (i 2).val (i 3).val

/-- A word of the table of experts as a point reads it. -/
theorem cell_gi (x : Vec Ideal S2x2 .i32) (i : grid0.Coords) (k : Fin 2) {b : ℕ} (hb : (i 0).val = b) :
    (cell x i k : BitVec 32).toNat = gi x b k.val := by
  have h2 : b < 2 := hb ▸ (i 0).isLt
  subst hb
  unfold gi cell
  rw [dif_pos ⟨h2, k.isLt⟩]

/-- A weight of the table of weights as a point reads it. -/
theorem cell_g2 (x : Vec Ideal S2x2 .f32) (i : grid0.Coords) (k : Fin 2) {b : ℕ} (hb : (i 0).val = b) :
    (cell x i k : EReal) = g2 x b k.val := by
  have h2 : b < 2 := hb ▸ (i 0).isLt
  subst hb
  unfold g2 cell
  rw [dif_pos ⟨h2, k.isLt⟩]

/-- The output block of a point is the expected result on its stripe. -/
theorem outAt_at (hR : InRange m) (hF : Finite m) (c : Dev nD) (t : Fin cfg0.N) {ch j w : ℕ} (hch : ch < 96) (hj : j < 56) (hw : w < 224) :
    g4 (outAt m c t) 0 ch j w = resAt m c (t.val / 4) ch (56 * (t.val % 4) + j) w := by
  have ht := t_lt t
  obtain ⟨c0, c1⟩ := coords_val t
  have hl (k : Fin 2) : (cell (blk0 m c t) (grid0.coords t) k : BitVec 32).toNat < 8 := by
    rw [blk0_eq]
    have := hR c (ValueIdx.ix2 ⟨(grid0.coords t 0).val, (grid0.coords t 0).isLt⟩ k)
    rw [V_main_arg1] at this
    exact this
  unfold outAt
  refine (OUT9_at (grid0.coords t) _ _ _ _ _ _ _ _ _ (r4 (argX m c)) (r5 (m ((c : Thread nD τ).loc main_arg3) : Vec Ideal S8x48x96x3x3 .f32))
    (r2 (m ((c : Thread nD τ).loc main_arg4) : Vec Ideal S8x48 .f32)) (r2 (m ((c : Thread nD τ).loc main_arg5) : Vec Ideal S8x48 .f32)) (fun e o => r5 (m ((c : Thread nD τ).loc main_arg6) : Vec Ideal S8x48x1x3x3 .f32) e o 0)
    (r2 (m ((c : Thread nD τ).loc main_arg7) : Vec Ideal S8x48 .f32)) (fun e o => g2 (m ((c : Thread nD τ).loc main_arg8) : Vec Ideal S8x48 .f32) e o) rS (t.val / 4) (t.val % 4) c1 (by omega)
    ?_ ?_ ?_ ?_ ?_ ?_ ?_ ?_ (cell_gi _ _ 0 c0) (cell_gi _ _ 1 c0) ?_ ?_ hch hj hw).trans ?_
  · intro k r q hk hr hq
    rw [blk2_at m c t hk hr hq]; exact g4_coe (hF.x c) _ _ _ _
  · intro hs k r q hk h6 hr hq
    rw [blk3_at m c t hs hk hr hq]; exact g4_coe (hF.x c) _ _ _ _
  · intro hs k r q hk hr hq
    rw [blk4_at m c t hs hk (by omega) hq]; exact g4_coe (hF.x c) _ _ _ _
  · intro k r q h
    show r4 (argX m c) _ _ _ _ = 0
    unfold r4 g4
    rw [dif_neg (by omega)]
    show EReal.toReal (Ideal.ofBits .f32 0x00000000#32) = 0
    rw [Ideal.ofBits_zero_f32]; rfl
  · intro e dy dx o k he hdy hdx ho hk
    rw [blk5_eq, v9_at m c he hdy hdx ho hk, g5_coe (hF.Wp c), g2_coe (hF.gp c), scaleI_eq]
    rw [EReal.coe_mul, EReal.coe_mul]
  · intro e o he ho
    rw [blk6_eq, v18_at m c he ho]; exact g2_coe (hF.bp c) _ _
  · intro e dy dx o he hdy hdx ho
    rw [blk7_eq, v17_at m c he hdy hdx ho, g5_coe (hF.Wc c), g2_coe (hF.gc c), scaleI_eq]
    rw [EReal.coe_mul, EReal.coe_mul]
  · intro e o he ho
    rw [blk8_eq, v19_at m c he ho]
  · rw [← cell_gi _ _ 0 c0]; exact hl 0
  · rw [← cell_gi _ _ 1 c0]; exact hl 1
  · rw [cell_g2 _ _ 0 c0, cell_g2 _ _ 1 c0, blk0_eq, blk1_eq]
    rfl

end Cert.KernelIdeal

end
-- ==== Proof.Value.KernF.lean ====
module

public import proofs.«01_k».proof.Proof.Value.KernE

@[expose] public section

set_option maxRecDepth 16384

noncomputable section

namespace Cert.KernelIdeal

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal.Gen
open Cert.Spec

variable (m : (ℓ : Loc nD τ sig) → Buf (Elt Ideal) ℓ) (ρ : Dev nD → PrngReg)

/-- What a point writes back is its block of the expected result. -/
theorem flushed9_eq (hR : InRange m) (hF : Finite m) (c : Dev nD) (t : Fin cfg0.N) :
    (dats m 0 c).flushed 9 t = ((cfg0.win 9).blk t).view.read (Elt Ideal) (resArr m c) := by
  show (cfg0.win 9).cut (grid0.coords t) ((dats m 0 c).after 9 t) = _
  rw [after0_9]
  obtain ⟨e0, e1, e2, e3⟩ := ind9 t
  have ht := t_lt t
  funext j
  have h0 : (j 0).val < 1 := (j 0).isLt
  have h1 : (j 1).val < 96 := (j 1).isLt
  have h2 : (j 2).val < 56 := (j 2).isLt
  have h3 : (j 3).val < 224 := (j 3).isLt
  have hj : j = ValueIdx.ix4 (n0 := 1) (n1 := 96) (n2 := 56) (n3 := 224) ⟨0, Nat.one_pos⟩ ⟨(j 1).val, h1⟩ ⟨(j 2).val, h2⟩ ⟨(j 3).val, h3⟩ := by
    funext a; apply Fin.ext
    match a with
    | ⟨0, _⟩ => show (j 0).val = 0; omega
    | ⟨1, _⟩ => rfl
    | ⟨2, _⟩ => rfl
    | ⟨3, _⟩ => rfl
  have hv := outAt_at m hR hF c t h1 h2 h3
  unfold g4 at hv
  rw [dif_pos ⟨Nat.one_pos, h1, h2, h3⟩] at hv
  show outAt m c t j = resArr m c (((cfg0.win 9).blk t).view.emb j)
  have q0 : (((cfg0.win 9).blk t).view.emb j (0 : Fin 4)).val = t.val / 4 := by
    show win0_9.index t (0 : Fin 4) * 1 + 1 * (j 0).val = t.val / 4; omega
  have q1 : (((cfg0.win 9).blk t).view.emb j (1 : Fin 4)).val = (j 1).val := by
    show win0_9.index t (1 : Fin 4) * 96 + 1 * (j 1).val = (j 1).val; omega
  have q2 : (((cfg0.win 9).blk t).view.emb j (2 : Fin 4)).val = 56 * (t.val % 4) + (j 2).val := by
    show win0_9.index t (2 : Fin 4) * 56 + 1 * (j 2).val = 56 * (t.val % 4) + (j 2).val; omega
  have q3 : (((cfg0.win 9).blk t).view.emb j (3 : Fin 4)).val = (j 3).val := by
    show win0_9.index t (3 : Fin 4) * 224 + 1 * (j 3).val = (j 3).val; omega
  have hr : resArr m c (((cfg0.win 9).blk t).view.emb j) = resAt m c (t.val / 4) (j 1).val (56 * (t.val % 4) + (j 2).val) (j 3).val := by
    rw [← q0, ← q1, ← q2, ← q3]; rfl
  rw [hr, ← hv]
  exact congrArg (outAt m c t) hj

/-- Every element of the output array is in some point's block. -/
theorem covered9 (i : S2x96x224x224.Idx) :
    ∃ t : Fin cfg0.N, (cfg0.win 9).flush t = true ∧ i ∈ ((cfg0.win 9).blk t).view.set := by
  have h0 : (i 0).val < 2 := (i 0).isLt
  have h1 : (i 1).val < 96 := (i 1).isLt
  have h2 : (i 2).val < 224 := (i 2).isLt
  have h3 : (i 3).val < 224 := (i 3).isLt
  have hN : cfg0.N = 8 := N_0
  let t : Fin cfg0.N := ⟨4 * (i 0).val + (i 2).val / 56, by omega⟩
  have ht : t.val = 4 * (i 0).val + (i 2).val / 56 := rfl
  obtain ⟨e0, e1, e2, e3⟩ := ind9 t
  refine ⟨t, (flush0_9 t), ?_⟩
  have he := ((cfg0.win 9).blk t).view.emb_mem_set
    (ValueIdx.ix4 (n0 := 1) (n1 := 96) (n2 := 56) (n3 := 224) ⟨0, Nat.one_pos⟩ ⟨(i 1).val, h1⟩ ⟨(i 2).val % 56, Nat.mod_lt _ (by omega)⟩ ⟨(i 3).val, h3⟩)
  have hi : ((cfg0.win 9).blk t).view.emb
    (ValueIdx.ix4 (n0 := 1) (n1 := 96) (n2 := 56) (n3 := 224) ⟨0, Nat.one_pos⟩ ⟨(i 1).val, h1⟩ ⟨(i 2).val % 56, Nat.mod_lt _ (by omega)⟩ ⟨(i 3).val, h3⟩) = i := by
    funext a; apply Fin.ext
    match a with
    | ⟨0, _⟩ => show win0_9.index t (0 : Fin 4) * 1 + 1 * 0 = (i 0).val; omega
    | ⟨1, _⟩ => show win0_9.index t (1 : Fin 4) * 96 + 1 * (i 1).val = (i 1).val; omega
    | ⟨2, _⟩ => show win0_9.index t (2 : Fin 4) * 56 + 1 * ((i 2).val % 56) = (i 2).val; omega
    | ⟨3, _⟩ => show win0_9.index t (3 : Fin 4) * 224 + 1 * (i 3).val = (i 3).val; omega
  rwa [hi] at he

/-- The output array after the run is the expected result. -/
theorem final9 (hR : InRange m) (hF : Finite m) (c : Dev nD) : (dats m 0 c).arrAt 9 cfg0.N = resArr m c :=
  (dats m 0 c).arrAt_eq_of_cover 9 (resArr m c) (fun t _ => flushed9_eq m hR hF c t) covered9

/-- The run with the output array at the expected result and the arguments unchanged. -/
theorem run_value (hR : InRange m) (hF : Finite m) : θ_run defs (onTc (τ := τ) (main (F := Ideal))) ⟨m, fun _ => 0, ρ⟩ fun r => ∀ c : Dev nD,
      r.2.mem ((c : Thread nD τ).loc main_v20) = resArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h.1.1 c).1 9).trans (final9 m hR hF c), h.2.1 c⟩)
    (θ_run_and (run_main m ρ hR) (frame_main m ρ hR))

end Cert.KernelIdeal

end
-- ==== Proof.Value.RefA.lean ====
module

public import proofs.«01_k».proof.Proof.Gen.ReferenceIdeal.Read
public import proofs.«01_k».proof.Proof.Value.Result
public import Idealize.ShloMosaic.Lib.KernelVsHost

@[expose] public section

set_option maxRecDepth 16384

noncomputable section

namespace Cert.ReferenceIdeal.Plain

open Cert.ReferenceIdeal Cert.ReferenceIdeal.Gen Cert.ReferenceIdeal.Read Idealize.ShloMosaic Idealize.ShloMosaic.TcCoe
open Cert.Spec
open Cert.KernelIdeal (g2 g4 g5 gi r2 r4 r5 Real' g2_coe g4_coe g5_coe rS rS_ne sqI sqI_eq)

/-! ## The padded image and one tap of the 3x3 convolution -/

/-- The padding value is zero. -/
theorem pad_value (i : S_.Idx) : (val_main_call0_v0 (F := Ideal) i : EReal) = 0 := by
  rw [val_main_call0_v0_apply, val_main_c_apply]
  show (((0#32 : BitVec 32).toInt : ℝ) : EReal) = 0
  simp

/-- The padded image at natural coordinates. -/
theorem pad0_at (x0 : FVec Ideal S2x96x224x224 .f32) (hx : Real' (s := S2x96x224x224) x0) (b : Fin 2) (c : Fin 96) (r q : Fin 226) :
    val_main_v0 (F := Ideal) x0 (ValueIdx.ix4 (n0 := 2) (n1 := 96) (n2 := 226) (n3 := 226) b c r q) = ((xp (r4 x0) b.val c.val r.val q.val : ℝ) : EReal) := by
  unfold val_main_v0 pad xp
  split_ifs with hin h0 h0
  · have h2 : 1 ≤ r.val := (hin 2).1
    have h3 : 1 ≤ q.val := (hin 3).1
    omega
  · have h2 : 1 ≤ r.val ∧ (r.val - 1) / (0 + 1) < 224 := ⟨(hin 2).1, (hin 2).2.2⟩
    have h3 : 1 ≤ q.val ∧ (q.val - 1) / (0 + 1) < 224 := ⟨(hin 3).1, (hin 3).2.2⟩
    rw [← g4_coe hx]
    unfold g4
    rw [dif_pos ⟨b.isLt, c.isLt, by omega, by omega⟩]
    refine congrArg x0 (funext fun a => Fin.ext ?_)
    match a with
    | ⟨0, _⟩ => show (b.val - 0) / (0 + 1) = b.val; omega
    | ⟨1, _⟩ => show (c.val - 0) / (0 + 1) = c.val; omega
    | ⟨2, _⟩ => show (r.val - 1) / (0 + 1) = r.val - 1; omega
    | ⟨3, _⟩ => show (q.val - 1) / (0 + 1) = q.val - 1; omega
  · exact pad_value _
  · rw [← g4_coe hx]
    unfold g4
    rw [dif_neg]
    · exact (pad_value _).trans Ideal.ofBits_zero_f32.symm
    · rintro ⟨-, -, h2, h3⟩
      refine hin fun a => ?_
      match a with
      | ⟨0, _⟩ => show 0 ≤ b.val ∧ (b.val - 0) % (0 + 1) = 0 ∧ (b.val - 0) / (0 + 1) < 2; omega
      | ⟨1, _⟩ => show 0 ≤ c.val ∧ (c.val - 0) % (0 + 1) = 0 ∧ (c.val - 0) / (0 + 1) < 96; omega
      | ⟨2, _⟩ => show 1 ≤ r.val ∧ (r.val - 1) % (0 + 1) = 0 ∧ (r.val - 1) / (0 + 1) < 224; omega
      | ⟨3, _⟩ => show 1 ≤ q.val ∧ (q.val - 1) % (0 + 1) = 0 ∧ (q.val - 1) / (0 + 1) < 224; omega

/-- The dot of the reference's taps at an index, for any operands. -/
theorem dot_at (y0 : FVec Ideal S2x96x224x224 .f32) (y1 : FVec Ideal S8x48x96 .f32) (i : S2x224x224x8x48.Idx) :
    Host.dotGeneral (F := Ideal) dot_S2x96x224x224_S8x48x96_S2x224x224x8x48_1_2_023_01_n_n none y0 y1 i
      = ∑ k : Fin 96, y0 (lidx_main_v4 i k) * y1 (ridx_main_v4 i k) := by
  simp only [Host.dotGeneral]
  rw [Ideal.dotGeneral_apply, ← Equiv.sum_comp (ValueIdx.contrEquiv1 dot_S2x96x224x224_S8x48x96_S2x224x224x8x48_1_2_023_01_n_n 96 rfl rfl).symm]
  refine Finset.sum_congr rfl fun k _ => ?_
  have hk := ValueIdx.contrEquiv1_symm_val dot_S2x96x224x224_S8x48x96_S2x224x224x8x48_1_2_023_01_n_n 96 rfl rfl k
  congr 1
  · refine congrArg y0 (funext fun a => Fin.ext ?_)
    match a with
    | ⟨0, _⟩ => exact lhs_main_v4_0 _ _
    | ⟨1, _⟩ => exact (lhs_main_v4_1 _ _).trans hk
    | ⟨2, _⟩ => exact lhs_main_v4_2 _ _
    | ⟨3, _⟩ => exact lhs_main_v4_3 _ _
  · refine congrArg y1 (funext fun a => Fin.ext ?_)
    match a with
    | ⟨0, _⟩ => exact rhs_main_v4_0 _ _
    | ⟨1, _⟩ => exact rhs_main_v4_1 _ _
    | ⟨2, _⟩ => exact (rhs_main_v4_2 _ _).trans hk

/-- One tap of the convolution: the shifted padded image against the tap's weights, channels moved in front. -/
def tapV (x0 : FVec Ideal S2x96x224x224 .f32) (x3 : FVec Ideal S8x48x96x3x3 .f32) (dy dx : ℕ)
    (hw : S8x48x96x3x3.Slices ![0, 0, 0, dy, dx] S8x48x96x1x1) (hs : S2x96x226x226.Slices ![0, 0, dy, dx] S2x96x224x224) : FVec Ideal S2x8x48x224x224 .f32 :=
  transpose S2x8x48x224x224 [0, 3, 4, 1, 2]
    (Host.dotGeneral (F := Ideal) (φ₁ := .f32) (φ₂ := .f32) dot_S2x96x224x224_S8x48x96_S2x224x224x8x48_1_2_023_01_n_n none
      (extractStridedSlice S2x96x224x224 ![0, 0, dy, dx] (val_main_v0 (F := Ideal) x0) hs)
      (shapeCast S8x48x96 (extractStridedSlice S8x48x96x1x1 ![0, 0, 0, dy, dx] x3 hw) shapeCasts_S8x48x96x1x1_S8x48x96) : FVec Ideal S2x224x224x8x48 .f32)
    transposes_S2x224x224x8x48_S2x8x48x224x224_0_3_4_1_2

/-- A tap is the sum over the input channels. -/
theorem tapV_at (x0 : FVec Ideal S2x96x224x224 .f32) (x3 : FVec Ideal S8x48x96x3x3 .f32) (hx : Real' (s := S2x96x224x224) x0) (hW : Real' (s := S8x48x96x3x3) x3)
    (dy dx : Fin 3) (hw : S8x48x96x3x3.Slices ![0, 0, 0, dy.val, dx.val] S8x48x96x1x1) (hs : S2x96x226x226.Slices ![0, 0, dy.val, dx.val] S2x96x224x224)
    (b : Fin 2) (e : Fin 8) (o : Fin 48) (h w : Fin 224) :
    tapV x0 x3 dy.val dx.val hw hs (ValueIdx.ix5 (n0 := 2) (n1 := 8) (n2 := 48) (n3 := 224) (n4 := 224) b e o h w)
      = ((∑ c : Fin 96, r5 x3 e.val o.val c.val dy.val dx.val * xp (r4 x0) b.val c.val (h.val + dy.val) (w.val + dx.val) : ℝ) : EReal) := by
  unfold tapV
  rw [transpose_apply _ _ _ _ (ValueIdx.ix5 (n0 := 2) (n1 := 224) (n2 := 224) (n3 := 8) (n4 := 48) b h w e o) (by
    intro a; fin_cases a <;> rfl), dot_at, coe_sum]
  refine Finset.sum_congr rfl fun c _ => ?_
  rw [EReal.coe_mul, mul_comm]
  congr 1
  · rw [shapeCast_apply _ _ _ (ValueIdx.ix5 (n0 := 8) (n1 := 48) (n2 := 96) (n3 := 1) (n4 := 1) e o c 0 0) (by
      rw [Shape.rowMajor_val_five, Shape.rowMajor_val_three]
      show (((e.val * 48 + o.val) * 96 + c.val) * 1 + 0) * 1 + 0 = (e.val * 48 + o.val) * 96 + c.val
      omega)]
    rw [extractStridedSlice_apply _ _ _ _ (ValueIdx.ix5 (n0 := 8) (n1 := 48) (n2 := 96) (n3 := 3) (n4 := 3) e o c dy dx) (by
      intro a
      match a with
      | ⟨0, _⟩ => show e.val = 0 + e.val; omega
      | ⟨1, _⟩ => show o.val = 0 + o.val; omega
      | ⟨2, _⟩ => show c.val = 0 + c.val; omega
      | ⟨3, _⟩ => show dy.val = dy.val + 0; omega
      | ⟨4, _⟩ => show dx.val = dx.val + 0; omega)]
    rw [← g5_coe hW]
    unfold g5
    rw [dif_pos ⟨e.isLt, o.isLt, c.isLt, dy.isLt, dx.isLt⟩]
  · have hh := h.isLt
    have hww := w.isLt
    have hdy := dy.isLt
    have hdx := dx.isLt
    rw [extractStridedSlice_apply _ _ _ _ (ValueIdx.ix4 (n0 := 2) (n1 := 96) (n2 := 226) (n3 := 226) b c ⟨h.val + dy.val, by omega⟩ ⟨w.val + dx.val, by omega⟩) (by
      intro a
      match a with
      | ⟨0, _⟩ => show b.val = 0 + b.val; omega
      | ⟨1, _⟩ => show c.val = 0 + c.val; omega
      | ⟨2, _⟩ => show h.val + dy.val = dy.val + h.val; omega
      | ⟨3, _⟩ => show w.val + dx.val = dx.val + w.val; omega)]
    exact pad0_at x0 hx _ _ _ _

/-- The nine taps together are the convolution. -/
theorem v55_at (x0 : FVec Ideal S2x96x224x224 .f32) (x3 : FVec Ideal S8x48x96x3x3 .f32) (hx : Real' (s := S2x96x224x224) x0) (hW : Real' (s := S8x48x96x3x3) x3)
    (b : Fin 2) (e : Fin 8) (o : Fin 48) (h w : Fin 224) :
    val_main_v55 (F := Ideal) x0 x3 (ValueIdx.ix5 (n0 := 2) (n1 := 8) (n2 := 48) (n3 := 224) (n4 := 224) b e o h w)
      = ((cv (r4 x0) (r5 x3) b.val e.val o.val h.val w.val : ℝ) : EReal) := by
  have T := tapV_at x0 x3 hx hW
  have t0 := T 0 0 slices_S8x48x96x3x3_S8x48x96x1x1_0_0_0_0_0 slices_S2x96x226x226_S2x96x224x224_0_0_0_0 b e o h w
  have t1 := T 0 1 slices_S8x48x96x3x3_S8x48x96x1x1_0_0_0_0_1 slices_S2x96x226x226_S2x96x224x224_0_0_0_1 b e o h w
  have t2 := T 0 2 slices_S8x48x96x3x3_S8x48x96x1x1_0_0_0_0_2 slices_S2x96x226x226_S2x96x224x224_0_0_0_2 b e o h w
  have t3 := T 1 0 slices_S8x48x96x3x3_S8x48x96x1x1_0_0_0_1_0 slices_S2x96x226x226_S2x96x224x224_0_0_1_0 b e o h w
  have t4 := T 1 1 slices_S8x48x96x3x3_S8x48x96x1x1_0_0_0_1_1 slices_S2x96x226x226_S2x96x224x224_0_0_1_1 b e o h w
  have t5 := T 1 2 slices_S8x48x96x3x3_S8x48x96x1x1_0_0_0_1_2 slices_S2x96x226x226_S2x96x224x224_0_0_1_2 b e o h w
  have t6 := T 2 0 slices_S8x48x96x3x3_S8x48x96x1x1_0_0_0_2_0 slices_S2x96x226x226_S2x96x224x224_0_0_2_0 b e o h w
  have t7 := T 2 1 slices_S8x48x96x3x3_S8x48x96x1x1_0_0_0_2_1 slices_S2x96x226x226_S2x96x224x224_0_0_2_1 b e o h w
  have t8 := T 2 2 slices_S8x48x96x3x3_S8x48x96x1x1_0_0_0_2_2 slices_S2x96x226x226_S2x96x224x224_0_0_2_2 b e o h w
  have e7 : ∀ i, (val_main_v7 (F := Ideal) x0 x3 i : EReal) = 0 + tapV x0 x3 0 0 slices_S8x48x96x3x3_S8x48x96x1x1_0_0_0_0_0 slices_S2x96x226x226_S2x96x224x224_0_0_0_0 i := fun i => by
    rw [val_main_v7_apply, val_main_v6_apply, val_main_cst_apply]
    show (Ideal.ofBits .f32 0x00000000#32 : EReal) + _ = _
    rw [Ideal.ofBits_zero_f32]
    rfl
  have e55 : ∀ i, (val_main_v55 (F := Ideal) x0 x3 i : EReal)
      = val_main_v7 (F := Ideal) x0 x3 i
        + tapV x0 x3 0 1 slices_S8x48x96x3x3_S8x48x96x1x1_0_0_0_0_1 slices_S2x96x226x226_S2x96x224x224_0_0_0_1 i
        + tapV x0 x3 0 2 slices_S8x48x96x3x3_S8x48x96x1x1_0_0_0_0_2 slices_S2x96x226x226_S2x96x224x224_0_0_0_2 i
        + tapV x0 x3 1 0 slices_S8x48x96x3x3_S8x48x96x1x1_0_0_0_1_0 slices_S2x96x226x226_S2x96x224x224_0_0_1_0 i
        + tapV x0 x3 1 1 slices_S8x48x96x3x3_S8x48x96x1x1_0_0_0_1_1 slices_S2x96x226x226_S2x96x224x224_0_0_1_1 i
        + tapV x0 x3 1 2 slices_S8x48x96x3x3_S8x48x96x1x1_0_0_0_1_2 slices_S2x96x226x226_S2x96x224x224_0_0_1_2 i
        + tapV x0 x3 2 0 slices_S8x48x96x3x3_S8x48x96x1x1_0_0_0_2_0 slices_S2x96x226x226_S2x96x224x224_0_0_2_0 i
        + tapV x0 x3 2 1 slices_S8x48x96x3x3_S8x48x96x1x1_0_0_0_2_1 slices_S2x96x226x226_S2x96x224x224_0_0_2_1 i
        + tapV x0 x3 2 2 slices_S8x48x96x3x3_S8x48x96x1x1_0_0_0_2_2 slices_S2x96x226x226_S2x96x224x224_0_0_2_2 i := fun i => rfl
  rw [e55, e7]
  refine (congrArg₂ (· + ·) (congrArg₂ (· + ·) (congrArg₂ (· + ·) (congrArg₂ (· + ·) (congrArg₂ (· + ·) (congrArg₂ (· + ·) (congrArg₂ (· + ·) (congrArg₂ (· + ·)
    (congrArg (0 + ·) t0) t1) t2) t3) t4) t5) t6) t7) t8).trans ?_
  simp only [zero_add, ← EReal.coe_add]
  unfold cv
  simp only [Fin.sum_univ_three]
  refine congrArg _ ?_
  ring

end Cert.ReferenceIdeal.Plain

end
-- ==== Proof.Value.RefB.lean ====
module

public import proofs.«01_k».proof.Proof.Value.RefA

@[expose] public section

set_option maxRecDepth 16384

noncomputable section

namespace Cert.ReferenceIdeal.Plain

open Cert.ReferenceIdeal Cert.ReferenceIdeal.Gen Cert.ReferenceIdeal.Read Idealize.ShloMosaic Idealize.ShloMosaic.TcCoe
open Cert.Spec
open Cert.KernelIdeal (g2 g4 g5 gi r2 r4 r5 Real' g2_coe g4_coe g5_coe rS rS_ne sqI sqI_eq)

/-! ## The first normalisation and activation -/

/-- A table over experts and channels spread over images and pixels. -/
theorem spread_at (y : FVec Ideal S8x48 .f32) (b : Fin 2) (e : Fin 8) (o : Fin 48) (h w : Fin 224) :
    broadcastInDim S2x8x48x224x224 ![0, 1, 2, 3, 4] bcast_S1x8x48x1x1_S2x8x48x224x224_0_1_2_3_4 (shapeCast S1x8x48x1x1 y shapeCasts_S8x48_S1x8x48x1x1)
      (ValueIdx.ix5 (n0 := 2) (n1 := 8) (n2 := 48) (n3 := 224) (n4 := 224) b e o h w) = y (ValueIdx.ix2 (n0 := 8) (n1 := 48) e o) := by
  rw [broadcastInDim_apply _ _ _ _ (ValueIdx.ix5 (n0 := 1) (n1 := 8) (n2 := 48) (n3 := 1) (n4 := 1) 0 e o 0 0) (by
    intro a; fin_cases a <;> rfl)]
  exact shapeCast_apply _ _ _ (ValueIdx.ix2 (n0 := 8) (n1 := 48) e o) (by
    rw [Shape.rowMajor_val_two, Shape.rowMajor_val_five]
    show e.val * 48 + o.val = (((0 * 8 + e.val) * 48 + o.val) * 1 + 0) * 1 + 0
    omega)

/-- An element of a table over experts and channels as its reading. -/
theorem g2_at (y : FVec Ideal S8x48 .f32) (e : Fin 8) (o : Fin 48) : g2 y e.val o.val = y (ValueIdx.ix2 (n0 := 8) (n1 := 48) e o) := by
  unfold g2; rw [dif_pos ⟨e.isLt, o.isLt⟩]

/-- The gain over the divisor. -/
theorem gain_real (y : FVec Ideal S8x48 .f32) (hy : Real' (s := S8x48) y) (e : Fin 8) (o : Fin 48) :
    Ideal.div (y (ValueIdx.ix2 (n0 := 8) (n1 := 48) e o)) sqI = ((r2 y e.val o.val * (1 / rS) : ℝ) : EReal) := by
  rw [sqI_eq, Ideal.div_coe rS_ne, ← g2_at y, g2_coe hy, EReal.coe_mul]

/-- The first gain over the divisor, spread. -/
theorem v61_at (x4 : FVec Ideal S8x48 .f32) (h4 : Real' (s := S8x48) x4) (b : Fin 2) (e : Fin 8) (o : Fin 48) (h w : Fin 224) :
    val_main_v61 (F := Ideal) x4 (ValueIdx.ix5 (n0 := 2) (n1 := 8) (n2 := 48) (n3 := 224) (n4 := 224) b e o h w) = ((r2 x4 e.val o.val * (1 / rS) : ℝ) : EReal) :=
  (spread_at (val_main_v59 (F := Ideal) x4) b e o h w).trans (gain_real x4 h4 e o)

/-- The second gain over the divisor, spread. -/
theorem v143_at (x7 : FVec Ideal S8x48 .f32) (h7 : Real' (s := S8x48) x7) (b : Fin 2) (e : Fin 8) (o : Fin 48) (h w : Fin 224) :
    val_main_v143 (F := Ideal) x7 (ValueIdx.ix5 (n0 := 2) (n1 := 8) (n2 := 48) (n3 := 224) (n4 := 224) b e o h w) = ((r2 x7 e.val o.val * (1 / rS) : ℝ) : EReal) :=
  (spread_at (val_main_v141 (F := Ideal) x7) b e o h w).trans (gain_real x7 h7 e o)

/-- The activation as it is written out: a number times one over one plus the exponential of its negative. -/
theorem silu_plain (y : EReal) :
    y * Ideal.div (Ideal.ofBits .f32 0x3F800000#32) (Ideal.ofBits .f32 0x3F800000#32 + Ideal.exp (-y)) = esilu y := by
  rw [Ideal.ofBits_one_f32]
  rfl

section
variable (x0 : FVec Ideal S2x96x224x224 .f32) (x3 : FVec Ideal S8x48x96x3x3 .f32) (x4 x5 : FVec Ideal S8x48 .f32)

/-- The activation of the first stage is a number times its logistic. -/
theorem v72_silu (i : S2x8x48x224x224.Idx) : val_main_v72 (F := Ideal) x0 x3 x4 x5 i = esilu (val_main_v65 (F := Ideal) x0 x3 x4 x5 i) := by
  rw [val_main_v72_apply, val_main_v71_apply, val_main_v69_apply, val_main_v67_apply, val_main_v66_apply, val_main_v68_apply, val_main_v70_apply]
  generalize val_main_v65 (F := Ideal) x0 x3 x4 x5 i = y
  exact silu_plain y

variable (h0 : Real' (s := S2x96x224x224) x0) (h3 : Real' (s := S8x48x96x3x3) x3) (h4 : Real' (s := S8x48) x4) (h5 : Real' (s := S8x48) x5)
include h0 h3 h4 h5

/-- The first stage. -/
theorem v72_at (b : Fin 2) (e : Fin 8) (o : Fin 48) (h w : Fin 224) :
    val_main_v72 (F := Ideal) x0 x3 x4 x5 (ValueIdx.ix5 (n0 := 2) (n1 := 8) (n2 := 48) (n3 := 224) (n4 := 224) b e o h w)
      = ((x1 (r4 x0) (r5 x3) (r2 x4) (r2 x5) rS b.val e.val o.val h.val w.val : ℝ) : EReal) := by
  rw [v72_silu, val_main_v65_apply, val_main_v62_apply, v55_at x0 x3 h0 h3, v61_at x4 h4]
  have hb : val_main_v64 (F := Ideal) x5 (ValueIdx.ix5 (n0 := 2) (n1 := 8) (n2 := 48) (n3 := 224) (n4 := 224) b e o h w) = ((r2 x5 e.val o.val : ℝ) : EReal) :=
    (spread_at x5 b e o h w).trans ((g2_at x5 e o).symm.trans (g2_coe h5 _ _))
  rw [hb]
  unfold x1
  rw [← silu_coe]
  refine congrArg esilu ?_
  rw [EReal.coe_add, EReal.coe_mul]
  rfl

end

/-! ## The padded first stage and one tap of the depthwise convolution -/

/-- A padded array over experts and channels at natural coordinates. -/
theorem pad1_at (y : FVec Ideal S2x8x48x224x224 .f32) (f : ℕ → ℕ → ℝ) (b : Fin 2) (e : Fin 8) (o : Fin 48)
    (hy : ∀ h w : Fin 224, y (ValueIdx.ix5 (n0 := 2) (n1 := 8) (n2 := 48) (n3 := 224) (n4 := 224) b e o h w) = ((f h.val w.val : ℝ) : EReal)) (r q : Fin 226) :
    pad S2x8x48x226x226 ![0, 0, 0, 1, 1] ![0, 0, 0, 1, 1] ![0, 0, 0, 0, 0] y (val_main_call1_v0 (F := Ideal)) pads_S2x8x48x224x224_S2x8x48x226x226_000_000_000_110_110 h_S_
      (ValueIdx.ix5 (n0 := 2) (n1 := 8) (n2 := 48) (n3 := 226) (n4 := 226) b e o r q) = ((bd f r.val q.val : ℝ) : EReal) := by
  unfold pad bd
  split_ifs with hin h0 h0
  · have h2 : 1 ≤ r.val ∧ (r.val - 1) / (0 + 1) < 224 := ⟨(hin 3).1, (hin 3).2.2⟩
    have h3 : 1 ≤ q.val ∧ (q.val - 1) / (0 + 1) < 224 := ⟨(hin 4).1, (hin 4).2.2⟩
    omega
  · have h2 : 1 ≤ r.val ∧ (r.val - 1) / (0 + 1) < 224 := ⟨(hin 3).1, (hin 3).2.2⟩
    have h3 : 1 ≤ q.val ∧ (q.val - 1) / (0 + 1) < 224 := ⟨(hin 4).1, (hin 4).2.2⟩
    rw [← hy ⟨r.val - 1, by omega⟩ ⟨q.val - 1, by omega⟩]
    refine congrArg y (funext fun a => Fin.ext ?_)
    match a with
    | ⟨0, _⟩ => show (b.val - 0) / (0 + 1) = b.val; omega
    | ⟨1, _⟩ => show (e.val - 0) / (0 + 1) = e.val; omega
    | ⟨2, _⟩ => show (o.val - 0) / (0 + 1) = o.val; omega
    | ⟨3, _⟩ => show (r.val - 1) / (0 + 1) = r.val - 1; omega
    | ⟨4, _⟩ => show (q.val - 1) / (0 + 1) = q.val - 1; omega
  · exact pad_value _
  · refine absurd (fun a => ?_) hin
    match a with
    | ⟨0, _⟩ => show 0 ≤ b.val ∧ (b.val - 0) % (0 + 1) = 0 ∧ (b.val - 0) / (0 + 1) < 2; omega
    | ⟨1, _⟩ => show 0 ≤ e.val ∧ (e.val - 0) % (0 + 1) = 0 ∧ (e.val - 0) / (0 + 1) < 8; omega
    | ⟨2, _⟩ => show 0 ≤ o.val ∧ (o.val - 0) % (0 + 1) = 0 ∧ (o.val - 0) / (0 + 1) < 48; omega
    | ⟨3, _⟩ => show 1 ≤ r.val ∧ (r.val - 1) % (0 + 1) = 0 ∧ (r.val - 1) / (0 + 1) < 224; omega
    | ⟨4, _⟩ => show 1 ≤ q.val ∧ (q.val - 1) % (0 + 1) = 0 ∧ (q.val - 1) / (0 + 1) < 224; omega

/-- One tap of the depthwise convolution: the shifted padded array times the tap's weight of each channel. -/
def dtapV (y : FVec Ideal S2x8x48x226x226 .f32) (x6 : FVec Ideal S8x48x1x3x3 .f32) (dy dx : ℕ)
    (hw : S8x48x1x3x3.Slices ![0, 0, 0, dy, dx] S8x48x1x1x1) (hs : S2x8x48x226x226.Slices ![0, 0, 0, dy, dx] S2x8x48x224x224) : FVec Ideal S2x8x48x224x224 .f32 :=
  mulf (broadcastInDim S2x8x48x224x224 ![0, 1, 2, 3, 4] bcast_S1x8x48x1x1_S2x8x48x224x224_0_1_2_3_4
      (broadcastInDim S1x8x48x1x1 ![1, 2] bcast_S8x48_S1x8x48x1x1_1_2
        (shapeCast S8x48 (extractStridedSlice S8x48x1x1x1 ![0, 0, 0, dy, dx] x6 hw) shapeCasts_S8x48x1x1x1_S8x48)))
    (extractStridedSlice S2x8x48x224x224 ![0, 0, 0, dy, dx] y hs)

/-- A depthwise tap at an index. -/
theorem dtapV_at (y : FVec Ideal S2x8x48x226x226 .f32) (x6 : FVec Ideal S8x48x1x3x3 .f32) (hW : Real' (s := S8x48x1x3x3) x6) (f : ℕ → ℕ → ℝ)
    (b : Fin 2) (e : Fin 8) (o : Fin 48)
    (hy : ∀ r q : Fin 226, y (ValueIdx.ix5 (n0 := 2) (n1 := 8) (n2 := 48) (n3 := 226) (n4 := 226) b e o r q) = ((bd f r.val q.val : ℝ) : EReal))
    (h w : Fin 224) (dy dx : Fin 3) (hw : S8x48x1x3x3.Slices ![0, 0, 0, dy.val, dx.val] S8x48x1x1x1) (hs : S2x8x48x226x226.Slices ![0, 0, 0, dy.val, dx.val] S2x8x48x224x224) :
    dtapV y x6 dy.val dx.val hw hs (ValueIdx.ix5 (n0 := 2) (n1 := 8) (n2 := 48) (n3 := 224) (n4 := 224) b e o h w)
      = ((r5 x6 e.val o.val 0 dy.val dx.val * bd f (h.val + dy.val) (w.val + dx.val) : ℝ) : EReal) := by
  unfold dtapV
  rw [EReal.coe_mul]
  refine congrArg₂ (· * ·) ?_ ?_
  · rw [broadcastInDim_apply _ _ _ _ (ValueIdx.ix5 (n0 := 1) (n1 := 8) (n2 := 48) (n3 := 1) (n4 := 1) 0 e o 0 0) (by
        intro a; fin_cases a <;> rfl),
      broadcastInDim_apply _ _ _ _ (ValueIdx.ix2 (n0 := 8) (n1 := 48) e o) (by
        intro a; fin_cases a <;> rfl),
      shapeCast_apply _ _ _ (ValueIdx.ix5 (n0 := 8) (n1 := 48) (n2 := 1) (n3 := 1) (n4 := 1) e o 0 0 0) (by
        rw [Shape.rowMajor_val_two, Shape.rowMajor_val_five]
        show (((e.val * 48 + o.val) * 1 + 0) * 1 + 0) * 1 + 0 = e.val * 48 + o.val
        omega)]
    rw [extractStridedSlice_apply _ _ _ _ (ValueIdx.ix5 (n0 := 8) (n1 := 48) (n2 := 1) (n3 := 3) (n4 := 3) e o ⟨0, Nat.one_pos⟩ dy dx) (by
      intro a
      match a with
      | ⟨0, _⟩ => show e.val = 0 + e.val; omega
      | ⟨1, _⟩ => show o.val = 0 + o.val; omega
      | ⟨2, _⟩ => show 0 = 0 + 0; omega
      | ⟨3, _⟩ => show dy.val = dy.val + 0; omega
      | ⟨4, _⟩ => show dx.val = dx.val + 0; omega)]
    rw [← g5_coe hW]
    unfold g5
    rw [dif_pos ⟨e.isLt, o.isLt, Nat.one_pos, dy.isLt, dx.isLt⟩]
  · have hh := h.isLt
    have hww := w.isLt
    have hdy := dy.isLt
    have hdx := dx.isLt
    rw [extractStridedSlice_apply _ _ _ _ (ValueIdx.ix5 (n0 := 2) (n1 := 8) (n2 := 48) (n3 := 226) (n4 := 226) b e o ⟨h.val + dy.val, by omega⟩ ⟨w.val + dx.val, by omega⟩) (by
      intro a
      match a with
      | ⟨0, _⟩ => show b.val = 0 + b.val; omega
      | ⟨1, _⟩ => show e.val = 0 + e.val; omega
      | ⟨2, _⟩ => show o.val = 0 + o.val; omega
      | ⟨3, _⟩ => show h.val + dy.val = dy.val + h.val; omega
      | ⟨4, _⟩ => show w.val + dx.val = dx.val + w.val; omega)]
    exact hy _ _

end Cert.ReferenceIdeal.Plain

end
-- ==== Proof.Value.RefC.lean ====
module

public import proofs.«01_k».proof.Proof.Value.RefB

@[expose] public section

set_option maxRecDepth 16384

noncomputable section

namespace Cert.ReferenceIdeal.Plain

open Cert.ReferenceIdeal Cert.ReferenceIdeal.Gen Cert.ReferenceIdeal.Read Idealize.ShloMosaic Idealize.ShloMosaic.TcCoe
open Cert.Spec
open Cert.KernelIdeal (g2 g4 g5 gi r2 r4 r5 Real' g2_coe g4_coe g5_coe rS rS_ne sqI sqI_eq)

/-! ## The second half of the channels -/

section
variable (x0 : FVec Ideal S2x96x224x224 .f32) (x3 : FVec Ideal S8x48x96x3x3 .f32) (x4 x5 : FVec Ideal S8x48 .f32) (x6 : FVec Ideal S8x48x1x3x3 .f32)
  (x7 x8 : FVec Ideal S8x48 .f32)

/-- The activation of the second stage is a number times its logistic. -/
theorem v154_silu (i : S2x8x48x224x224.Idx) : val_main_v154 (F := Ideal) x0 x3 x4 x5 x6 x7 x8 i = esilu (val_main_v147 (F := Ideal) x0 x3 x4 x5 x6 x7 x8 i) := by
  rw [val_main_v154_apply, val_main_v153_apply, val_main_v151_apply, val_main_v149_apply, val_main_v148_apply, val_main_v150_apply, val_main_v152_apply]
  generalize val_main_v147 (F := Ideal) x0 x3 x4 x5 x6 x7 x8 i = y
  exact silu_plain y

variable (h0 : Real' (s := S2x96x224x224) x0) (h3 : Real' (s := S8x48x96x3x3) x3) (h4 : Real' (s := S8x48) x4) (h5 : Real' (s := S8x48) x5)
  (h6 : Real' (s := S8x48x1x3x3) x6) (h7 : Real' (s := S8x48) x7)
include h0 h3 h4 h5

/-- The first stage with its border of zeros. -/
theorem v73_at (b : Fin 2) (e : Fin 8) (o : Fin 48) (r q : Fin 226) :
    val_main_v73 (F := Ideal) x0 x3 x4 x5 (ValueIdx.ix5 (n0 := 2) (n1 := 8) (n2 := 48) (n3 := 226) (n4 := 226) b e o r q)
      = ((bd (x1 (r4 x0) (r5 x3) (r2 x4) (r2 x5) rS b.val e.val o.val) r.val q.val : ℝ) : EReal) :=
  pad1_at (val_main_v72 (F := Ideal) x0 x3 x4 x5) _ b e o (fun h w => v72_at x0 x3 x4 x5 h0 h3 h4 h5 b e o h w) r q

include h6

/-- The nine depthwise taps together. -/
theorem v137_at (b : Fin 2) (e : Fin 8) (o : Fin 48) (h w : Fin 224) :
    val_main_v137 (F := Ideal) x0 x3 x4 x5 x6 (ValueIdx.ix5 (n0 := 2) (n1 := 8) (n2 := 48) (n3 := 224) (n4 := 224) b e o h w)
      = ((dw (fun dy dx => r5 x6 e.val o.val 0 dy dx) (x1 (r4 x0) (r5 x3) (r2 x4) (r2 x5) rS b.val e.val o.val) h.val w.val : ℝ) : EReal) := by
  have T := dtapV_at (val_main_v73 (F := Ideal) x0 x3 x4 x5) x6 h6 _ b e o (v73_at x0 x3 x4 x5 h0 h3 h4 h5 b e o) h w
  have t0 := T 0 0 slices_S8x48x1x3x3_S8x48x1x1x1_0_0_0_0_0 slices_S2x8x48x226x226_S2x8x48x224x224_0_0_0_0_0
  have t1 := T 0 1 slices_S8x48x1x3x3_S8x48x1x1x1_0_0_0_0_1 slices_S2x8x48x226x226_S2x8x48x224x224_0_0_0_0_1
  have t2 := T 0 2 slices_S8x48x1x3x3_S8x48x1x1x1_0_0_0_0_2 slices_S2x8x48x226x226_S2x8x48x224x224_0_0_0_0_2
  have t3 := T 1 0 slices_S8x48x1x3x3_S8x48x1x1x1_0_0_0_1_0 slices_S2x8x48x226x226_S2x8x48x224x224_0_0_0_1_0
  have t4 := T 1 1 slices_S8x48x1x3x3_S8x48x1x1x1_0_0_0_1_1 slices_S2x8x48x226x226_S2x8x48x224x224_0_0_0_1_1
  have t5 := T 1 2 slices_S8x48x1x3x3_S8x48x1x1x1_0_0_0_1_2 slices_S2x8x48x226x226_S2x8x48x224x224_0_0_0_1_2
  have t6 := T 2 0 slices_S8x48x1x3x3_S8x48x1x1x1_0_0_0_2_0 slices_S2x8x48x226x226_S2x8x48x224x224_0_0_0_2_0
  have t7 := T 2 1 slices_S8x48x1x3x3_S8x48x1x1x1_0_0_0_2_1 slices_S2x8x48x226x226_S2x8x48x224x224_0_0_0_2_1
  have t8 := T 2 2 slices_S8x48x1x3x3_S8x48x1x1x1_0_0_0_2_2 slices_S2x8x48x226x226_S2x8x48x224x224_0_0_0_2_2
  have e81 : ∀ i, (val_main_v81 (F := Ideal) x0 x3 x4 x5 x6 i : EReal)
      = 0 + dtapV (val_main_v73 (F := Ideal) x0 x3 x4 x5) x6 0 0 slices_S8x48x1x3x3_S8x48x1x1x1_0_0_0_0_0 slices_S2x8x48x226x226_S2x8x48x224x224_0_0_0_0_0 i := fun i => by
    rw [val_main_v81_apply, val_main_v80_apply, val_main_cst_4_apply]
    show (Ideal.ofBits .f32 0x00000000#32 : EReal) + _ = _
    rw [Ideal.ofBits_zero_f32]
    rfl
  have e137 : ∀ i, (val_main_v137 (F := Ideal) x0 x3 x4 x5 x6 i : EReal)
      = val_main_v81 (F := Ideal) x0 x3 x4 x5 x6 i
        + dtapV (val_main_v73 (F := Ideal) x0 x3 x4 x5) x6 0 1 slices_S8x48x1x3x3_S8x48x1x1x1_0_0_0_0_1 slices_S2x8x48x226x226_S2x8x48x224x224_0_0_0_0_1 i
        + dtapV (val_main_v73 (F := Ideal) x0 x3 x4 x5) x6 0 2 slices_S8x48x1x3x3_S8x48x1x1x1_0_0_0_0_2 slices_S2x8x48x226x226_S2x8x48x224x224_0_0_0_0_2 i
        + dtapV (val_main_v73 (F := Ideal) x0 x3 x4 x5) x6 1 0 slices_S8x48x1x3x3_S8x48x1x1x1_0_0_0_1_0 slices_S2x8x48x226x226_S2x8x48x224x224_0_0_0_1_0 i
        + dtapV (val_main_v73 (F := Ideal) x0 x3 x4 x5) x6 1 1 slices_S8x48x1x3x3_S8x48x1x1x1_0_0_0_1_1 slices_S2x8x48x226x226_S2x8x48x224x224_0_0_0_1_1 i
        + dtapV (val_main_v73 (F := Ideal) x0 x3 x4 x5) x6 1 2 slices_S8x48x1x3x3_S8x48x1x1x1_0_0_0_1_2 slices_S2x8x48x226x226_S2x8x48x224x224_0_0_0_1_2 i
        + dtapV (val_main_v73 (F := Ideal) x0 x3 x4 x5) x6 2 0 slices_S8x48x1x3x3_S8x48x1x1x1_0_0_0_2_0 slices_S2x8x48x226x226_S2x8x48x224x224_0_0_0_2_0 i
        + dtapV (val_main_v73 (F := Ideal) x0 x3 x4 x5) x6 2 1 slices_S8x48x1x3x3_S8x48x1x1x1_0_0_0_2_1 slices_S2x8x48x226x226_S2x8x48x224x224_0_0_0_2_1 i
        + dtapV (val_main_v73 (F := Ideal) x0 x3 x4 x5) x6 2 2 slices_S8x48x1x3x3_S8x48x1x1x1_0_0_0_2_2 slices_S2x8x48x226x226_S2x8x48x224x224_0_0_0_2_2 i := fun i => rfl
  rw [e137, e81]
  refine (congrArg₂ (· + ·) (congrArg₂ (· + ·) (congrArg₂ (· + ·) (congrArg₂ (· + ·) (congrArg₂ (· + ·) (congrArg₂ (· + ·) (congrArg₂ (· + ·) (congrArg₂ (· + ·)
    (congrArg (0 + ·) t0) t1) t2) t3) t4) t5) t6) t7) t8).trans ?_
  simp only [zero_add, ← EReal.coe_add]
  unfold dw
  simp only [Fin.sum_univ_three]
  refine congrArg _ ?_
  ring

include h7

/-- The second stage. -/
theorem v154_at (b : Fin 2) (e : Fin 8) (o : Fin 48) (h w : Fin 224) :
    val_main_v154 (F := Ideal) x0 x3 x4 x5 x6 x7 x8 (ValueIdx.ix5 (n0 := 2) (n1 := 8) (n2 := 48) (n3 := 224) (n4 := 224) b e o h w)
      = x2 (r4 x0) (r5 x3) (r2 x4) (r2 x5) (fun e o => r5 x6 e o 0) (r2 x7) (fun e o => g2 (F := Ideal) x8 e o) rS b.val e.val o.val h.val w.val := by
  rw [v154_silu, val_main_v147_apply, val_main_v144_apply, v137_at x0 x3 x4 x5 x6 h0 h3 h4 h5 h6, v143_at x7 h7]
  have hb : val_main_v146 (F := Ideal) x8 (ValueIdx.ix5 (n0 := 2) (n1 := 8) (n2 := 48) (n3 := 224) (n4 := 224) b e o h w) = g2 (F := Ideal) x8 e.val o.val :=
    (spread_at x8 b e o h w).trans (g2_at x8 e o).symm
  rw [hb]
  unfold x2
  refine congrArg esilu ?_
  rw [EReal.coe_mul]
  rfl

/-- What every expert gives at every channel. -/
theorem v155_at (b : Fin 2) (e : Fin 8) (ch : Fin 96) (h w : Fin 224) :
    val_main_v155 (F := Ideal) x0 x3 x4 x5 x6 x7 x8 (ValueIdx.ix5 (n0 := 2) (n1 := 8) (n2 := 96) (n3 := 224) (n4 := 224) b e ch h w)
      = feat (r4 x0) (r5 x3) (r2 x4) (r2 x5) (fun e o => r5 x6 e o 0) (r2 x7) (fun e o => g2 (F := Ideal) x8 e o) rS b.val e.val ch.val h.val w.val := by
  have hch := ch.isLt
  unfold feat val_main_v155
  split_ifs with hc
  · rw [← v72_at x0 x3 x4 x5 h0 h3 h4 h5 b e ⟨ch.val, hc⟩ h w]
    refine concatenate_pair_apply_left (s₁ := S2x8x48x224x224) (s₂ := S2x8x48x224x224) 2 (val_main_v72 (F := Ideal) x0 x3 x4 x5) (val_main_v154 (F := Ideal) x0 x3 x4 x5 x6 x7 x8) concatenates_S2x8x48x224x224_S2x8x48x224x224_S2x8x96x224x224_d2
      (ValueIdx.ix5 (n0 := 2) (n1 := 8) (n2 := 96) (n3 := 224) (n4 := 224) b e ch h w) rfl (ValueIdx.ix5 (n0 := 2) (n1 := 8) (n2 := 48) (n3 := 224) (n4 := 224) b e ⟨ch.val, hc⟩ h w) (fun a => ?_)
    fin_cases a <;> rfl
  · rw [← v154_at x0 x3 x4 x5 x6 x7 x8 h0 h3 h4 h5 h6 h7 b e ⟨ch.val - 48, by omega⟩ h w]
    refine concatenate_pair_apply_right (s₁ := S2x8x48x224x224) (s₂ := S2x8x48x224x224) 2 (val_main_v72 (F := Ideal) x0 x3 x4 x5) (val_main_v154 (F := Ideal) x0 x3 x4 x5 x6 x7 x8) concatenates_S2x8x48x224x224_S2x8x48x224x224_S2x8x96x224x224_d2
      (ValueIdx.ix5 (n0 := 2) (n1 := 8) (n2 := 96) (n3 := 224) (n4 := 224) b e ch h w) rfl rfl (ValueIdx.ix5 (n0 := 2) (n1 := 8) (n2 := 48) (n3 := 224) (n4 := 224) b e ⟨ch.val - 48, by omega⟩ h w) (fun a ha => ?_) ?_
    · fin_cases a
      · rfl
      · rfl
      · exact absurd rfl ha
      · rfl
      · rfl
    · show ch.val - 48 + 48 = ch.val
      omega

end

end Cert.ReferenceIdeal.Plain

end
-- ==== Proof.Value.RefD.lean ====
module

public import proofs.«01_k».proof.Proof.Value.RefC

@[expose] public section

set_option maxRecDepth 16384

noncomputable section

namespace Cert.ReferenceIdeal.Plain

open Cert.ReferenceIdeal Cert.ReferenceIdeal.Gen Cert.ReferenceIdeal.Read Idealize.ShloMosaic Idealize.ShloMosaic.TcCoe
open Cert.Spec
open Cert.KernelIdeal (g2 g4 g5 gi r2 r4 r5 Real' g2_coe g4_coe g5_coe rS rS_ne sqI sqI_eq)

/-! ## The experts chosen and their weighted sum -/

/-- The index words after the wrap of negative ones: a word below eight is itself. -/
theorem word_at (x1 : IVec S2x2 32) (b k : Fin 2) (hi : (x1 (ValueIdx.ix2 (n0 := 2) (n1 := 2) b k)).toNat < 8) :
    val_main_call2_v5 (F := Ideal) x1 (ValueIdx.ix3 (n0 := 2) (n1 := 2) (n2 := 1) b k 0) = x1 (ValueIdx.ix2 (n0 := 2) (n1 := 2) b k) := by
  have h156 : val_main_v156 (F := Ideal) x1 (ValueIdx.ix5 (n0 := 2) (n1 := 2) (n2 := 1) (n3 := 1) (n4 := 1) b k 0 0 0) = x1 (ValueIdx.ix2 (n0 := 2) (n1 := 2) b k) := by
    rw [val_main_v156_apply]
    exact congrArg x1 (funext fun a => by fin_cases a <;> rfl)
  have h5 : val_main_call2_v5 (F := Ideal) x1 (ValueIdx.ix3 (n0 := 2) (n1 := 2) (n2 := 1) b k 0)
      = val_main_call2_v4 (F := Ideal) x1 (ValueIdx.ix5 (n0 := 2) (n1 := 2) (n2 := 1) (n3 := 1) (n4 := 1) b k 0 0 0) := by
    unfold val_main_call2_v5
    exact shapeCast_apply _ _ _ _ (by
      rw [Shape.rowMajor_val_three, Shape.rowMajor_val_five]
      show (((b.val * 2 + k.val) * 1 + 0) * 1 + 0) * 1 + 0 = (b.val * 2 + k.val) * 1 + 0
      omega)
  rw [h5, val_main_call2_v4_apply, val_main_call2_v1_apply, h156, val_main_call2_v0_apply, val_main_call2_c_apply]
  generalize x1 (ValueIdx.ix2 (n0 := 2) (n1 := 2) b k) = y at *
  have hc : IntOp.cmpi .slt y (0#32 : BitVec 32) = 0#1 := by
    have hs : ¬ (y.toInt < 0) := by
      rw [BitVec.toInt_eq_toNat_of_lt (by omega)]
      omega
    unfold IntOp.cmpi
    simp [BitVec.slt, hs]
  rw [hc]
  rfl

/-- The gather at an index: the chosen expert's block of its image. -/
theorem gather_at {α : Type} (y : S2x8x96x224x224.Idx → α) (idx : IVec S2x2x1 32) (b k : Fin 2) (ch : Fin 96) (h w : Fin 224) (e : Fin 8)
    (he : idx (ValueIdx.ix3 (n0 := 2) (n1 := 2) (n2 := 1) b k 0) = BitVec.ofNat 32 e.val) :
    Host.gather gather_S2x8x96x224x224_S2x2x1_S2x2x96x224x224_234_1_0_0_1_2_1196224224 y idx
      (ValueIdx.ix5 (n0 := 2) (n1 := 2) (n2 := 96) (n3 := 224) (n4 := 224) b k ch h w) = y (ValueIdx.ix5 (n0 := 2) (n1 := 8) (n2 := 96) (n3 := 224) (n4 := 224) b e ch h w) := by
  unfold Host.gather
  refine congrArg y (funext fun a => Fin.ext ?_)
  match a with
  | ⟨0, _⟩ => show 0 + b.val + 0 = b.val; omega
  | ⟨1, _⟩ =>
    have hsi : gather_S2x8x96x224x224_S2x2x1_S2x2x96x224x224_234_1_0_0_1_2_1196224224.siIdx
        (ValueIdx.ix5 (n0 := 2) (n1 := 2) (n2 := 96) (n3 := 224) (n4 := 224) b k ch h w) ⟨0, Nat.one_pos⟩ = ValueIdx.ix3 (n0 := 2) (n1 := 2) (n2 := 1) b k 0 := by
      funext a
      fin_cases a <;> rfl
    have hel := e.isLt
    show min (idx (gather_S2x8x96x224x224_S2x2x1_S2x2x96x224x224_234_1_0_0_1_2_1196224224.siIdx
        (ValueIdx.ix5 (n0 := 2) (n1 := 2) (n2 := 96) (n3 := 224) (n4 := 224) b k ch h w) ⟨0, Nat.one_pos⟩)).toInt.toNat (8 - 1) + 0 + 0 = e.val
    have hen : (BitVec.ofNat 32 e.val).toNat = e.val := by
      rw [BitVec.toNat_ofNat]
      omega
    rw [hsi, he, BitVec.toInt_eq_toNat_of_lt (by omega), hen]
    show min ((e.val : Int)).toNat 7 + 0 + 0 = e.val
    omega
  | ⟨2, _⟩ => show 0 + 0 + ch.val = ch.val; omega
  | ⟨3, _⟩ => show 0 + 0 + h.val = h.val; omega
  | ⟨4, _⟩ => show 0 + 0 + w.val = w.val; omega

section
variable (x0 : FVec Ideal S2x96x224x224 .f32) (x1 : IVec S2x2 32) (x2 : FVec Ideal S2x2 .f32) (x3 : FVec Ideal S8x48x96x3x3 .f32) (x4 x5 : FVec Ideal S8x48 .f32)
  (x6 : FVec Ideal S8x48x1x3x3 .f32) (x7 x8 : FVec Ideal S8x48 .f32)
  (h0 : Real' (s := S2x96x224x224) x0) (h1 : ∀ i, (x1 i).toNat < 8) (h3 : Real' (s := S8x48x96x3x3) x3) (h4 : Real' (s := S8x48) x4) (h5 : Real' (s := S8x48) x5)
  (h6 : Real' (s := S8x48x1x3x3) x6) (h7 : Real' (s := S8x48) x7)
include h0 h1 h3 h4 h5 h6 h7

/-- One chosen expert's contribution: its weight times what it gives. -/
theorem v160_at (b k : Fin 2) (ch : Fin 96) (h w : Fin 224) :
    (val_main_v160 (F := Ideal) x0 x1 x2 x3 x4 x5 x6 x7 x8 (ValueIdx.ix5 (n0 := 2) (n1 := 2) (n2 := 96) (n3 := 224) (n4 := 224) b k ch h w) : EReal)
      = (Cert.KernelIdeal.g2 (F := Ideal) x2 b.val k.val : EReal)
        * feat (r4 x0) (r5 x3) (r2 x4) (r2 x5) (fun e o => r5 x6 e o 0) (r2 x7) (fun e o => g2 (F := Ideal) x8 e o) rS b.val (gi x1 b.val k.val) ch.val h.val w.val := by
  rw [val_main_v160_apply, val_main_v159_apply, val_main_v158_apply]
  have hg : gi x1 b.val k.val = (x1 (ValueIdx.ix2 (n0 := 2) (n1 := 2) b k)).toNat := by
    unfold gi; rw [dif_pos ⟨b.isLt, k.isLt⟩]
  have hi := h1 (ValueIdx.ix2 (n0 := 2) (n1 := 2) b k)
  have hgat := gather_at (val_main_v155 (F := Ideal) x0 x3 x4 x5 x6 x7 x8) (val_main_call2_v5 (F := Ideal) x1) b k ch h w
    ⟨gi x1 b.val k.val, by rw [hg]; exact hi⟩ (by
      rw [word_at x1 b k hi]
      show _ = BitVec.ofNat 32 (gi x1 b.val k.val)
      rw [hg, BitVec.ofNat_toNat, BitVec.setWidth_eq])
  refine congrArg₂ (· * ·) ?_ (hgat.trans (v155_at x0 x3 x4 x5 x6 x7 x8 h0 h3 h4 h5 h6 h7 b _ ch h w))
  unfold g2
  rw [dif_pos ⟨b.isLt, k.isLt⟩]
  exact congrArg x2 (funext fun a => by fin_cases a <;> rfl)

/-- The reference's result, element by element. -/
theorem v161_at (i : S2x96x224x224.Idx) :
    (val_main_v161 (F := Ideal) x0 x1 x2 x3 x4 x5 x6 x7 x8 i : EReal)
      = Cert.KernelIdeal.result x0 x1 x2 x3 x4 x5 x6 x7 x8 (i 0).val (i 1).val (i 2).val (i 3).val := by
  rw [val_main_v161_apply, val_main_cst_8_apply]
  have hz : (FloatOps.ofBits (F := Ideal) .f32 0x00000000#32 : EReal) = 0 := Ideal.ofBits_zero_f32
  rw [hz, zero_add, Fin.sum_univ_two]
  have hk : ∀ k : Fin 2, idx_main_v161 i k = ValueIdx.ix5 (n0 := 2) (n1 := 2) (n2 := 96) (n3 := 224) (n4 := 224) (i 0) k (i 1) (i 2) (i 3) := fun k =>
    funext fun a => by fin_cases a <;> rfl
  rw [hk, hk]
  exact congrArg₂ (· + ·) (v160_at x0 x1 x2 x3 x4 x5 x6 x7 x8 h0 h1 h3 h4 h5 h6 h7 (i 0) 0 (i 1) (i 2) (i 3))
    (v160_at x0 x1 x2 x3 x4 x5 x6 x7 x8 h0 h1 h3 h4 h5 h6 h7 (i 0) 1 (i 1) (i 2) (i 3))

/-- The reference's result array, from arguments equal to the ones named. -/
theorem v161_eq_result {y0 : FVec Ideal S2x96x224x224 .f32} {y1 : IVec S2x2 32} {y2 : FVec Ideal S2x2 .f32} {y3 : FVec Ideal S8x48x96x3x3 .f32}
    {y4 y5 : FVec Ideal S8x48 .f32} {y6 : FVec Ideal S8x48x1x3x3 .f32} {y7 y8 : FVec Ideal S8x48 .f32}
    (e0 : y0 = x0) (e1 : y1 = x1) (e2 : y2 = x2) (e3 : y3 = x3) (e4 : y4 = x4) (e5 : y5 = x5) (e6 : y6 = x6) (e7 : y7 = x7) (e8 : y8 = x8) :
    (val_main_v161 (F := Ideal) y0 y1 y2 y3 y4 y5 y6 y7 y8 : S2x96x224x224.Idx → EReal)
      = fun i => Cert.KernelIdeal.result x0 x1 x2 x3 x4 x5 x6 x7 x8 (i 0).val (i 1).val (i 2).val (i 3).val := by
  subst e0 e1 e2 e3 e4 e5 e6 e7 e8
  exact funext fun i => v161_at _ _ _ _ _ _ _ _ _ h0 h1 h3 h4 h5 h6 h7 i

end

end Cert.ReferenceIdeal.Plain

end
-- ==== Proof.Value.Equal.lean ====
/- The value claim: the convolution kernel and the reference end with equal results at the extended reals. -/
module

public import proofs.«01_k».proof.Defs
public import proofs.«01_k».proof.Proof.Gen.Pre_finite
public import proofs.«01_k».proof.Proof.Value.PreFinite
public import proofs.«01_k».proof.Proof.Value.KernF
public import proofs.«01_k».proof.Proof.Value.RefD
public import proofs.«01_k».proof.Proof.Value.Ref

@[expose] public section

noncomputable section

namespace Cert.Proof

open Idealize.ShloMosaic Idealize.SL.Sem

attribute [local instance] Cert.KernelIdeal.Gen.facts Cert.ReferenceIdeal.Gen.facts Cert.Pre_finite.Gen.facts

section
variable {m : (ℓ : Loc Cert.KernelIdeal.nD Cert.KernelIdeal.τ Cert.KernelIdeal.sig) → Buf (Elt Ideal) ℓ} (h : Cert.Pre_KernelIdeal_finite m)
include h

/-- Under `finite` the words the kernel reads are below 8. -/
theorem words_finite (c : Dev Cert.KernelIdeal.nD) (y : Cert.KernelIdeal.S2x2.Idx) :
    (m ((c.tc : Thread Cert.KernelIdeal.nD Cert.KernelIdeal.τ).loc Cert.KernelIdeal.main_arg1) y : BitVec 32).toNat < 8 :=
  (Cert.Pre.finite_split (h c)).1 y

/-- Under `finite` the words the kernel reads are below 8 when it starts. -/
theorem inRange_finite : Cert.KernelIdeal.InRange m := fun c y => by
  rw [Cert.KernelIdeal.Gen.V_main_arg1]; exact words_finite h c y

/-- Under `finite` the arrays it names hold real numbers. -/
theorem finite_real : Cert.KernelIdeal.Finite m where
  x := fun c i => Cert.Pre.real_of_lt _ ((Cert.Pre.finite_split (h c)).2.1 i)
  Wp := fun c i => Cert.Pre.real_of_lt _ ((Cert.Pre.finite_split (h c)).2.2.1 i)
  gp := fun c i => Cert.Pre.real_of_lt _ ((Cert.Pre.finite_split (h c)).2.2.2.1 i)
  bp := fun c i => Cert.Pre.real_of_lt _ ((Cert.Pre.finite_split (h c)).2.2.2.2.1 i)
  Wc := fun c i => Cert.Pre.real_of_lt _ ((Cert.Pre.finite_split (h c)).2.2.2.2.2.1 i)
  gc := fun c i => Cert.Pre.real_of_lt _ ((Cert.Pre.finite_split (h c)).2.2.2.2.2.2 i)

end

/-- The frame of the convolution kernel at the extended reals under `finite`. -/
theorem frame_ideal_finite : Cert.quiescent_KernelIdeal_pre_finite := fun m g h =>
  Cert.KernelIdeal.frame_main m g (inRange_finite h)

/-- The reference's frame under `finite`. -/
theorem frame_reference_finite : Cert.quiescent_ReferenceIdeal_pre_finite := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The kernel and the reference, started with the same arguments, end with the same result. -/
theorem equal_results : Cert.algebraic_KernelIdeal_ReferenceIdeal_pre_finite := fun m g m' g' h hag =>
  ⟨fun c => Cert.KernelIdeal.resArr m c, Cert.KernelIdeal.run_value m g (inRange_finite h) (finite_real h),
    (θ_run Cert.ReferenceIdeal.defs _ _).mono (fun r hr c => by
        refine ⟨((hr c).1.trans (Cert.ReferenceIdeal.Read.val_main_v161_eq (StableHlo.launchContents m' c))).trans ?_, (hr c).2⟩
        obtain ⟨a0, a1, a2, a3, a4, a5, a6, a7, a8⟩ := hag c
        have hF := finite_real h
        exact Cert.ReferenceIdeal.Plain.v161_eq_result _ _ _ _ _ _ _ _ _ (hF.x c) (words_finite h c) (hF.Wp c) (hF.gp c) (hF.bp c) (hF.Wc c) (hF.gc c)
          a0 a1 a2 a3 a4 a5 a6 a7 a8)
      (Cert.ReferenceIdeal.Value.run (F := Ideal) m' g')⟩

end Cert.Proof

end
-- ==== Proof.Value.RoutPre.lean ====
/- What the predicate of the routing call's value claim says of the argument arrays, element by element. -/
module

public import proofs.«01_k».proof.Proof.Value.PreFinite
public import proofs.«01_k».proof.Pre_weights_finite

@[expose] public section

noncomputable section

namespace Cert.Pre

open Idealize.ShloMosaic

instance : Subsingleton Cert.Pre_weights_finite.S_.Idx := ⟨fun a b => funext fun k => k.elim0⟩

/-- The elements of an array compare below the format's infinity in magnitude. -/
def Below {F : FTy → Type} [FloatOps F] {s : Shape} (x : FVec F s .f32) : Prop :=
  ∀ y, FloatOps.cmpf .olt (FloatOps.hostAbsf (x y)) (FloatOps.ofBits (F := F) .f32 0x7F800000#32) = 1#1

/-- The seven conjuncts of `weights_finite`, one for each array. -/
theorem weights_split [Cert.Pre_weights_finite.Facts] {F : FTy → Type} [FloatOps F] {a0 a1 a2 a3 a4 a5 a6}
    (e : Cert.Pre_weights_finite.fn (F := F) a0 a1 a2 a3 a4 a5 a6 = fun _ => 1#1) :
    Below a0 ∧ Below a1 ∧ Below a2 ∧ Below a3 ∧ Below a4 ∧ Below a5 ∧ Below a6 := by
  have h := congrFun e (fun k => k.elim0)
  unfold Cert.Pre_weights_finite.fn Cert.Pre_weights_finite.fn_part1 at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun y => Host.reduce_andi_all _ _ _ _ _ h0 y, fun y => Host.reduce_andi_all _ _ _ _ _ h1 y,
    fun y => Host.reduce_andi_all _ _ _ _ _ h2 y, fun y => Host.reduce_andi_all _ _ _ _ _ h3 y,
    fun y => Host.reduce_andi_all _ _ _ _ _ h4 y, fun y => Host.reduce_andi_all _ _ _ _ _ h5 y,
    fun y => Host.reduce_andi_all _ _ _ _ _ h6 y⟩

end Cert.Pre

end
-- ==== Proof.Value.RoutTop.lean ====
/- The two greatest of eight numbers, the earlier of two equal ones first: found by sorting, and found by taking the
   greatest, masking it and taking the greatest again. -/
module

public import Idealize.ShloMosaic.Lib.SortPrefix
public import Idealize.ShloMosaic.Lib.SortNet.Extract
public import Idealize.ShloMosaic.Lib.Pipeline.Value
public import Idealize.ShloMosaic.PureOps.Ideal
public import Idealize.ShloMosaic.PureOps.Ideal.Laws

@[expose] public section

noncomputable section

namespace Cert.Rout

open Idealize.ShloMosaic

/-- `a` is the earliest position of the greatest of `p`, and `b` the earliest of the greatest of the others. -/
structure Two (p : Fin 8 → EReal) (a b : Fin 8) : Prop where
  top : ∀ k, p k ≤ p a
  first : ∀ k, k < a → p k < p a
  ne : b ≠ a
  next : ∀ k, k ≠ a → p k ≤ p b
  nextFirst : ∀ k, k ≠ a → k < b → p k < p b

/-- A nonempty set of positions holds an earliest greatest one. -/
theorem exists_earliest (p : Fin 8 → EReal) (s : Finset (Fin 8)) (hs : s.Nonempty) :
    ∃ a ∈ s, (∀ k ∈ s, p k ≤ p a) ∧ ∀ k ∈ s, k < a → p k < p a := by
  obtain ⟨c, hc, hm⟩ := Finset.exists_max_image s p hs
  obtain ⟨a, ha, hl⟩ := Finset.exists_min_image (s.filter fun k => p k = p c) id ⟨c, by simp [hc]⟩
  obtain ⟨ha, e⟩ := Finset.mem_filter.1 ha
  refine ⟨a, ha, fun k hk => e ▸ hm k hk, fun k hk hlt => ?_⟩
  rcases lt_or_eq_of_le (e ▸ hm k hk : p k ≤ p a) with h | h
  · exact h
  · exact absurd (hl k (Finset.mem_filter.2 ⟨hk, h.trans e⟩)) (not_le.2 hlt)

/-- Any eight numbers have such a pair of positions. -/
theorem exists_two (p : Fin 8 → EReal) : ∃ a b, Two p a b := by
  obtain ⟨a, -, h1, h2⟩ := exists_earliest p Finset.univ Finset.univ_nonempty
  obtain ⟨b, hb, h3, h4⟩ := exists_earliest p (Finset.univ.erase a) (by
    rw [← Finset.card_pos, Finset.card_erase_of_mem (Finset.mem_univ a)]; decide)
  exact ⟨a, b, fun k => h1 k (Finset.mem_univ k), fun k => h2 k (Finset.mem_univ k), (Finset.mem_erase.1 hb).1,
    fun k hk => h3 k (Finset.mem_erase.2 ⟨hk, Finset.mem_univ k⟩),
    fun k hk => h4 k (Finset.mem_erase.2 ⟨hk, Finset.mem_univ k⟩)⟩

/-! ## By sorting -/

/-- Inserting under two relations that agree against the inserted element is the same. -/
theorem insertBefore_agree {ι : Type} (B B' : ι → ι → Bool) (a : ι) (l : List ι) (h : ∀ b ∈ l, B b a = B' b a) :
    insertBefore B a l = insertBefore B' a l := by
  induction l with
  | nil => rfl
  | cons b l ih =>
    unfold insertBefore
    rw [h b List.mem_cons_self, ih fun c hc => h c (List.mem_cons_of_mem _ hc)]

/-- A stable sort only asks whether a later element goes before an earlier one. -/
theorem stableSort_agree {ι : Type} (B B' : ι → ι → Bool) (l : List ι) (h : l.Pairwise fun a b => B b a = B' b a) :
    stableSort B l = stableSort B' l := by
  induction l with
  | nil => rfl
  | cons a l ih =>
    unfold stableSort
    rw [List.pairwise_cons] at h
    rw [ih h.2]
    exact insertBefore_agree B B' a _ fun b hb => h.1 b ((perm_stableSort B' l).mem_iff.1 hb)

/-- The greater first. -/
def before (p : Fin 8 → EReal) (k k' : Fin 8) : Bool :=
  FloatOps.cmpfTotal (F := Ideal) (φ := .f32) .gt (p k) (p k') == 1#1

theorem before_eq (p : Fin 8 → EReal) (k k' : Fin 8) : before p k k' = decide (p k' < p k) := by
  unfold before
  show (BitVec.ofBool (decide (p k' < p k)) == 1#1) = _
  cases decide (p k' < p k) <;> rfl

/-- The first two positions of the stable sort, the greater first. -/
theorem sorted_two {p : Fin 8 → EReal} {a b : Fin 8} (h : Two p a b) :
    sortedFrom (before p) 0 = a ∧ sortedFrom (before p) 1 = b := by
  have hB := StrictTotalBefore.of_key_then_position (fun x y : EReal => decide (y < x)) p (fun x => by simp)
    (fun x y z hxy hyz => by simp only [decide_eq_true_eq] at *; exact hyz.trans hxy)
    (fun x y => by simp only [decide_eq_true_eq]; rcases lt_trichotomy x y with h | h | h <;> tauto)
  have hs : sortedFrom (before p) = sortedFrom fun k k' => decide (p k' < p k) || (decide (p k = p k') && decide (k < k')) := by
    have : stableSort (before p) (List.finRange 8)
        = stableSort (fun k k' => decide (p k' < p k) || (decide (p k = p k') && decide (k < k'))) (List.finRange 8) :=
      stableSort_agree _ _ _ ((List.pairwise_lt_finRange 8).imp fun {k k'} hlt => by
        have : ¬ k' < k := not_lt.2 hlt.le
        simp [before_eq, this])
    funext k
    unfold sortedFrom sortPositions
    simp only [List.get_eq_getElem, this]
    rfl
  have key := hB.sortedFrom_eq_of_prefix (k := 2) (by decide) ![a, b] (by
      intro i j hij
      fin_cases i <;> fin_cases j <;> first | rfl | exact absurd hij h.ne.symm | exact absurd hij h.ne)
    (by
      intro i j hij
      fin_cases i <;> fin_cases j <;> first | exact absurd hij (by decide) | skip
      show (decide (p a < p b) || (decide (p b = p a) && decide (b < a))) = false
      have h1 : ¬ p a < p b := not_lt.2 (h.top b)
      have h2 : ¬ (p b = p a ∧ b < a) := fun hh => absurd (h.first b hh.2) (by rw [hh.1]; exact lt_irrefl _)
      by_cases e : p b = p a
      · have : ¬ b < a := fun hh => h2 ⟨e, hh⟩
        simp [h1, this]
      · simp [h1, e])
    (by
      intro i k hk
      have ha : k ≠ a := fun e => hk 0 e.symm
      have hb : k ≠ b := fun e => hk 1 e.symm
      have main : ∀ c, p k ≤ p c → (k < c → p k < p c) →
          (decide (p c < p k) || (decide (p k = p c) && decide (k < c))) = false := by
        intro c h1 h2
        have h3 : ¬ p c < p k := not_lt.2 h1
        by_cases e : p k = p c
        · have : ¬ k < c := fun hh => absurd (h2 hh) (by rw [e]; exact lt_irrefl _)
          simp [h3, this]
        · simp [h3, e]
      fin_cases i
      · exact main a (h.top k) (h.first k)
      · exact main b (h.next k ha) (h.nextFirst k ha))
  rw [hs]
  exact ⟨key 0, key 1⟩

/-! ## By masking -/

/-- The least position with a property, by a signed minimum over words that are 8 where it fails. -/
theorem min_word (P : Fin 8 → Prop) [DecidablePred P] (a : Fin 8) (ha : P a) (hl : ∀ k, k < a → ¬ P k) :
    Finset.univ.fold IntOp.minsi 2147483647#32 (fun k : Fin 8 => if P k then BitVec.ofNat 32 k.val else 8#32)
      = BitVec.ofNat 32 a.val := by
  have hw : ∀ k : Fin 8, (BitVec.ofNat 32 k.val).toInt = k.val := by decide
  apply BitVec.eq_of_toInt_eq
  rw [← Finset.fold_hom (op' := min) (m := BitVec.toInt) (fun x y => SortNet.toInt_minsi x y), hw]
  apply le_antisymm
  · rw [Finset.fold_min_le]
    exact Or.inr ⟨a, Finset.mem_univ a, by simp only [if_pos ha, hw]; exact le_refl _⟩
  · rw [Finset.le_fold_min]
    have := a.isLt
    refine ⟨by rw [show (2147483647#32 : BitVec 32).toInt = 2147483647 from by decide]; omega, fun k _ => ?_⟩
    by_cases hk : P k
    · simp only [if_pos hk, hw]
      have : ¬ k < a := fun h => hl k h hk
      have := not_lt.1 this
      exact_mod_cast this
    · simp only [if_neg hk, show (8#32 : BitVec 32).toInt = 8 from by decide]; omega

/-- The greatest of `q`, by a maximum from the bottom. -/
theorem max_fold (q : Fin 8 → EReal) (a : Fin 8) (ha : ∀ k, q k ≤ q a) : Finset.univ.fold max ⊥ q = q a := by
  apply le_antisymm
  · rw [Finset.fold_max_le]; exact ⟨bot_le, fun k _ => ha k⟩
  · rw [Finset.le_fold_max]; exact Or.inr ⟨a, Finset.mem_univ a, le_refl _⟩

/-- `p` with `-1` in place of its entry at `a`. -/
def masked (p : Fin 8 → EReal) (a k : Fin 8) : EReal := if k = a then -1 else p k

variable {p : Fin 8 → EReal} {a b : Fin 8} (h : Two p a b)
include h

theorem max_first : Finset.univ.fold max ⊥ p = p a := max_fold p a h.top

theorem min_first : Finset.univ.fold IntOp.minsi 2147483647#32 (fun k : Fin 8 => if p k = p a then BitVec.ofNat 32 k.val else 8#32)
    = BitVec.ofNat 32 a.val :=
  min_word (fun k => p k = p a) a rfl fun k hk => (h.first k hk).ne

theorem masked_b : masked p a b = p b := if_neg h.ne

theorem max_second (hp : ∀ k, -1 < p k) : Finset.univ.fold max ⊥ (masked p a) = p b := by
  rw [max_fold (masked p a) b, masked_b h]
  intro k
  rw [masked_b h]
  unfold masked
  split
  · exact (hp b).le
  · exact h.next k ‹_›

theorem min_second (hp : ∀ k, -1 < p k) :
    Finset.univ.fold IntOp.minsi 2147483647#32 (fun k : Fin 8 => if masked p a k = p b then BitVec.ofNat 32 k.val else 8#32)
      = BitVec.ofNat 32 b.val := by
  refine min_word (fun k => masked p a k = p b) b (masked_b h) fun k hk => ?_
  unfold masked
  split
  · exact (hp b).ne
  · exact (h.nextFirst k ‹_› hk).ne

end Cert.Rout

end
-- ==== Proof.Value.RoutSpec.lean ====
/- What the routing call computes, over the extended reals: the mean over the pixels, two linear layers with a
   normalisation each, a softmax over the eight experts. -/
module

public import proofs.«01_k».proof.Proof.Value.Result
public import proofs.«01_k».proof.Proof.Value.RoutTop
public import Idealize.ShloMosaic.Lib.ValueIdx

@[expose] public section

set_option maxRecDepth 16384

noncomputable section

namespace Cert.Rout

open Idealize.ShloMosaic
open Cert.KernelIdeal (rS rS_ne sqI sqI_eq)
open Cert.Spec (esilu silu silu_coe)

/-- The sum over the pixels of an image's channel. -/
def pix {n2 n3 : ℕ} (x : (⟨4, ![2, 96, n2, n3]⟩ : Shape).Idx → EReal) (b : Fin 2) (c : Fin 96) : EReal :=
  ∑ h : Fin n2, ∑ w : Fin n3, x (ValueIdx.ix4 (n0 := 2) (n1 := 96) b c h w)

/-- The mean over the pixels of an image's channel. -/
def pool (x : (⟨4, ![2, 96, 224, 224]⟩ : Shape).Idx → EReal) (b : Fin 2) (c : Fin 96) : EReal :=
  pix x b c * ((1 / 50176 : ℝ) : EReal)

section
variable (pl : Fin 96 → EReal) (W1 : Fin 12 → Fin 96 → EReal) (g1 b1 : Fin 12 → EReal) (W2 : Fin 8 → Fin 12 → EReal) (g2 b2 : Fin 8 → EReal)

/-- The first linear layer and its normalisation. -/
def hid (j : Fin 12) : EReal := (∑ c : Fin 96, pl c * W1 j c) * Ideal.div (g1 j) sqI + b1 j

/-- The second linear layer and its normalisation: one number for each expert. -/
def lgt (e : Fin 8) : EReal := (∑ j : Fin 12, esilu (hid pl W1 g1 b1 j) * W2 e j) * Ideal.div (g2 e) sqI + b2 e
end

/-- The softmax of eight numbers. -/
def sm (l : Fin 8 → EReal) (e : Fin 8) : EReal :=
  Ideal.div (Ideal.exp (l e - Finset.univ.fold max ⊥ l)) (∑ k : Fin 8, Ideal.exp (l k - Finset.univ.fold max ⊥ l))

/-- Scaling by the reciprocal of the divisor is dividing by it. -/
theorem scale_div (g : EReal) : g * Ideal.div (Ideal.ofBits .f32 0x3F800000#32) sqI = Ideal.div g sqI := by
  rw [sqI_eq, Ideal.div_coe rS_ne, Ideal.div_coe rS_ne, Ideal.ofBits_one_f32, one_mul]

/-- A real number among the extended reals. -/
def IsR (x : EReal) : Prop := ∃ r : ℝ, x = (r : EReal)

theorem IsR.add {x y : EReal} : IsR x → IsR y → IsR (x + y) := fun ⟨a, ha⟩ ⟨b, hb⟩ => ⟨a + b, by rw [ha, hb, EReal.coe_add]⟩
theorem IsR.mul {x y : EReal} : IsR x → IsR y → IsR (x * y) := fun ⟨a, ha⟩ ⟨b, hb⟩ => ⟨a * b, by rw [ha, hb, EReal.coe_mul]⟩
theorem IsR.sum {ι : Type} {s : Finset ι} {f : ι → EReal} (h : ∀ i, IsR (f i)) : IsR (∑ i ∈ s, f i) :=
  Finset.sum_induction f IsR (fun _ _ => IsR.add) ⟨0, rfl⟩ fun i _ => h i
theorem IsR.silu {x : EReal} : IsR x → IsR (esilu x) := fun ⟨a, ha⟩ => ⟨_, by rw [ha, silu_coe]⟩
theorem IsR.scale {x : EReal} : IsR x → IsR (Ideal.div x sqI) := fun ⟨a, ha⟩ => ⟨a * (1 / rS), by
  rw [sqI_eq, Ideal.div_coe rS_ne, ha, EReal.coe_mul]⟩

/-- Of real arguments the second layer's numbers are real. -/
theorem lgt_real {pl : Fin 96 → EReal} {W1 : Fin 12 → Fin 96 → EReal} {g1 b1 : Fin 12 → EReal} {W2 : Fin 8 → Fin 12 → EReal}
    {g2 b2 : Fin 8 → EReal} (hp : ∀ c, IsR (pl c)) (hW1 : ∀ j c, IsR (W1 j c)) (hg1 : ∀ j, IsR (g1 j)) (hb1 : ∀ j, IsR (b1 j))
    (hW2 : ∀ e j, IsR (W2 e j)) (hg2 : ∀ e, IsR (g2 e)) (hb2 : ∀ e, IsR (b2 e)) (e : Fin 8) : IsR (lgt pl W1 g1 b1 W2 g2 b2 e) :=
  ((IsR.sum fun j => (((IsR.sum fun c => (hp c).mul (hW1 j c)).mul (hg1 j).scale).add (hb1 j)).silu.mul (hW2 e j)).mul (hg2 e).scale).add (hb2 e)

/-- The softmax of real numbers is above minus one. -/
theorem sm_gt {l : Fin 8 → EReal} (hl : ∀ e, IsR (l e)) (e : Fin 8) : -1 < sm l e := by
  obtain ⟨a, b, h⟩ := exists_two l
  unfold sm
  rw [max_first h]
  choose r hr using hl
  have hx : ∀ k, Ideal.exp (l k - l a) = ((Real.exp (r k - r a) : ℝ) : EReal) := fun k => by
    rw [hr k, hr a, ← EReal.coe_sub, Ideal.exp_coe]
  simp only [hx]
  have hs : (∑ k : Fin 8, ((Real.exp (r k - r a) : ℝ) : EReal)) = ((∑ k : Fin 8, Real.exp (r k - r a) : ℝ) : EReal) := by
    simp only [Fin.sum_univ_eight, EReal.coe_add]
  have hpos : 0 < ∑ k : Fin 8, Real.exp (r k - r a) := Finset.sum_pos (fun k _ => Real.exp_pos _) ⟨0, Finset.mem_univ _⟩
  rw [hs, Ideal.div_coe hpos.ne', ← EReal.coe_mul]
  have h0 : (0 : ℝ) ≤ Real.exp (r e - r a) * (1 / ∑ k : Fin 8, Real.exp (r k - r a)) := by positivity
  refine lt_of_lt_of_le ?_ (EReal.coe_le_coe_iff.2 h0)
  show (-1 : EReal) < ((0 : ℝ) : EReal)
  have : ((-1 : ℝ) : EReal) < ((0 : ℝ) : EReal) := EReal.coe_lt_coe_iff.2 (by norm_num)
  simpa using this

/-- The sum over the indices that keep image and channel is the sum over the pixels. -/
theorem sum_drop {n2 n3 : ℕ} (x : (⟨4, ![2, 96, n2, n3]⟩ : Shape).Idx → EReal)
    (D : (⟨4, ![2, 96, n2, n3]⟩ : Shape).Idx → (⟨2, ![2, 96]⟩ : Shape).Idx)
    (hD : ∀ i, (D i 0).val = (i 0).val ∧ (D i 1).val = (i 1).val) (b : Fin 2) (c : Fin 96) :
    ∑ i ∈ Finset.univ.filter (fun i => D i = ValueIdx.ix2 (n0 := 2) (n1 := 96) b c), x i = pix x b c := by
  unfold pix
  rw [← Finset.sum_product']
  symm
  refine Finset.sum_nbij (fun q : Fin n2 × Fin n3 => ValueIdx.ix4 (n0 := 2) (n1 := 96) b c q.1 q.2) ?_ ?_ ?_ ?_
  · rintro ⟨h, w⟩ -
    rw [Finset.mem_filter]
    refine ⟨Finset.mem_univ _, funext fun a => Fin.ext ?_⟩
    match a with
    | ⟨0, _⟩ => exact (hD _).1
    | ⟨1, _⟩ => exact (hD _).2
  · rintro ⟨h, w⟩ - ⟨h', w'⟩ - e
    have e2 := congrFun e 2
    have e3 := congrFun e 3
    exact Prod.ext e2 e3
  · intro i hi
    have hi := (Finset.mem_filter.1 (Finset.mem_coe.1 hi)).2
    refine ⟨(i 2, i 3), Finset.mem_coe.2 (Finset.mem_univ _), ?_⟩
    refine funext fun a => Fin.ext ?_
    have k0 := (hD i).1
    have k1 := (hD i).2
    rw [hi] at k0 k1
    match a with
    | ⟨0, _⟩ => exact k0
    | ⟨1, _⟩ => exact k1
    | ⟨2, _⟩ => rfl
    | ⟨3, _⟩ => rfl
  · intro q _
    rfl

end Cert.Rout
-- ==== Proof.Value.RoutKern.lean ====
/- The routing kernel's operations at an index: the softmax from the accumulated sums, and the choice of the two greatest. -/
module

public import proofs.«01_k».proof.Proof.Value.RoutSpec
public import proofs.«01_k».proof.Proof.Gen.RoutingIdeal.Value
public import Idealize.ShloMosaic.PureOps.Reduce
public import Idealize.ShloMosaic.PureOps.IdealRules
public import Idealize.ShloMosaic.Lib.Pointwise.Contract

@[expose] public section

set_option maxRecDepth 16384

noncomputable section

namespace Cert.Rout.Kern

open Cert.RoutingIdeal Cert.RoutingIdeal.Gen Idealize.ShloMosaic Idealize.ShloMosaic.TcCoe
open Cert.KernelIdeal (rS rS_ne sqI sqI_eq)
open Cert.Spec (esilu)
open Cert.Rout

/-! ## Rows of a table -/

/-- The greatest of a table's row. -/
theorem rowmax (y : FVec Ideal S2x8 .f32) (b : Fin 2) :
    multiReduction .maximumf [1] S2 y 0xFF800000#32 reduces_S2x8_S2 (.inl rfl) rfl (ValueIdx.ix1 (n := 2) b)
      = Finset.univ.fold max ⊥ (fun k : Fin 8 => y (ValueIdx.ix2 (n0 := 2) (n1 := 8) b k)) := by
  have hbot : (FloatOps.ofBits (F := Ideal) .f32 0xFF800000#32 : EReal) = ⊥ := by
    show Ideal.ofBits .f32 0xFF800000#32 = ⊥
    simp [Ideal.ofBits, Ideal.ieee]
  refine (Ideal.multiReduction_maximumf_single y 0xFF800000#32 reduces_S2x8_S2 (.inl rfl) rfl (ValueIdx.ix1 (n := 2) b)).trans ?_
  rw [hbot]
  exact congrArg (Finset.univ.fold max ⊥) (funext fun k => congrArg y (funext fun a => by fin_cases a <;> rfl))

/-- The sum of a table's row. -/
theorem rowsum (y : FVec Ideal S2x8 .f32) (b : Fin 2) :
    multiReduction .add [1] S2 y 0x00000000#32 reduces_S2x8_S2 (.inl rfl) rfl (ValueIdx.ix1 (n := 2) b)
      = ∑ k : Fin 8, y (ValueIdx.ix2 (n0 := 2) (n1 := 8) b k) :=
  (Ideal.multiReduction_add_single y 0x00000000#32 reduces_S2x8_S2 (.inl rfl) rfl (ValueIdx.ix1 (n := 2) b)).trans
    (Finset.sum_congr rfl fun k _ => congrArg y (funext fun a => by fin_cases a <;> rfl))

/-- The least word of a table's row. -/
theorem rowmin (y : IVec S2x8 32) (b : Fin 2) :
    multiReductionI .minsi [1] S2 y 2147483647#32 reduces_S2x8_S2 rfl (ValueIdx.ix1 (n := 2) b)
      = Finset.univ.fold IntOp.minsi 2147483647#32 (fun k : Fin 8 => y (ValueIdx.ix2 (n0 := 2) (n1 := 8) b k)) := by
  refine (multiReductionI_eq_fold .minsi y 2147483647#32 reduces_S2x8_S2 rfl (ValueIdx.ix1 (n := 2) b)).trans ?_
  refine (reduces_S2x8_S2.fold_filter_drop_single IntOp.minsi 2147483647#32 y (ValueIdx.ix1 (n := 2) b)).trans ?_
  exact congrArg (Finset.univ.fold IntOp.minsi 2147483647#32) (funext fun k => congrArg y (funext fun a => by fin_cases a <;> rfl))

/-- A column of two as a 2x1 table. -/
theorem col_at {α : Type} (z : S2.Idx → α) (b : Fin 2) :
    shapeCast S2x1 z shapeCasts_S2_S2x1 (ValueIdx.ix2 (n0 := 2) (n1 := 1) b 0) = z (ValueIdx.ix1 (n := 2) b) :=
  shapeCast_apply z _ _ (ValueIdx.ix1 (n := 2) b) (by
    rw [Shape.rowMajor_val_one, Shape.rowMajor_val_two]
    show b.val = b.val * 1 + 0
    omega)

/-- A 2x1 table repeated along eight columns. -/
theorem rep_at {α : Type} (z : S2x1.Idx → α) (b : Fin 2) (k : Fin 8) :
    broadcastTo S2x8 z broadcasts_S2x1_S2x8 (ValueIdx.ix2 (n0 := 2) (n1 := 8) b k) = z (ValueIdx.ix2 (n0 := 2) (n1 := 1) b 0) :=
  broadcastTo_apply z _ _ _ (fun a => by fin_cases a <;> rfl)

/-- A row of twelve repeated for both images. -/
theorem row12_at (z : FVec Ideal S1x12 .f32) (b : Fin 2) (j : Fin 12) :
    broadcastTo S2x12 (shapeCast S1x12 z shapeCasts_S1x12_S1x12) broadcasts_S1x12_S2x12 (ValueIdx.ix2 (n0 := 2) (n1 := 12) b j) = z (ValueIdx.ix2 (n0 := 1) (n1 := 12) 0 j) := by
  rw [shapeCast_self]
  exact broadcastTo_apply z _ _ _ (fun a => by fin_cases a <;> rfl)

/-- A row of eight repeated for both images. -/
theorem row8_at (z : FVec Ideal S1x8 .f32) (b : Fin 2) (e : Fin 8) :
    broadcastTo S2x8 (shapeCast S1x8 z shapeCasts_S1x8_S1x8) broadcasts_S1x8_S2x8 (ValueIdx.ix2 (n0 := 2) (n1 := 8) b e) = z (ValueIdx.ix2 (n0 := 1) (n1 := 8) 0 e) := by
  rw [shapeCast_self]
  exact broadcastTo_apply z _ _ _ (fun a => by fin_cases a <;> rfl)

/-- The first matrix product. -/
theorem mm1_at (x : FVec Ideal S2x96 .f32) (w : FVec Ideal S96x12 .f32) (b : Fin 2) (j : Fin 12) :
    matmul dot_S2x96_S96x12_S2x12_1_0_0_1_n_n none x w (constant S2x12 .f32 0x00000000#32) (ValueIdx.ix2 (n0 := 2) (n1 := 12) b j)
      = ∑ c : Fin 96, x (ValueIdx.ix2 (n0 := 2) (n1 := 96) b c) * w (ValueIdx.ix2 (n0 := 96) (n1 := 12) c j) := by
  simp only [pointwise]
  exact (congrArg (· + _) Ideal.ofBits_zero_f32).trans (zero_add _)

/-- The second matrix product. -/
theorem mm2_at (x : FVec Ideal S2x12 .f32) (w : FVec Ideal S12x8 .f32) (b : Fin 2) (e : Fin 8) :
    matmul dot_S2x12_S12x8_S2x8_1_0_0_1_n_n none x w (constant S2x8 .f32 0x00000000#32) (ValueIdx.ix2 (n0 := 2) (n1 := 8) b e)
      = ∑ j : Fin 12, x (ValueIdx.ix2 (n0 := 2) (n1 := 12) b j) * w (ValueIdx.ix2 (n0 := 12) (n1 := 8) j e) := by
  simp only [pointwise]
  exact (congrArg (· + _) Ideal.ofBits_zero_f32).trans (zero_add _)

/-- The kernel's named constant is one over the number of pixels. -/
theorem inv_n : Named.named (F := Ideal) Cert.RoutingIdeal.κ "inv_n" (φ := .f32) 0x37A72F05#32 = ((1 / 50176 : ℝ) : EReal) :=
  IdealRules.named_const.ideal_named_scalar _ _ _ _ rfl

/-! ## The softmax -/

/-- The first layer's table. -/
def hidT (v11 : FVec Ideal S2x96 .f32) (v14 : FVec Ideal S96x12 .f32) (v17 v21 : FVec Ideal S1x12 .f32) : FVec Ideal S2x12 .f32 :=
  addf (mulf (matmul (F := Ideal) (φ₁ := .f32) (φ₂ := .f32) dot_S2x96_S96x12_S2x12_1_0_0_1_n_n none
      (mulf v11 (broadcast S2x96 (Named.named (F := Ideal) Cert.RoutingIdeal.κ "inv_n" (φ := .f32) 0x37A72F05#32)))
      (shapeCast S96x12 v14 shapeCasts_S96x12_S96x12) (constant S2x12 .f32 0x00000000#32))
    (broadcastTo S2x12 (shapeCast S1x12 v17 shapeCasts_S1x12_S1x12) broadcasts_S1x12_S2x12))
    (broadcastTo S2x12 (shapeCast S1x12 v21 shapeCasts_S1x12_S1x12) broadcasts_S1x12_S2x12)

/-- The second layer's table. -/
def lgT (h : FVec Ideal S2x12 .f32) (v27 : FVec Ideal S12x8 .f32) (v30 v34 : FVec Ideal S1x8 .f32) : FVec Ideal S2x8 .f32 :=
  addf (mulf (matmul (F := Ideal) (φ₁ := .f32) (φ₂ := .f32) dot_S2x12_S12x8_S2x8_1_0_0_1_n_n none (mulf h (logistic h))
      (shapeCast S12x8 v27 shapeCasts_S12x8_S12x8) (constant S2x8 .f32 0x00000000#32))
    (broadcastTo S2x8 (shapeCast S1x8 v30 shapeCasts_S1x8_S1x8) broadcasts_S1x8_S2x8))
    (broadcastTo S2x8 (shapeCast S1x8 v34 shapeCasts_S1x8_S1x8) broadcasts_S1x8_S2x8)

/-- A row's greatest element, repeated along the row. -/
def mxT (l : FVec Ideal S2x8 .f32) : FVec Ideal S2x8 .f32 :=
  broadcastTo S2x8 (shapeCast S2x1 (multiReduction .maximumf [1] S2 l 0xFF800000#32 reduces_S2x8_S2 (.inl rfl) rfl) shapeCasts_S2_S2x1) broadcasts_S2x1_S2x8

/-- The table of exponentials. -/
def exT (l : FVec Ideal S2x8 .f32) : FVec Ideal S2x8 .f32 := exp (subf l (mxT l))

/-- The softmax's table. -/
def smT (l : FVec Ideal S2x8 .f32) : FVec Ideal S2x8 .f32 :=
  divf (exT l) (broadcastTo S2x8 (shapeCast S2x1 (multiReduction .add [1] S2 (exT l) 0x00000000#32 reduces_S2x8_S2 (.inl rfl) rfl) shapeCasts_S2_S2x1) broadcasts_S2x1_S2x8)

/-- A row's greatest element at an index. -/
theorem mxT_at (l : FVec Ideal S2x8 .f32) (b : Fin 2) (e : Fin 8) :
    mxT l (ValueIdx.ix2 (n0 := 2) (n1 := 8) b e) = Finset.univ.fold max ⊥ (fun k : Fin 8 => l (ValueIdx.ix2 (n0 := 2) (n1 := 8) b k)) :=
  (rep_at _ b e).trans ((col_at _ b).trans (rowmax l b))

/-- The softmax's table at an index. -/
theorem smT_at (l : FVec Ideal S2x8 .f32) (b : Fin 2) (e : Fin 8) :
    smT l (ValueIdx.ix2 (n0 := 2) (n1 := 8) b e) = sm (fun k => l (ValueIdx.ix2 (n0 := 2) (n1 := 8) b k)) e := by
  have hx : ∀ k : Fin 8, exT l (ValueIdx.ix2 (n0 := 2) (n1 := 8) b k)
      = Ideal.exp (l (ValueIdx.ix2 (n0 := 2) (n1 := 8) b k) - Finset.univ.fold max ⊥ (fun k : Fin 8 => l (ValueIdx.ix2 (n0 := 2) (n1 := 8) b k))) := fun k =>
    congrArg (fun m => Ideal.exp (l (ValueIdx.ix2 (n0 := 2) (n1 := 8) b k) - m)) (mxT_at l b k)
  exact congrArg₂ Ideal.div (hx e) ((rep_at _ b e).trans ((col_at _ b).trans ((rowsum _ b).trans (Finset.sum_congr rfl fun k _ => hx k))))

/-- The kernel's softmax is the three tables composed. -/
theorem pay9_eq (v11 : FVec Ideal S2x96 .f32) (v14 : FVec Ideal S96x12 .f32) (v17 v21 : FVec Ideal S1x12 .f32) (v27 : FVec Ideal S12x8 .f32) (v30 v34 : FVec Ideal S1x8 .f32) :
    k0_pay9 (F := Ideal) v11 v14 v17 v21 v27 v30 v34 = smT (lgT (hidT v11 v14 v17 v21) v27 v30 v34) := rfl

section
variable {v11 : FVec Ideal S2x96 .f32} {v14 : FVec Ideal S96x12 .f32} {v17 v21 : FVec Ideal S1x12 .f32} {v27 : FVec Ideal S12x8 .f32} {v30 v34 : FVec Ideal S1x8 .f32}
  {W1 : Fin 12 → Fin 96 → EReal} {g1 b1 : Fin 12 → EReal} {W2 : Fin 8 → Fin 12 → EReal} {g2 b2 : Fin 8 → EReal}
  (h14 : ∀ c j, v14 (ValueIdx.ix2 (n0 := 96) (n1 := 12) c j) = W1 j c) (h17 : ∀ j, v17 (ValueIdx.ix2 (n0 := 1) (n1 := 12) 0 j) = Ideal.div (g1 j) sqI)
  (h21 : ∀ j, v21 (ValueIdx.ix2 (n0 := 1) (n1 := 12) 0 j) = b1 j) (h27 : ∀ j e, v27 (ValueIdx.ix2 (n0 := 12) (n1 := 8) j e) = W2 e j)
  (h30 : ∀ e, v30 (ValueIdx.ix2 (n0 := 1) (n1 := 8) 0 e) = Ideal.div (g2 e) sqI) (h34 : ∀ e, v34 (ValueIdx.ix2 (n0 := 1) (n1 := 8) 0 e) = b2 e)
include h14 h17 h21

/-- The first layer's table at an index. -/
theorem hidT_at (b : Fin 2) (j : Fin 12) : hidT v11 v14 v17 v21 (ValueIdx.ix2 (n0 := 2) (n1 := 12) b j)
    = hid (fun c => v11 (ValueIdx.ix2 (n0 := 2) (n1 := 96) b c) * ((1 / 50176 : ℝ) : EReal)) W1 g1 b1 j := by
  refine congrArg₂ (· + ·) (congrArg₂ (· * ·) ((mm1_at _ _ b j).trans (Finset.sum_congr rfl fun c _ => congrArg₂ (· * ·) ?_ ?_)) ((row12_at _ b j).trans (h17 j))) ((row12_at _ b j).trans (h21 j))
  · exact congrArg (v11 (ValueIdx.ix2 (n0 := 2) (n1 := 96) b c) * ·) inv_n
  · rw [shapeCast_self]
    exact h14 c j

include h27 h30 h34

/-- The kernel's softmax at an index. -/
theorem pay9_at (b : Fin 2) (e : Fin 8) : k0_pay9 (F := Ideal) v11 v14 v17 v21 v27 v30 v34 (ValueIdx.ix2 (n0 := 2) (n1 := 8) b e)
    = sm (lgt (fun c => v11 (ValueIdx.ix2 (n0 := 2) (n1 := 96) b c) * ((1 / 50176 : ℝ) : EReal)) W1 g1 b1 W2 g2 b2) e := by
  rw [pay9_eq, smT_at]
  refine congrArg (sm · e) (funext fun k => ?_)
  refine congrArg₂ (· + ·) (congrArg₂ (· * ·) ((mm2_at _ _ b k).trans (Finset.sum_congr rfl fun j _ => congrArg₂ (· * ·) ?_ ?_)) ((row8_at _ b k).trans (h30 k))) ((row8_at _ b k).trans (h34 k))
  · exact congrArg esilu (hidT_at h14 h17 h21 b j)
  · rw [shapeCast_self]
    exact h27 j k
end

/-! ## The choice of the two greatest -/

/-- The table of column numbers. -/
def colT : IVec S2x8 32 := iota .tc S2x8 32 [1] iota_S2x8_d1_w32

/-- The table of column numbers at an index. -/
theorem colT_at (b : Fin 2) (k : Fin 8) : colT (ValueIdx.ix2 (n0 := 2) (n1 := 8) b k) = BitVec.ofNat 32 k.val :=
  congrArg (BitVec.ofNat 32) (by show 0 * 8 + k.val = k.val; omega)

/-- Selecting by equality of two numbers. -/
theorem sel_eq {α : Type} (x y : EReal) (s t : α) : Scalar.select (FloatOps.cmpf (F := Ideal) (φ := .f32) .oeq x y) s t = if x = y then s else t := by
  show (if Ideal.cmp .oeq x y = 1#1 then s else t) = _
  unfold Ideal.cmp
  by_cases h : x = y <;> simp [h]

/-- Selecting by equality of two column numbers. -/
theorem sel_col {α : Type} (k a : Fin 8) (s t : α) : Scalar.select (IntOp.cmpi .eq (BitVec.ofNat 32 k.val) (BitVec.ofNat 32 a.val)) s t = if k = a then s else t := by
  have h : ∀ k a : Fin 8, IntOp.cmpi .eq (BitVec.ofNat 32 k.val) (BitVec.ofNat 32 a.val) = if k = a then 1#1 else 0#1 := by decide
  rw [h]
  by_cases e : k = a
  · rw [if_pos e, if_pos e]; rfl
  · rw [if_neg e, if_neg e]; rfl

/-- The mask's value. -/
theorem lit_m1 : Ideal.ofBits .f32 0xBF800000#32 = (-1 : EReal) := by
  have : Ideal.ofBits .f32 0xBF800000#32 = ((-1 : ℝ) : EReal) := by
    simp [Ideal.ofBits, Ideal.ieee, -EReal.coe_mul]; norm_num
  rw [this]; rfl

section
variable {y : FVec Ideal S2x8 .f32} {b : Fin 2} {p : Fin 8 → EReal} {a q : Fin 8} (hy : ∀ k, y (ValueIdx.ix2 (n0 := 2) (n1 := 8) b k) = p k)
  (h : Two p a q)
include hy h

/-- The row's greatest element is the first chosen. -/
theorem mx_first (k : Fin 8) : mxT y (ValueIdx.ix2 (n0 := 2) (n1 := 8) b k) = p a := by
  rw [mxT_at, show (fun k => y (ValueIdx.ix2 (n0 := 2) (n1 := 8) b k)) = p from funext hy, max_first h]

/-- The first chosen position. -/
theorem pay4_at : k0_pay4 (F := Ideal) y colT (mxT y) (ValueIdx.ix2 (n0 := 2) (n1 := 1) b 0) = BitVec.ofNat 32 a.val := by
  refine (col_at _ b).trans ((rowmin _ b).trans (Eq.trans ?_ (min_first h)))
  refine congrArg (Finset.univ.fold IntOp.minsi 2147483647#32) (funext fun k => ?_)
  refine Eq.trans (sel_eq (y (ValueIdx.ix2 (n0 := 2) (n1 := 8) b k)) (mxT y (ValueIdx.ix2 (n0 := 2) (n1 := 8) b k)) _ _) ?_
  rw [hy, mx_first hy h, colT_at]
  rfl

/-- The row with the first chosen position masked. -/
theorem pay5_at (k : Fin 8) : k0_pay5 (F := Ideal) y colT (mxT y) (ValueIdx.ix2 (n0 := 2) (n1 := 8) b k) = masked p a k := by
  show Scalar.select (IntOp.cmpi .eq (colT (ValueIdx.ix2 (n0 := 2) (n1 := 8) b k))
    (broadcastTo S2x8 (k0_pay4 (F := Ideal) y colT (mxT y)) broadcasts_S2x1_S2x8 (ValueIdx.ix2 (n0 := 2) (n1 := 8) b k)))
    (Ideal.ofBits .f32 0xBF800000#32) (y (ValueIdx.ix2 (n0 := 2) (n1 := 8) b k)) = _
  rw [rep_at, pay4_at hy h, colT_at, sel_col, lit_m1, hy]
  rfl

variable (hp : ∀ k, -1 < p k)
include hp

/-- The second chosen value. -/
theorem pay6_at : k0_pay6 (F := Ideal) y colT (mxT y) (ValueIdx.ix2 (n0 := 2) (n1 := 1) b 0) = p q := by
  refine (col_at _ b).trans ((rowmax _ b).trans ?_)
  rw [show (fun k => k0_pay5 (F := Ideal) y colT (mxT y) (ValueIdx.ix2 (n0 := 2) (n1 := 8) b k)) = masked p a from funext fun k => pay5_at hy h k]
  exact max_second h hp

/-- The chosen positions. -/
theorem pay7_at (k : Fin 2) : k0_pay7 (F := Ideal) y colT (mxT y) (ValueIdx.ix2 (n0 := 2) (n1 := 2) b k) = BitVec.ofNat 32 (if k = 0 then a else q).val := by
  unfold k0_pay7
  match k with
  | 0 =>
    refine (concatenate_pair_apply_left (s₁ := S2x1) (s₂ := S2x1) _ _ _ _ (ValueIdx.ix2 (n0 := 2) (n1 := 2) b 0) (by decide) (ValueIdx.ix2 (n0 := 2) (n1 := 1) b 0) ?_).trans (pay4_at hy h)
    intro d; fin_cases d <;> rfl
  | 1 =>
    refine (concatenate_pair_apply_right (s₁ := S2x1) (s₂ := S2x1) _ _ _ _ (ValueIdx.ix2 (n0 := 2) (n1 := 2) b 1) rfl rfl (ValueIdx.ix2 (n0 := 2) (n1 := 1) b 0) ?_ rfl).trans ?_
    · intro d hd
      fin_cases d
      · rfl
      · exact absurd rfl hd
    refine (col_at _ b).trans ((rowmin _ b).trans (Eq.trans ?_ (min_second h hp)))
    refine congrArg (Finset.univ.fold IntOp.minsi 2147483647#32) (funext fun k => ?_)
    refine Eq.trans (sel_eq _ _ _ _) ?_
    rw [pay5_at hy h, rep_at, pay6_at hy h hp, colT_at]
    rfl

/-- The chosen weights: each over their sum and a small constant. -/
theorem pay8_at {v49 : FVec Ideal S2x1 .f32} (h49 : v49 (ValueIdx.ix2 (n0 := 2) (n1 := 1) b 0) = p a) (k : Fin 2) :
    k0_pay8 (F := Ideal) y colT v49 (mxT y) (ValueIdx.ix2 (n0 := 2) (n1 := 2) b k)
      = Ideal.div (p (if k = 0 then a else q)) (p a + p q + Ideal.ofBits .f32 0x358637BD#32) := by
  have hs : v49 (ValueIdx.ix2 (n0 := 2) (n1 := 1) b 0) + k0_pay6 (F := Ideal) y colT (mxT y) (ValueIdx.ix2 (n0 := 2) (n1 := 1) b 0)
      + Ideal.ofBits .f32 0x358637BD#32 = p a + p q + Ideal.ofBits .f32 0x358637BD#32 := by
    rw [h49, pay6_at hy h hp]
  unfold k0_pay8
  match k with
  | 0 =>
    refine (concatenate_pair_apply_left (s₁ := S2x1) (s₂ := S2x1) _ _ _ _ (ValueIdx.ix2 (n0 := 2) (n1 := 2) b 0) (by decide) (ValueIdx.ix2 (n0 := 2) (n1 := 1) b 0) ?_).trans
      (congrArg₂ Ideal.div h49 hs)
    intro d; fin_cases d <;> rfl
  | 1 =>
    refine (concatenate_pair_apply_right (s₁ := S2x1) (s₂ := S2x1) _ _ _ _ (ValueIdx.ix2 (n0 := 2) (n1 := 2) b 1) rfl rfl (ValueIdx.ix2 (n0 := 2) (n1 := 1) b 0) ?_ rfl).trans
      (congrArg₂ Ideal.div (pay6_at hy h hp) hs)
    intro d hd
    fin_cases d
    · rfl
    · exact absurd rfl hd
end

end Cert.Rout.Kern
-- ==== Proof.Value.RoutRun.lean ====
/- What each point of the routing call leaves, from the contents it starts with: the operations' values in place of the
   recorded stores. -/
module

public import proofs.«01_k».proof.Proof.Value.RoutKern

@[expose] public section

set_option maxRecDepth 16384

noncomputable section

namespace Cert.Rout.Kern

open Cert.RoutingIdeal Cert.RoutingIdeal.Gen Idealize.ShloMosaic Idealize.ShloMosaic.TcCoe

theorem hz2 : (![0, 0] : Fin 2 → Nat) = fun _ => 0 := funext fun a => by fin_cases a <;> rfl
theorem hz4 : (![0, 0, 0, 0] : Fin 4 → Nat) = fun _ => 0 := funext fun a => by fin_cases a <;> rfl

section
variable (c : Dev nD) (i : grid0.Coords) (arg1 : Memref sig .tc .vmem S2x96x32x224 .f32) (harg1 : arg1.IsWhole) (arg2 : Memref sig .tc .vmem S96x12 .f32) (harg2 : arg2.IsWhole) (arg3 : Memref sig .tc .vmem S1x12 .f32) (harg3 : arg3.IsWhole) (arg4 : Memref sig .tc .vmem S1x12 .f32) (harg4 : arg4.IsWhole) (arg5 : Memref sig .tc .vmem S12x8 .f32) (harg5 : arg5.IsWhole) (arg6 : Memref sig .tc .vmem S1x8 .f32) (harg6 : arg6.IsWhole) (arg7 : Memref sig .tc .vmem S1x8 .f32) (harg7 : arg7.IsWhole) (arg8 : Memref sig .tc .vmem S2x2 .i32) (harg8 : arg8.IsWhole) (arg9 : Memref sig .tc .vmem S2x2 .f32) (harg9 : arg9.IsWhole) (arg10 : Memref sig .tc .vmem S2x96 .f32) (harg10 : arg10.IsWhole)
  (x0 : Vec Ideal S2x96x32x224 .f32) (x1 : Vec Ideal S96x12 .f32) (x2 : Vec Ideal S1x12 .f32) (x3 : Vec Ideal S1x12 .f32) (x4 : Vec Ideal S12x8 .f32) (x5 : Vec Ideal S1x8 .f32) (x6 : Vec Ideal S1x8 .f32) (xs0 : Vec Ideal S2x96 .f32)

/-- The first point leaves its block's sums in the accumulator. -/
theorem soutA (hc0 : cond0_0 i) (hc1 : ¬cond0_1 i) (hc2 : ¬cond0_2 i) :
    sout0_A_0 (F := Ideal) c i arg1 harg1 arg2 harg2 arg3 harg3 arg4 harg4 arg5 harg5 arg6 harg6 arg7 harg7 arg8 harg8 arg9 harg9 arg10 harg10 hc0 hc1 hc2 x0 x1 x2 x3 x4 x5 x6 = k0_pay2 (F := Ideal) x0 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 hc2 x0 x1 x2 x3 x4 x5 x6)]
  unfold kernelRun0_A
  dsimp only
  rw [View.canon_unit_zero hz2]
  simp only [View.readAt_eq_ld, harg1.read_unread, View.ld_unit_zero (S := S2x96x32x224) hz4]

/-- A later point adds its block's sums to the accumulator. -/
theorem soutB (hc0 : ¬cond0_0 i) (hc1 : cond0_1 i) (hc2 : ¬cond0_2 i) :
    sout0_B_0 (F := Ideal) c i arg1 harg1 arg2 harg2 arg3 harg3 arg4 harg4 arg5 harg5 arg6 harg6 arg7 harg7 arg8 harg8 arg9 harg9 arg10 harg10 hc0 hc1 hc2 x0 x1 x2 x3 x4 x5 x6 xs0 = k0_pay3 (F := Ideal) x0 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 hc2 x0 x1 x2 x3 x4 x5 x6 xs0)]
  unfold kernelRun0_B
  dsimp only
  rw [View.canon_unit_zero hz2]
  simp only [View.readAt_eq_ld, harg1.read_unread, harg10.read_unread, View.ld_unit_zero (S := S2x96x32x224) hz4, View.ld_unit_zero (S := S2x96) hz2]

/-- The probabilities the last point computes. -/
def prob : FVec Ideal S2x8 .f32 := k0_pay9 (F := Ideal) (k0_pay3 (F := Ideal) x0 xs0) x1 x2 x3 x4 x5 x6

/-- The last point leaves the chosen positions. -/
theorem outC7 (hc0 : ¬cond0_0 i) (hc1 : cond0_1 i) (hc2 : cond0_2 i) :
    out0_C_7 (F := Ideal) c i arg1 harg1 arg2 harg2 arg3 harg3 arg4 harg4 arg5 harg5 arg6 harg6 arg7 harg7 arg8 harg8 arg9 harg9 arg10 harg10 hc0 hc1 hc2 x0 x1 x2 x3 x4 x5 x6 xs0 = k0_pay7 (F := Ideal) (prob x0 x1 x2 x3 x4 x5 x6 xs0) colT (mxT (prob x0 x1 x2 x3 x4 x5 x6 xs0)) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 hc2 x0 x1 x2 x3 x4 x5 x6 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg10.read_unread, View.ld_unit_zero (S := S2x96x32x224) hz4, View.ld_unit_zero (S := S2x96) hz2, View.ld_unit_zero (S := S96x12) hz2, View.ld_unit_zero (S := S1x12) hz2, View.ld_unit_zero (S := S12x8) hz2, View.ld_unit_zero (S := S1x8) hz2, View.readCov_unit_zero (S := S2x96) _ hz2]
  rfl

/-- The last point leaves the chosen weights. -/
theorem outC8 (hc0 : ¬cond0_0 i) (hc1 : cond0_1 i) (hc2 : cond0_2 i) :
    out0_C_8 (F := Ideal) c i arg1 harg1 arg2 harg2 arg3 harg3 arg4 harg4 arg5 harg5 arg6 harg6 arg7 harg7 arg8 harg8 arg9 harg9 arg10 harg10 hc0 hc1 hc2 x0 x1 x2 x3 x4 x5 x6 xs0 = k0_pay8 (F := Ideal) (prob x0 x1 x2 x3 x4 x5 x6 xs0) colT
      (shapeCast S2x1 (multiReduction .maximumf [1] S2 (prob x0 x1 x2 x3 x4 x5 x6 xs0) 0xFF800000#32 reduces_S2x8_S2 (.inl rfl) rfl) shapeCasts_S2_S2x1) (mxT (prob x0 x1 x2 x3 x4 x5 x6 xs0)) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 hc2 x0 x1 x2 x3 x4 x5 x6 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg10.read_unread, View.ld_unit_zero (S := S2x96x32x224) hz4, View.ld_unit_zero (S := S2x96) hz2, View.ld_unit_zero (S := S96x12) hz2, View.ld_unit_zero (S := S1x12) hz2, View.ld_unit_zero (S := S12x8) hz2, View.ld_unit_zero (S := S1x8) hz2, View.readCov_unit_zero (S := S2x96) _ hz2]
  rfl
end

end Cert.Rout.Kern
-- ==== Proof.Value.RoutHost.lean ====
/- The blocks of the routing call's inputs, element by element, from the arguments. -/
module

public import proofs.«01_k».proof.Proof.Value.RoutRun
public import Idealize.ShloMosaic.Lib.StableHlo.Run

@[expose] public section

set_option maxRecDepth 16384

noncomputable section

namespace Cert.Rout.Kern

open Cert.RoutingIdeal Cert.RoutingIdeal.Gen Idealize.ShloMosaic Idealize.ShloMosaic.TcCoe
open Cert.KernelIdeal (sqI)
open Cert.Rout

variable (m : (ℓ : Loc nD τ sig) → Buf (Elt Ideal) ℓ)

/-! ## The arguments -/

/-- The image. -/
abbrev A0 (c : Dev nD) : FVec Ideal S2x96x224x224 .f32 := m ((c : Thread nD τ).loc main_arg0)
/-- The first layer's weights. -/
abbrev A1 (c : Dev nD) : FVec Ideal S12x96 .f32 := m ((c : Thread nD τ).loc main_arg1)
/-- The first layer's gains. -/
abbrev A2 (c : Dev nD) : FVec Ideal S12 .f32 := m ((c : Thread nD τ).loc main_arg2)
/-- The first layer's shifts. -/
abbrev A3 (c : Dev nD) : FVec Ideal S12 .f32 := m ((c : Thread nD τ).loc main_arg3)
/-- The second layer's weights. -/
abbrev A4 (c : Dev nD) : FVec Ideal S8x12 .f32 := m ((c : Thread nD τ).loc main_arg4)
/-- The second layer's gains. -/
abbrev A5 (c : Dev nD) : FVec Ideal S8 .f32 := m ((c : Thread nD τ).loc main_arg5)
/-- The second layer's shifts. -/
abbrev A6 (c : Dev nD) : FVec Ideal S8 .f32 := m ((c : Thread nD τ).loc main_arg6)

/-! ## What the region finds -/

/-- The scale of the two normalisations as the host holds it. -/
def sclV : FVec Ideal S_ .f32 := id (Host.divf (constant (F := Ideal) S_ .f32 0x3F800000#32) (Host.sqrt (constant (F := Ideal) S_ .f32 0x3F800054#32)))

theorem sclV_at (i : S_.Idx) : sclV i = Ideal.div (Ideal.ofBits .f32 0x3F800000#32) sqI := rfl

/-- The first layer's weights, transposed. -/
theorem Vw1 (c : Dev nD) : (V m c main_v2 : Vec Ideal S96x12 .f32) = transpose S96x12 [1, 0] (A1 m c) transposes_S12x96_S96x12_1_0 := by
  show StableHlo.after hostOps0 _ (Proc.devRef .tc main_v2) = _
  after_results_simp
  try rfl

/-- The first layer's scaled gains. -/
theorem Vw2 (c : Dev nD) : (V m c main_v6 : Vec Ideal S1x12 .f32)
    = broadcastInDim S1x12 ![1] bcast_S12_S1x12_1 (mulf (A2 m c) (broadcastInDim S12 ![] bcast_S_S12 sclV)) := by
  show StableHlo.after hostOps0 _ (Proc.devRef .tc main_v6) = _
  after_results_simp
  rfl

/-- The first layer's shifts. -/
theorem Vw3 (c : Dev nD) : (V m c main_v7 : Vec Ideal S1x12 .f32) = broadcastInDim S1x12 ![1] bcast_S12_S1x12_1 (A3 m c) := by
  show StableHlo.after hostOps0 _ (Proc.devRef .tc main_v7) = _
  after_results_simp
  try rfl

/-- The second layer's weights, transposed. -/
theorem Vw4 (c : Dev nD) : (V m c main_v8 : Vec Ideal S12x8 .f32) = transpose S12x8 [1, 0] (A4 m c) transposes_S8x12_S12x8_1_0 := by
  show StableHlo.after hostOps0 _ (Proc.devRef .tc main_v8) = _
  after_results_simp
  try rfl

/-- The second layer's scaled gains. -/
theorem Vw5 (c : Dev nD) : (V m c main_v12 : Vec Ideal S1x8 .f32)
    = broadcastInDim S1x8 ![1] bcast_S8_S1x8_1 (mulf (A5 m c) (broadcastInDim S8 ![] bcast_S_S8 sclV)) := by
  show StableHlo.after hostOps0 _ (Proc.devRef .tc main_v12) = _
  after_results_simp
  rfl

/-- The second layer's shifts. -/
theorem Vw6 (c : Dev nD) : (V m c main_v13 : Vec Ideal S1x8 .f32) = broadcastInDim S1x8 ![1] bcast_S8_S1x8_1 (A6 m c) := by
  show StableHlo.after hostOps0 _ (Proc.devRef .tc main_v13) = _
  after_results_simp
  try rfl

/-! ## The blocks -/

theorem ix0 : ∀ t : Fin grid0.N, win0_0.index t (0 : Fin 4) = 0 ∧ win0_0.index t (1 : Fin 4) = 0 ∧ win0_0.index t (2 : Fin 4) = t.val ∧ win0_0.index t (3 : Fin 4) = 0 := by decide +kernel
theorem ix1 : ∀ t : Fin grid0.N, win0_1.index t (0 : Fin 2) = 0 ∧ win0_1.index t (1 : Fin 2) = 0 := by decide +kernel
theorem ix2 : ∀ t : Fin grid0.N, win0_2.index t (0 : Fin 2) = 0 ∧ win0_2.index t (1 : Fin 2) = 0 := by decide +kernel
theorem ix3 : ∀ t : Fin grid0.N, win0_3.index t (0 : Fin 2) = 0 ∧ win0_3.index t (1 : Fin 2) = 0 := by decide +kernel
theorem ix4 : ∀ t : Fin grid0.N, win0_4.index t (0 : Fin 2) = 0 ∧ win0_4.index t (1 : Fin 2) = 0 := by decide +kernel
theorem ix5 : ∀ t : Fin grid0.N, win0_5.index t (0 : Fin 2) = 0 ∧ win0_5.index t (1 : Fin 2) = 0 := by decide +kernel
theorem ix6 : ∀ t : Fin grid0.N, win0_6.index t (0 : Fin 2) = 0 ∧ win0_6.index t (1 : Fin 2) = 0 := by decide +kernel

/-- The image's block at a point: thirty-two rows. -/
theorem blk0_at (c : Dev nD) (t : Fin cfg0.N) (b : Fin 2) (ch : Fin 96) (h : Fin 32) (w : Fin 224) (H : Fin 224) (hH : H.val = 32 * t.val + h.val) :
    (iblk m c 0 t : Vec Ideal S2x96x32x224 .f32) (ValueIdx.ix4 (n0 := 2) (n1 := 96) (n2 := 32) (n3 := 224) b ch h w)
      = A0 m c (ValueIdx.ix4 (n0 := 2) (n1 := 96) (n2 := 224) (n3 := 224) b ch H w) := by
  obtain ⟨e0, e1, e2, e3⟩ := ix0 t
  unfold A0
  rw [← V_main_arg0 m c]
  show V m c main_arg0 (((cfg0.win 0).blk t).view.emb _) = V m c main_arg0 _
  refine congrArg _ (funext fun a => Fin.ext ?_)
  match a with
  | ⟨0, _⟩ => show win0_0.index t (0 : Fin 4) * 2 + 1 * b.val = b.val; omega
  | ⟨1, _⟩ => show win0_0.index t (1 : Fin 4) * 96 + 1 * ch.val = ch.val; omega
  | ⟨2, _⟩ => show win0_0.index t (2 : Fin 4) * 32 + 1 * h.val = H.val; omega
  | ⟨3, _⟩ => show win0_0.index t (3 : Fin 4) * 224 + 1 * w.val = w.val; omega

/-- The first layer's weights are one block. -/
theorem blk1_at (c : Dev nD) (t : Fin cfg0.N) (ch : Fin 96) (j : Fin 12) :
    (iblk m c 1 t : Vec Ideal S96x12 .f32) (ValueIdx.ix2 (n0 := 96) (n1 := 12) ch j) = A1 m c (ValueIdx.ix2 (n0 := 12) (n1 := 96) j ch) := by
  obtain ⟨e0, e1⟩ := ix1 t
  have h : (V m c main_v2 : Vec Ideal S96x12 .f32) (ValueIdx.ix2 (n0 := 96) (n1 := 12) ch j) = A1 m c (ValueIdx.ix2 (n0 := 12) (n1 := 96) j ch) := by
    rw [Vw1]
    exact transpose_apply _ _ _ _ (ValueIdx.ix2 (n0 := 12) (n1 := 96) j ch) (by intro b; fin_cases b <;> rfl)
  rw [← h]
  show V m c main_v2 (((cfg0.win 1).blk t).view.emb _) = V m c main_v2 _
  refine congrArg _ (funext fun a => Fin.ext ?_)
  match a with
  | ⟨0, _⟩ => show win0_1.index t (0 : Fin 2) * 96 + 1 * ch.val = ch.val; omega
  | ⟨1, _⟩ => show win0_1.index t (1 : Fin 2) * 12 + 1 * j.val = j.val; omega

/-- The first layer's gains, each divided by the square root. -/
theorem blk2_at (c : Dev nD) (t : Fin cfg0.N) (j : Fin 12) :
    (iblk m c 2 t : Vec Ideal S1x12 .f32) (ValueIdx.ix2 (n0 := 1) (n1 := 12) 0 j) = Ideal.div (A2 m c (ValueIdx.ix1 (n := 12) j)) sqI := by
  obtain ⟨e0, e1⟩ := ix2 t
  have h : (V m c main_v6 : Vec Ideal S1x12 .f32) (ValueIdx.ix2 (n0 := 1) (n1 := 12) 0 j) = Ideal.div (A2 m c (ValueIdx.ix1 (n := 12) j)) sqI := by
    rw [Vw2]
    exact (broadcastInDim_apply _ _ _ _ (ValueIdx.ix1 (n := 12) j) (by intro a; fin_cases a <;> rfl)).trans (scale_div _)
  rw [← h]
  show V m c main_v6 (((cfg0.win 2).blk t).view.emb _) = V m c main_v6 _
  refine congrArg _ (funext fun a => Fin.ext ?_)
  match a with
  | ⟨0, _⟩ => show win0_2.index t (0 : Fin 2) * 1 + 1 * 0 = 0; omega
  | ⟨1, _⟩ => show win0_2.index t (1 : Fin 2) * 12 + 1 * j.val = j.val; omega

/-- The first layer's shifts. -/
theorem blk3_at (c : Dev nD) (t : Fin cfg0.N) (j : Fin 12) :
    (iblk m c 3 t : Vec Ideal S1x12 .f32) (ValueIdx.ix2 (n0 := 1) (n1 := 12) 0 j) = A3 m c (ValueIdx.ix1 (n := 12) j) := by
  obtain ⟨e0, e1⟩ := ix3 t
  have h : (V m c main_v7 : Vec Ideal S1x12 .f32) (ValueIdx.ix2 (n0 := 1) (n1 := 12) 0 j) = A3 m c (ValueIdx.ix1 (n := 12) j) := by
    rw [Vw3]
    exact broadcastInDim_apply _ _ _ _ (ValueIdx.ix1 (n := 12) j) (by intro a; fin_cases a <;> rfl)
  rw [← h]
  show V m c main_v7 (((cfg0.win 3).blk t).view.emb _) = V m c main_v7 _
  refine congrArg _ (funext fun a => Fin.ext ?_)
  match a with
  | ⟨0, _⟩ => show win0_3.index t (0 : Fin 2) * 1 + 1 * 0 = 0; omega
  | ⟨1, _⟩ => show win0_3.index t (1 : Fin 2) * 12 + 1 * j.val = j.val; omega

/-- The second layer's weights are one block. -/
theorem blk4_at (c : Dev nD) (t : Fin cfg0.N) (j : Fin 12) (e : Fin 8) :
    (iblk m c 4 t : Vec Ideal S12x8 .f32) (ValueIdx.ix2 (n0 := 12) (n1 := 8) j e) = A4 m c (ValueIdx.ix2 (n0 := 8) (n1 := 12) e j) := by
  obtain ⟨e0, e1⟩ := ix4 t
  have h : (V m c main_v8 : Vec Ideal S12x8 .f32) (ValueIdx.ix2 (n0 := 12) (n1 := 8) j e) = A4 m c (ValueIdx.ix2 (n0 := 8) (n1 := 12) e j) := by
    rw [Vw4]
    exact transpose_apply _ _ _ _ (ValueIdx.ix2 (n0 := 8) (n1 := 12) e j) (by intro b; fin_cases b <;> rfl)
  rw [← h]
  show V m c main_v8 (((cfg0.win 4).blk t).view.emb _) = V m c main_v8 _
  refine congrArg _ (funext fun a => Fin.ext ?_)
  match a with
  | ⟨0, _⟩ => show win0_4.index t (0 : Fin 2) * 12 + 1 * j.val = j.val; omega
  | ⟨1, _⟩ => show win0_4.index t (1 : Fin 2) * 8 + 1 * e.val = e.val; omega

/-- The second layer's gains, each divided by the square root. -/
theorem blk5_at (c : Dev nD) (t : Fin cfg0.N) (e : Fin 8) :
    (iblk m c 5 t : Vec Ideal S1x8 .f32) (ValueIdx.ix2 (n0 := 1) (n1 := 8) 0 e) = Ideal.div (A5 m c (ValueIdx.ix1 (n := 8) e)) sqI := by
  obtain ⟨e0, e1⟩ := ix5 t
  have h : (V m c main_v12 : Vec Ideal S1x8 .f32) (ValueIdx.ix2 (n0 := 1) (n1 := 8) 0 e) = Ideal.div (A5 m c (ValueIdx.ix1 (n := 8) e)) sqI := by
    rw [Vw5]
    exact (broadcastInDim_apply _ _ _ _ (ValueIdx.ix1 (n := 8) e) (by intro a; fin_cases a <;> rfl)).trans (scale_div _)
  rw [← h]
  show V m c main_v12 (((cfg0.win 5).blk t).view.emb _) = V m c main_v12 _
  refine congrArg _ (funext fun a => Fin.ext ?_)
  match a with
  | ⟨0, _⟩ => show win0_5.index t (0 : Fin 2) * 1 + 1 * 0 = 0; omega
  | ⟨1, _⟩ => show win0_5.index t (1 : Fin 2) * 8 + 1 * e.val = e.val; omega

/-- The second layer's shifts. -/
theorem blk6_at (c : Dev nD) (t : Fin cfg0.N) (e : Fin 8) :
    (iblk m c 6 t : Vec Ideal S1x8 .f32) (ValueIdx.ix2 (n0 := 1) (n1 := 8) 0 e) = A6 m c (ValueIdx.ix1 (n := 8) e) := by
  obtain ⟨e0, e1⟩ := ix6 t
  have h : (V m c main_v13 : Vec Ideal S1x8 .f32) (ValueIdx.ix2 (n0 := 1) (n1 := 8) 0 e) = A6 m c (ValueIdx.ix1 (n := 8) e) := by
    rw [Vw6]
    exact broadcastInDim_apply _ _ _ _ (ValueIdx.ix1 (n := 8) e) (by intro a; fin_cases a <;> rfl)
  rw [← h]
  show V m c main_v13 (((cfg0.win 6).blk t).view.emb _) = V m c main_v13 _
  refine congrArg _ (funext fun a => Fin.ext ?_)
  match a with
  | ⟨0, _⟩ => show win0_6.index t (0 : Fin 2) * 1 + 1 * 0 = 0; omega
  | ⟨1, _⟩ => show win0_6.index t (1 : Fin 2) * 8 + 1 * e.val = e.val; omega

end Cert.Rout.Kern

end
-- ==== Proof.Value.RoutFold.lean ====
/- The routing call's accumulator over the points, and what its two results hold at an index. -/
module

public import proofs.«01_k».proof.Proof.Value.RoutHost

@[expose] public section

set_option maxRecDepth 16384

noncomputable section

namespace Cert.Rout.Kern

open Cert.RoutingIdeal Cert.RoutingIdeal.Gen Idealize.ShloMosaic Idealize.ShloMosaic.TcCoe
open Cert.KernelIdeal (sqI)
open Cert.Rout

variable (m : (ℓ : Loc nD τ sig) → Buf (Elt Ideal) ℓ)

/-- A block's sums over its pixels. -/
theorem pay1_at (x : Vec Ideal S2x96x32x224 .f32) (b : Fin 2) (ch : Fin 96) :
    k0_pay1 (F := Ideal) x (ValueIdx.ix2 (n0 := 2) (n1 := 96) b ch) = pix x b ch :=
  sum_drop x (reduces_S2x96x32x224_S2x96).drop
    (fun i => ⟨Shape.Reduces.drop_apply_val_of_eq _ i 0 0, Shape.Reduces.drop_apply_val_of_eq _ i 1 1⟩) b ch

/-- The first point's sums. -/
theorem pay2_at (x : Vec Ideal S2x96x32x224 .f32) (b : Fin 2) (ch : Fin 96) :
    k0_pay2 (F := Ideal) x (ValueIdx.ix2 (n0 := 2) (n1 := 96) b ch) = pix x b ch := by
  unfold k0_pay2
  rw [shapeCast_self]
  exact pay1_at x b ch

/-- A later point's sums: the earlier ones and its block's. -/
theorem pay3_at (x : Vec Ideal S2x96x32x224 .f32) (s : Vec Ideal S2x96 .f32) (b : Fin 2) (ch : Fin 96) :
    k0_pay3 (F := Ideal) x s (ValueIdx.ix2 (n0 := 2) (n1 := 96) b ch) = s (ValueIdx.ix2 (n0 := 2) (n1 := 96) b ch) + pix x b ch := by
  unfold k0_pay3
  rw [shapeCast_self]
  exact congrArg (s (ValueIdx.ix2 (n0 := 2) (n1 := 96) b ch) + ·) (pay1_at x b ch)

/-- The sums of a point's block, zero past the last point. -/
def pb (c : Dev nD) (b : Fin 2) (ch : Fin 96) (t : ℕ) : EReal :=
  if h : t < cfg0.N then pix (iblk m c 0 ⟨t, h⟩ : Vec Ideal S2x96x32x224 .f32) b ch else 0

/-- The accumulator after a point before the last: the sums of the blocks so far. -/
theorem acc_at (c : Dev nD) (b : Fin 2) (ch : Fin 96) : ∀ (n : ℕ) (hn : n < cfg0.N), n < 6 →
    ((outsAt0 m c n hn).2.2 : Vec Ideal S2x96 .f32) (ValueIdx.ix2 (n0 := 2) (n1 := 96) b ch) = ∑ t ∈ Finset.range (n + 1), pb m c b ch t := by
  intro n
  induction n with
  | zero =>
    intro hn _
    rw [outsAt0_A m c ⟨0, hn⟩ (Nat.zero_mod _) (show ¬1 ≤ 0 by decide) (show ¬0 % 7 = 6 by decide), soutA]
    refine (pay2_at _ b ch).trans ?_
    rw [Finset.sum_range_one, pb, dif_pos hn]
  | succ n ih =>
    intro hn h6
    rw [outsAt0_B m c ⟨n + 1, hn⟩ (show ¬(n + 1) % 7 = 0 by omega) (Nat.le_add_left 1 n) (show ¬(n + 1) % 7 = 6 by omega), soutB]
    refine (pay3_at _ _ b ch).trans ?_
    rw [Finset.sum_range_succ]
    refine congrArg₂ (· + ·) (ih _ (by omega)) ?_
    rw [pb, dif_pos hn]

/-- The sum over 224 rows, thirty-two at a time. -/
theorem rows_split (f : Fin 224 → EReal) : ∑ H : Fin 224, f H = ∑ t : Fin 7, ∑ h : Fin 32, f ⟨32 * t.val + h.val, by omega⟩ := by
  rw [← Finset.sum_product']
  symm
  refine Fintype.sum_equiv (finProdFinEquiv (m := 7) (n := 32)) _ (fun H : Fin (7 * 32) => f H) (fun q => congrArg f (Fin.ext ?_))
  show 32 * q.1.val + q.2.val = q.2.val + 32 * q.1.val
  omega

/-- The sums over the image's pixels are those of the seven blocks. -/
theorem pix_blocks (c : Dev nD) (b : Fin 2) (ch : Fin 96) : pix (A0 m c) b ch = ∑ t ∈ Finset.range 7, pb m c b ch t := by
  rw [Finset.sum_range]
  unfold pix
  rw [rows_split]
  refine Finset.sum_congr rfl fun t _ => ?_
  have ht : t.val < cfg0.N := lt_of_lt_of_eq t.isLt N_0.symm
  rw [pb, dif_pos ht]
  unfold pix
  refine Finset.sum_congr rfl fun h _ => Finset.sum_congr rfl fun w _ => ?_
  exact (blk0_at m c ⟨t.val, ht⟩ b ch h w ⟨32 * t.val + h.val, by omega⟩ rfl).symm

/-- The last point. -/
def tL : Fin cfg0.N := ⟨6, lt_of_lt_of_eq (by decide) N_0.symm⟩

/-- The sums the last point starts from. -/
def sL (c : Dev nD) : Vec Ideal S2x96 .f32 := (outsAt0 m c 5 (lt_of_lt_of_eq (by decide) N_0.symm)).2.2

/-- The sums the last point ends with: over the whole image. -/
theorem pool_at (c : Dev nD) (b : Fin 2) (ch : Fin 96) :
    k0_pay3 (F := Ideal) (iblk m c 0 tL) (sL m c) (ValueIdx.ix2 (n0 := 2) (n1 := 96) b ch) = pix (A0 m c) b ch := by
  rw [pix_blocks, Finset.sum_range_succ]
  refine (pay3_at _ _ b ch).trans (congrArg₂ (· + ·) (acc_at m c b ch 5 _ (by decide)) ?_)
  rw [pb, dif_pos (show 6 < cfg0.N from tL.isLt)]
  rfl

/-- The eight numbers of an image. -/
def lg (c : Dev nD) (b : Fin 2) : Fin 8 → EReal :=
  lgt (fun ch => pool (A0 m c) b ch) (fun j ch => A1 m c (ValueIdx.ix2 (n0 := 12) (n1 := 96) j ch)) (fun j => A2 m c (ValueIdx.ix1 (n := 12) j))
    (fun j => A3 m c (ValueIdx.ix1 (n := 12) j)) (fun e j => A4 m c (ValueIdx.ix2 (n0 := 8) (n1 := 12) e j)) (fun e => A5 m c (ValueIdx.ix1 (n := 8) e))
    (fun e => A6 m c (ValueIdx.ix1 (n := 8) e))

/-- The probabilities the last point computes. -/
def prL (c : Dev nD) : FVec Ideal S2x8 .f32 :=
  prob (iblk m c 0 tL) (iblk m c 1 tL) (iblk m c 2 tL) (iblk m c 3 tL) (iblk m c 4 tL) (iblk m c 5 tL) (iblk m c 6 tL) (sL m c)

theorem prL_at (c : Dev nD) (b : Fin 2) (e : Fin 8) : prL m c (ValueIdx.ix2 (n0 := 2) (n1 := 8) b e) = sm (lg m c b) e := by
  unfold prL prob
  refine (pay9_at (W1 := fun j ch => A1 m c (ValueIdx.ix2 (n0 := 12) (n1 := 96) j ch)) (g1 := fun j => A2 m c (ValueIdx.ix1 (n := 12) j))
    (b1 := fun j => A3 m c (ValueIdx.ix1 (n := 12) j)) (W2 := fun e j => A4 m c (ValueIdx.ix2 (n0 := 8) (n1 := 12) e j))
    (g2 := fun e => A5 m c (ValueIdx.ix1 (n := 8) e)) (b2 := fun e => A6 m c (ValueIdx.ix1 (n := 8) e))
    (fun ch j => blk1_at m c tL ch j) (fun j => blk2_at m c tL j) (fun j => blk3_at m c tL j) (fun j e => blk4_at m c tL j e)
    (fun e => blk5_at m c tL e) (fun e => blk6_at m c tL e) b e).trans ?_
  simp only [pool_at]
  rfl

/-- The chosen positions at an index. -/
theorem G7_at (c : Dev nD) (b : Fin 2) {p q : Fin 8} (h : Two (sm (lg m c b)) p q) (hp : ∀ k, -1 < sm (lg m c b) k) (k : Fin 2) :
    Value.G7 m c (ValueIdx.ix2 (n0 := 2) (n1 := 2) b k) = BitVec.ofNat 32 (if k = 0 then p else q).val := by
  rw [Value.G7_last, ← Value.outsAt0_sweep m c 6 (lt_of_lt_of_eq (by decide) N_0.symm)]
  refine (congrArg (fun z => z.1 (ValueIdx.ix2 (n0 := 2) (n1 := 2) b k)) (outsAt0_C m c tL (show ¬6 % 7 = 0 by decide) (show 1 ≤ 6 by decide) (show 6 % 7 = 6 by decide))).trans ?_
  dsimp only
  rw [outC7]
  exact pay7_at (fun k => prL_at m c b k) h hp k

/-- The chosen weights at an index. -/
theorem G8_at (c : Dev nD) (b : Fin 2) {p q : Fin 8} (h : Two (sm (lg m c b)) p q) (hp : ∀ k, -1 < sm (lg m c b) k) (k : Fin 2) :
    Value.G8 m c (ValueIdx.ix2 (n0 := 2) (n1 := 2) b k)
      = Ideal.div (sm (lg m c b) (if k = 0 then p else q)) (sm (lg m c b) p + sm (lg m c b) q + Ideal.ofBits .f32 0x358637BD#32) := by
  rw [Value.G8_last, ← Value.outsAt0_sweep m c 6 (lt_of_lt_of_eq (by decide) N_0.symm)]
  refine (congrArg (fun z => z.2.1 (ValueIdx.ix2 (n0 := 2) (n1 := 2) b k)) (outsAt0_C m c tL (show ¬6 % 7 = 0 by decide) (show 1 ≤ 6 by decide) (show 6 % 7 = 6 by decide))).trans ?_
  dsimp only
  rw [outC8]
  refine pay8_at (fun k => prL_at m c b k) h hp ?_ k
  rw [col_at, rowmax]
  refine Eq.trans (congrArg (Finset.univ.fold max ⊥) (funext fun k => prL_at m c b k)) ?_
  exact max_first h

end Cert.Rout.Kern

end
-- ==== Proof.Value.RoutRef.lean ====
/- The routing reference at an index: its operations, in order, compute the common description. -/
module

public import proofs.«01_k».proof.Proof.Value.RoutSpec
public import proofs.«01_k».proof.Proof.Gen.RoutingReferenceIdeal.Read
public import Idealize.ShloMosaic.PureOps.Reduce

@[expose] public section

set_option maxRecDepth 16384

noncomputable section

namespace Cert.Rout.Plain

open Cert.RoutingReferenceIdeal Cert.RoutingReferenceIdeal.Gen Cert.RoutingReferenceIdeal.Read Idealize.ShloMosaic Idealize.ShloMosaic.TcCoe
open Cert.KernelIdeal (rS rS_ne sqI sqI_eq)
open Cert.Spec (esilu)
open Cert.Rout

variable (x0 : FVec Ideal S2x96x224x224 .f32) (x1 : FVec Ideal S12x96 .f32) (x2 x3 : FVec Ideal S12 .f32) (x4 : FVec Ideal S8x12 .f32) (x5 x6 : FVec Ideal S8 .f32)

/-- The eight numbers of an image before the softmax, from the arguments. -/
def L (b : Fin 2) : Fin 8 → EReal :=
  lgt (fun c => pool x0 b c) (fun j c => x1 (ValueIdx.ix2 (n0 := 12) (n1 := 96) j c)) (fun j => x2 (ValueIdx.ix1 (n := 12) j)) (fun j => x3 (ValueIdx.ix1 (n := 12) j))
    (fun e j => x4 (ValueIdx.ix2 (n0 := 8) (n1 := 12) e j)) (fun e => x5 (ValueIdx.ix1 (n := 8) e)) (fun e => x6 (ValueIdx.ix1 (n := 8) e))

/-- The number of pixels. -/
theorem lit_n : Ideal.ofBits .f32 0x47440000#32 = ((50176 : ℝ) : EReal) := by
  simp [Ideal.ofBits, Ideal.ieee, -EReal.coe_mul]; norm_num

/-- The mean over the pixels. -/
theorem v2_at (b : Fin 2) (c : Fin 96) : val_main_v2 (F := Ideal) x0 (ValueIdx.ix2 (n0 := 2) (n1 := 96) b c) = pool x0 b c := by
  rw [val_main_v2_apply, val_main_v1_apply, val_main_cst_0_apply]
  show Ideal.div (val_main_v0 (F := Ideal) x0 _) (Ideal.ofBits .f32 0x47440000#32) = _
  rw [lit_n, Ideal.div_coe (by norm_num)]
  unfold pool val_main_v0
  congr 1
  simp only [Host.reduceAdd, Ideal.hostReduceAdd_def]
  unfold Ideal.hostReduceAdd
  rw [sum_drop x0 _ (fun i => ⟨Shape.ReducesTo.drop_apply_val_of_eq _ i 0 0, Shape.ReducesTo.drop_apply_val_of_eq _ i 1 1⟩) b c]
  exact (congrArg (· + _) Ideal.ofBits_zero_f32).trans (zero_add _)

/-- The first layer. -/
theorem v14_at (b : Fin 2) (j : Fin 12) : val_main_v14 (F := Ideal) x0 x1 x2 x3 (ValueIdx.ix2 (n0 := 2) (n1 := 12) b j)
    = hid (fun c => pool x0 b c) (fun j c => x1 (ValueIdx.ix2 (n0 := 12) (n1 := 96) j c)) (fun j => x2 (ValueIdx.ix1 (n := 12) j)) (fun j => x3 (ValueIdx.ix1 (n := 12) j)) j := by
  rw [val_main_v14_apply, val_main_v11_apply, val_main_v4_apply, val_main_v10_apply, val_main_v9_apply, val_main_v8_apply, val_main_v13_apply, val_main_v12_apply]
  refine congrArg₂ (· + ·) (congrArg₂ (· * ·) (Finset.sum_congr rfl fun c _ => congrArg₂ (· * ·) ?_ ?_) ?_) ?_
  · refine Eq.trans ?_ (v2_at x0 b c)
    exact congrArg _ (funext fun a => by fin_cases a <;> rfl)
  · rw [val_main_v3_apply]
    exact congrArg _ (funext fun a => by fin_cases a <;> rfl)
  · rw [val_main_v7_apply, val_main_v6_apply, val_main_v5_apply, val_main_cst_1_apply]
    refine congrArg (Ideal.div · sqI) (congrArg x2 (funext fun a => ?_))
    fin_cases a
    exact Fin.ext (by show 0 * 12 + j.val = j.val; omega)
  · refine congrArg x3 (funext fun a => ?_)
    fin_cases a
    exact Fin.ext (by show 0 * 12 + j.val = j.val; omega)

/-- The activation. -/
theorem v21_at (i : S2x12.Idx) : val_main_v21 (F := Ideal) x0 x1 x2 x3 i = esilu (val_main_v14 (F := Ideal) x0 x1 x2 x3 i) := by
  rw [val_main_v21_apply, val_main_v20_apply, val_main_v18_apply, val_main_v16_apply, val_main_v15_apply, val_main_v17_apply, val_main_v19_apply]
  generalize val_main_v14 (F := Ideal) x0 x1 x2 x3 i = y
  show y * Ideal.div (Ideal.ofBits .f32 0x3F800000#32) (Ideal.ofBits .f32 0x3F800000#32 + Ideal.exp (-y)) = esilu y
  rw [Ideal.ofBits_one_f32]
  rfl

/-- The second layer. -/
theorem v33_at (b : Fin 2) (e : Fin 8) : val_main_v33 (F := Ideal) x0 x1 x2 x3 x4 x5 x6 (ValueIdx.ix2 (n0 := 2) (n1 := 8) b e)
    = L x0 x1 x2 x3 x4 x5 x6 b e := by
  rw [val_main_v33_apply, val_main_v30_apply, val_main_v23_apply, val_main_v29_apply, val_main_v28_apply, val_main_v27_apply, val_main_v32_apply, val_main_v31_apply]
  refine congrArg₂ (· + ·) (congrArg₂ (· * ·) (Finset.sum_congr rfl fun j _ => congrArg₂ (· * ·) ?_ ?_) ?_) ?_
  · rw [v21_at]
    refine Eq.trans ?_ (congrArg esilu (v14_at x0 x1 x2 x3 b j))
    exact congrArg (fun i => esilu (val_main_v14 (F := Ideal) x0 x1 x2 x3 i)) (funext fun a => by fin_cases a <;> rfl)
  · rw [val_main_v22_apply]
    exact congrArg _ (funext fun a => by fin_cases a <;> rfl)
  · rw [val_main_v26_apply, val_main_v25_apply, val_main_v24_apply, val_main_cst_4_apply]
    refine congrArg (Ideal.div · sqI) (congrArg x5 (funext fun a => ?_))
    fin_cases a
    exact Fin.ext (by show 0 * 8 + e.val = e.val; omega)
  · refine congrArg x6 (funext fun a => ?_)
    fin_cases a
    exact Fin.ext (by show 0 * 8 + e.val = e.val; omega)

/-- The greatest of an image's eight numbers. -/
theorem v36_at (b : Fin 2) : val_main_v36 (F := Ideal) x0 x1 x2 x3 x4 x5 x6 (ValueIdx.ix1 (n := 2) b)
    = Finset.univ.fold max ⊥ (L x0 x1 x2 x3 x4 x5 x6 b) := by
  rw [val_main_v36_apply, val_main_v35_apply, val_main_cst_6_apply]
  have hbot : (FloatOps.ofBits .f32 0xFF800000#32 : Ideal .f32) = (⊥ : EReal) := by
    show Ideal.ofBits .f32 0xFF800000#32 = ⊥
    simp [Ideal.ofBits, Ideal.ieee]
  have h34 : val_main_v34 (F := Ideal) x0 x1 x2 x3 x4 x5 x6 (ValueIdx.ix1 (n := 2) b) = Finset.univ.fold max ⊥ (L x0 x1 x2 x3 x4 x5 x6 b) := by
    unfold val_main_v34
    have hv := v33_at x0 x1 x2 x3 x4 x5 x6 b
    generalize val_main_v33 (F := Ideal) x0 x1 x2 x3 x4 x5 x6 = y at hv ⊢
    have hf : Host.reduce (FloatOps.maximumf (F := Ideal) (φ := .f32)) y (val_main_cst_5 (F := Ideal)) reducesTo_S2x8_S2_d1 h_S_ (ValueIdx.ix1 (n := 2) b)
        = Finset.univ.fold (max : EReal → EReal → EReal) (FloatOps.ofBits (F := Ideal) .f32 0xFF800000#32)
          (y ∘ Shape.Reduces.lift (s := S2x8) (t := S2) (a := 1) (by decide) (ValueIdx.ix1 (n := 2) b)) :=
      Host.reduce_eq_fold_single (max : EReal → EReal → EReal) y (val_main_cst_5 (F := Ideal)) reducesTo_S2x8_S2_d1 (by decide) h_S_ (ValueIdx.ix1 (n := 2) b)
    rw [hf, hbot]
    refine congrArg (Finset.univ.fold max ⊥) (funext fun k => ?_)
    exact Eq.trans (congrArg y (funext fun a => by fin_cases a <;> rfl)) (hv k)
  rw [h34]
  show max (FloatOps.ofBits (F := Ideal) .f32 0xFF800000#32 : EReal) _ = _
  rw [hbot]
  exact max_eq_right bot_le

/-- The softmax. -/
theorem v44_at (b : Fin 2) (e : Fin 8) : val_main_v44 (F := Ideal) x0 x1 x2 x3 x4 x5 x6 (ValueIdx.ix2 (n0 := 2) (n1 := 8) b e)
    = sm (L x0 x1 x2 x3 x4 x5 x6 b) e := by
  have h40 : ∀ k : Fin 8, val_main_v40 (F := Ideal) x0 x1 x2 x3 x4 x5 x6 (ValueIdx.ix2 (n0 := 2) (n1 := 8) b k)
      = Ideal.exp (L x0 x1 x2 x3 x4 x5 x6 b k - Finset.univ.fold max ⊥ (L x0 x1 x2 x3 x4 x5 x6 b)) := fun k => by
    rw [val_main_v40_apply, val_main_v39_apply, val_main_v38_apply, val_main_v37_apply, v33_at, ← v36_at]
    exact congrArg (fun i => Ideal.exp (L x0 x1 x2 x3 x4 x5 x6 b k - val_main_v36 (F := Ideal) x0 x1 x2 x3 x4 x5 x6 i)) (funext fun a => by fin_cases a; rfl)
  rw [val_main_v44_apply, val_main_v43_apply, val_main_v42_apply, val_main_v41_apply, h40]
  unfold sm
  refine congrArg (Ideal.div _) ?_
  rw [val_main_cst_7_apply]
  refine ((congrArg (· + _) Ideal.ofBits_zero_f32).trans (zero_add _)).trans (Finset.sum_congr rfl fun k _ => ?_)
  rw [← h40]
  exact congrArg _ (funext fun a => by fin_cases a <;> rfl)

/-- The two greatest of a table's row, as the sort along the row gives them. -/
theorem topK_at (y : FVec Ideal S2x8 .f32) (b k : Fin 2) :
    (Host.topK S2x2 1 (FloatOps.cmpfTotal .gt) y sliceFits_S2x8_S2x2).1 (ValueIdx.ix2 (n0 := 2) (n1 := 2) b k)
        = y (ValueIdx.ix2 (n0 := 2) (n1 := 8) b (sortedFrom (before fun e => y (ValueIdx.ix2 (n0 := 2) (n1 := 8) b e)) (k.castLE (by decide))))
      ∧ (Host.topK S2x2 1 (FloatOps.cmpfTotal .gt) y sliceFits_S2x8_S2x2).2 (ValueIdx.ix2 (n0 := 2) (n1 := 2) b k)
        = BitVec.ofNat 32 (sortedFrom (before fun e => y (ValueIdx.ix2 (n0 := 2) (n1 := 8) b e)) (k.castLE (by decide))).val := by
  have hal : ∀ k' k'' : Fin 8, (ValueIdx.ix2 (n0 := 2) (n1 := 8) b k').along (1 : Fin 2) k'' = ValueIdx.ix2 (n0 := 2) (n1 := 8) b k'' := fun k' k'' => by
    funext a; fin_cases a <;> rfl
  unfold Host.topK
  dsimp only
  have hj : ∀ a : Fin 2, ((ValueIdx.ix2 (n0 := 2) (n1 := 8) b (k.castLE (by decide)) : S2x8.Idx) a).val
      = 0 + ((ValueIdx.ix2 (n0 := 2) (n1 := 2) b k : S2x2.Idx) (a.cast rfl)).val := fun a => by
    fin_cases a
    · exact (Nat.zero_add _).symm
    · exact (Nat.zero_add _).symm
  constructor
  · rw [extractStridedSlice_apply _ _ _ _ (ValueIdx.ix2 (n0 := 2) (n1 := 8) b (k.castLE (by decide))) hj]
    unfold Host.sort2
    rw [dif_pos (show 1 < S2x8.rank by decide)]
    exact (congrArg y (hal _ _)).trans (congrArg (fun q => y (ValueIdx.ix2 (n0 := 2) (n1 := 8) b (sortedFrom q (k.castLE (by decide)))))
      (funext fun u => funext fun v =>
        congrArg₂ (fun s t : S2x8.Idx => FloatOps.cmpfTotal .gt (y s) (y t) == 1#1) (hal _ u) (hal _ v)))
  · rw [extractStridedSlice_apply _ _ _ _ (ValueIdx.ix2 (n0 := 2) (n1 := 8) b (k.castLE (by decide))) hj]
    unfold Host.sort2
    rw [dif_pos (show 1 < S2x8.rank by decide)]
    exact (congrArg (fun i : S2x8.Idx => BitVec.ofNat 32 (i 1).val) (hal _ _)).trans (congrArg (fun q => BitVec.ofNat 32 (sortedFrom q (k.castLE (by decide) : Fin 8)).val)
      (funext fun u => funext fun v =>
        congrArg₂ (fun s t : S2x8.Idx => FloatOps.cmpfTotal .gt (y s) (y t) == 1#1) (hal _ u) (hal _ v)))

variable {x0 x1 x2 x3 x4 x5 x6}

/-- The softmax's table row by row. -/
theorem row_at (b : Fin 2) : (fun e => val_main_v44 (F := Ideal) x0 x1 x2 x3 x4 x5 x6 (ValueIdx.ix2 (n0 := 2) (n1 := 8) b e)) = sm (L x0 x1 x2 x3 x4 x5 x6 b) :=
  funext fun e => v44_at x0 x1 x2 x3 x4 x5 x6 b e

/-- The reference's indices are the positions of the two greatest. -/
theorem indices_at {b : Fin 2} {p q : Fin 8} (h : Two (sm (L x0 x1 x2 x3 x4 x5 x6 b)) p q) (k : Fin 2) :
    val_main_indices (F := Ideal) x0 x1 x2 x3 x4 x5 x6 (ValueIdx.ix2 (n0 := 2) (n1 := 2) b k) = BitVec.ofNat 32 (if k = 0 then p else q).val := by
  unfold val_main_indices
  rw [(topK_at _ b k).2, row_at]
  match k with
  | 0 => exact congrArg (fun e : Fin 8 => BitVec.ofNat 32 e.val) (sorted_two h).1
  | 1 => exact congrArg (fun e : Fin 8 => BitVec.ofNat 32 e.val) (sorted_two h).2

/-- The two greatest themselves. -/
theorem values_at {b : Fin 2} {p q : Fin 8} (h : Two (sm (L x0 x1 x2 x3 x4 x5 x6 b)) p q) (k : Fin 2) :
    val_main_values (F := Ideal) x0 x1 x2 x3 x4 x5 x6 (ValueIdx.ix2 (n0 := 2) (n1 := 2) b k) = sm (L x0 x1 x2 x3 x4 x5 x6 b) (if k = 0 then p else q) := by
  unfold val_main_values
  rw [(topK_at _ b k).1, row_at, v44_at]
  match k with
  | 0 => exact congrArg (sm _) (sorted_two h).1
  | 1 => exact congrArg (sm _) (sorted_two h).2

/-- The reference's weights: each of the two greatest over their sum and a small constant. -/
theorem v50_at {b : Fin 2} {p q : Fin 8} (h : Two (sm (L x0 x1 x2 x3 x4 x5 x6 b)) p q) (k : Fin 2) :
    val_main_v50 (F := Ideal) x0 x1 x2 x3 x4 x5 x6 (ValueIdx.ix2 (n0 := 2) (n1 := 2) b k)
      = Ideal.div (sm (L x0 x1 x2 x3 x4 x5 x6 b) (if k = 0 then p else q))
          (sm (L x0 x1 x2 x3 x4 x5 x6 b) p + sm (L x0 x1 x2 x3 x4 x5 x6 b) q + Ideal.ofBits .f32 0x358637BD#32) := by
  rw [val_main_v50_apply, val_main_v49_apply, val_main_v48_apply, val_main_v46_apply, val_main_v45_apply, val_main_v47_apply, val_main_cst_9_apply, values_at h]
  refine congrArg (Ideal.div _) (congrArg (· + Ideal.ofBits .f32 0x358637BD#32) ?_)
  refine ((congrArg (· + _) Ideal.ofBits_zero_f32).trans (zero_add _)).trans ?_
  rw [Fin.sum_univ_two]
  refine congrArg₂ (· + ·) ?_ ?_
  · exact Eq.trans (congrArg _ (funext fun a => by fin_cases a <;> rfl)) (values_at h 0)
  · exact Eq.trans (congrArg _ (funext fun a => by fin_cases a <;> rfl)) (values_at h 1)

end Cert.Rout.Plain
-- ==== Proof.Value.RoutEqual.lean ====
/- The routing call's claims: its frames, the named constant, and the equality of its results and the reference's. -/
module

public import proofs.«01_k».proof.Defs
public import proofs.«01_k».proof.Proof.Gen.Pre_weights_finite
public import proofs.«01_k».proof.Proof.Value.RoutPre
public import proofs.«01_k».proof.Proof.Value.RoutFold
public import proofs.«01_k».proof.Proof.Value.RoutRef
public import proofs.«01_k».proof.Proof.Gen.RoutingIdeal.Frame

@[expose] public section

noncomputable section

namespace Cert.Proof

open Idealize.ShloMosaic Idealize.SL.Sem
open Cert.Rout

attribute [local instance] Cert.RoutingIdeal.Gen.facts Cert.RoutingReferenceIdeal.Gen.facts Cert.Pre_weights_finite.Gen.facts

/-- The routing kernel's frame at the extended reals. -/
theorem frame_routing_ideal : Cert.quiescent_RoutingIdeal := fun m g _ => Cert.RoutingIdeal.Gen.frame m g

/-- The same under `weights_finite`. -/
theorem frame_routing_ideal_finite : Cert.quiescent_RoutingIdeal_pre_weights_finite := fun m g _ => Cert.RoutingIdeal.Gen.frame m g

/-- The routing reference's frame. -/
theorem frame_routing_reference : Cert.quiescent_RoutingReferenceIdeal := fun m g _ =>
  (θ_run Cert.RoutingReferenceIdeal.defs _ _).mono (fun r h => ⟨fun c => (h c).2.2,
      Idealize.ShloMosaic.sem_eq_zero_of_no_sems (by decide) r.2⟩)
    (Cert.RoutingReferenceIdeal.Value.run (F := Ideal) m g)

/-- The same under `weights_finite`. -/
theorem frame_routing_reference_finite : Cert.quiescent_RoutingReferenceIdeal_pre_weights_finite := fun m g _ =>
  frame_routing_reference m g trivial

/-- The named constant is the fraction it stands for. -/
theorem named_inv_n : Cert.preserves_Routing_RoutingIdeal :=
  IdealRules.named_const.statement Cert.RoutingIdeal.κ "inv_n" .f32 0x37A72F05#32 ((1 / 50176 : ℝ) : EReal) rfl

/-- An array whose elements compare below the format's infinity holds real numbers. -/
theorem real_of_below {s : Shape} {x : FVec Ideal s .f32} (h : Cert.Pre.Below x) (y : s.Idx) : IsR (x y) := Cert.Pre.real_of_lt _ (h y)

section
variable {m : (ℓ : Loc Cert.RoutingIdeal.nD Cert.RoutingIdeal.τ Cert.RoutingIdeal.sig) → Buf (Elt Ideal) ℓ} (h : Cert.Pre_RoutingIdeal_weights_finite m)
include h

/-- Under `weights_finite` an image's eight numbers are real. -/
theorem lg_real (c : Dev Cert.RoutingIdeal.nD) (b : Fin 2) (e : Fin 8) : IsR (Kern.lg m c b e) := by
  obtain ⟨h0, h1, h2, h3, h4, h5, h6⟩ := Cert.Pre.weights_split (h c)
  exact lgt_real (fun ch => (IsR.sum fun y => IsR.sum fun x => real_of_below h0 _).mul ⟨_, rfl⟩) (fun j ch => real_of_below h1 _)
    (fun j => real_of_below h2 _) (fun j => real_of_below h3 _) (fun e j => real_of_below h4 _) (fun e => real_of_below h5 _)
    (fun e => real_of_below h6 _) e

end

/-- A two by two table at its own coordinates. -/
theorem ext_two {α : Type} {f g : (⟨2, ![2, 2]⟩ : Shape).Idx → α}
    (h : ∀ b k : Fin 2, f (ValueIdx.ix2 (n0 := 2) (n1 := 2) b k) = g (ValueIdx.ix2 (n0 := 2) (n1 := 2) b k)) : f = g := by
  funext i
  have hi : i = ValueIdx.ix2 (n0 := 2) (n1 := 2) (i 0) (i 1) := funext fun a => by fin_cases a <;> rfl
  rw [hi]
  exact h _ _

/-- The routing kernel and its reference, started with the same arguments, end with the same results. -/
theorem equal_routing : Cert.algebraic_RoutingIdeal_RoutingReferenceIdeal_pre_weights_finite := fun m g m' g' h hag =>
  ⟨fun c => Cert.RoutingIdeal.Value.G7 m c, fun c => Cert.RoutingIdeal.Value.G8 m c, Cert.RoutingIdeal.Value.run m g,
    (θ_run Cert.RoutingReferenceIdeal.defs _ _).mono (fun r hr c => by
        obtain ⟨a0, a1, a2, a3, a4, a5, a6⟩ := hag c
        have hp : ∀ (b : Fin 2) k, -1 < sm (Kern.lg m c b) k := fun b => sm_gt (lg_real h c b)
        refine ⟨((hr c).1.trans (Cert.RoutingReferenceIdeal.Read.val_main_indices_eq m' c)).trans ?_,
          ((hr c).2.1.trans (Cert.RoutingReferenceIdeal.Read.val_main_v50_eq m' c)).trans ?_, (hr c).2.2⟩
        · rw [a0, a1, a2, a3, a4, a5, a6]
          refine ext_two fun b k => ?_
          obtain ⟨p, q, hpq⟩ := exists_two (sm (Kern.lg m c b))
          exact (Plain.indices_at (x0 := Kern.A0 m c) (x1 := Kern.A1 m c) (x2 := Kern.A2 m c) (x3 := Kern.A3 m c) (x4 := Kern.A4 m c) (x5 := Kern.A5 m c) (x6 := Kern.A6 m c) (b := b) hpq k).trans (Kern.G7_at m c b hpq (hp b) k).symm
        · rw [a0, a1, a2, a3, a4, a5, a6]
          refine ext_two fun b k => ?_
          obtain ⟨p, q, hpq⟩ := exists_two (sm (Kern.lg m c b))
          exact (Plain.v50_at (x0 := Kern.A0 m c) (x1 := Kern.A1 m c) (x2 := Kern.A2 m c) (x3 := Kern.A3 m c) (x4 := Kern.A4 m c) (x5 := Kern.A5 m c) (x6 := Kern.A6 m c) (b := b) hpq k).trans (Kern.G8_at m c b hpq (hp b) k).symm)
      (Cert.RoutingReferenceIdeal.Value.run (F := Ideal) m' g')⟩

end Cert.Proof

end
-- ==== Proof.lean ====
module

public import proofs.«01_k».proof.Defs
public import proofs.«01_k».proof.Proof.Frames
public import proofs.«01_k».proof.Proof.Gen.Pre_finite
public import proofs.«01_k».proof.Proof.Gen.Pre_weights_finite
public import proofs.«01_k».proof.Proof.Value.Equal
public import proofs.«01_k».proof.Proof.Value.RoutEqual
public import proofs.«01_k».proof.Proof.Gen.RoutingIdeal.Value
public import proofs.«01_k».proof.Proof.Gen.RoutingIdeal.Frame
public import proofs.«01_k».proof.Proof.Gen.RoutingReferenceIdeal.Run
public import proofs.«01_k».proof.Proof.Gen.RoutingReferenceIdeal.Read
public import Idealize.ShloMosaic.Adequacy
public import Idealize.ShloMosaic.Init

@[expose] public section

noncomputable section

namespace Cert.Proof

open Idealize.ShloMosaic Idealize.SL.Sem

/-- Everything claimed. -/
theorem claim : Cert.Claim :=
  ⟨Cert.Kernel.Gen.facts, Cert.KernelIdeal.Gen.facts, Cert.ReferenceIdeal.Gen.facts, Cert.Routing.Gen.facts,
    Cert.RoutingIdeal.Gen.facts, Cert.RoutingReferenceIdeal.Gen.facts, Cert.Pre_in_range.Gen.facts, Cert.Pre_finite.Gen.facts,
    Cert.Pre_weights_finite.Gen.facts, frame_kernel, frame_ideal, frame_ideal_finite, frame_reference,
    frame_reference_finite, frame_routing, frame_routing_ideal, frame_routing_ideal_finite, frame_routing_reference,
    frame_routing_reference_finite, trivial, equal_results, named_inv_n, equal_routing⟩

end Cert.Proof

end
